-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)) (v5 : (c : Dev Cert.Kernel2Ideal.nD) → Buf (Elt Ideal) ((c.tc : Thread Cert.Kernel2Ideal.nD Cert.Kernel2Ideal.τ).loc Cert.Kernel2Ideal.main_v0_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_v0_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_v50) = v1 c
          ∧ r.2.mem ((c.tc : Thread Cert.Reference2Ideal.nD Cert.Reference2Ideal.τ).loc Cert.Reference2Ideal.main_v52) = v2 c
          ∧ r.2.mem ((c.tc : Thread Cert.Reference2Ideal.nD Cert.Reference2Ideal.τ).loc Cert.Reference2Ideal.main_v53) = v3 c
          ∧ r.2.mem ((c.tc : Thread Cert.Reference2Ideal.nD Cert.Reference2Ideal.τ).loc Cert.Reference2Ideal.main_v55) = v4 c
          ∧ r.2.mem ((c.tc : Thread Cert.Reference2Ideal.nD Cert.Reference2Ideal.τ).loc Cert.Reference2Ideal.main_v62) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v79) = v0 c
          ∧ r.2.mem ((c.tc : Thread Cert.Reference4Ideal.nD Cert.Reference4Ideal.τ).loc Cert.Reference4Ideal.main_v80) = v1 c
          ∧ r.2.mem ((c.tc : Thread Cert.Reference4Ideal.nD Cert.Reference4Ideal.τ).loc Cert.Reference4Ideal.main_v81) = v2 c
          ∧ r.2.mem ((c.tc : Thread Cert.Reference4Ideal.nD Cert.Reference4Ideal.τ).loc Cert.Reference4Ideal.main_v82) = v3 c
          ∧ r.2.mem ((c.tc : Thread Cert.Reference4Ideal.nD Cert.Reference4Ideal.τ).loc Cert.Reference4Ideal.main_v83) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v81) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_args.lean ====
abbrev S8x4096x1024 : Shape := ⟨3, ![8, 4096, 1024]⟩
abbrev S8x4096x128 : Shape := ⟨3, ![8, 4096, 128]⟩
abbrev S1x1x128 : Shape := ⟨3, ![1, 1, 128]⟩
abbrev S1x128 : Shape := ⟨2, ![1, 128]⟩
abbrev S_ : Shape := ⟨0, ![]⟩
abbrev S8x4096x8 : Shape := ⟨3, ![8, 4096, 8]⟩
abbrev S1x1x8 : Shape := ⟨3, ![1, 1, 8]⟩

class Facts : Prop where
  bitsLt_bf16_f32 : FTy.bits .bf16 < FTy.bits .f32
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  slices_S8x4096x128_S8x4096x8_0_0_64 : S8x4096x128.Slices ![0, 0, 64] S8x4096x8
  bcast_S_S8x4096x8 : S_.BroadcastsInDim S8x4096x8 (![] : Fin 0 → Fin S8x4096x8.rank)
  reducesTo_S8x4096x8_S_d0_1_2 : S8x4096x8.ReducesTo [0, 1, 2] S_
  slices_S1x1x128_S1x1x8_0_0_64 : S1x1x128.Slices ![0, 0, 64] S1x1x8
  bcast_S_S1x1x8 : S_.BroadcastsInDim S1x1x8 (![] : Fin 0 → Fin S1x1x8.rank)
  reducesTo_S1x1x8_S_d0_1_2 : S1x1x8.ReducesTo [0, 1, 2] S_

variable [Facts]

def fn_part1 {F : FTy → Type} [FloatOps F] (main_arg5 : FVec F S1x1x128 .f32) (main_arg6 : FVec F S1x1x128 .f32) (main_v16 : IVec S_ 1) (main_v17 : FVec F S8x4096x8 .f32) : IVec S_ 1 :=
  let main_v18 : FVec F S8x4096x8 .f32 := Host.absf main_v17
  let main_cst_4 : FVec F S_ .f32 := constant S_ .f32 0x7F800000#32
  let main_v19 : FVec F S8x4096x8 .f32 := broadcastInDim S8x4096x8 ![] bcast_S_S8x4096x8 main_cst_4
  let main_v20 : IVec S8x4096x8 1 := cmpf .olt main_v18 main_v19
  let main_c_5 : IVec S_ 1 := constantI S_ 1 1#1
  let main_v21 : IVec S_ 1 := (fun x v => Host.reduce IntOp.andi x v reducesTo_S8x4096x8_S_d0_1_2 h_S_) main_v20 main_c_5
  let main_v22 : IVec S_ 1 := andi main_v16 main_v21
  let main_v23 : FVec F S1x1x8 .f32 := (extractStridedSlice S1x1x8 ![0, 0, 64] · slices_S1x1x128_S1x1x8_0_0_64) main_arg5
  let main_v24 : FVec F S1x1x8 .f32 := Host.absf main_v23
  let main_cst_6 : FVec F S_ .f32 := constant S_ .f32 0x7F800000#32
  let main_v25 : FVec F S1x1x8 .f32 := broadcastInDim S1x1x8 ![] bcast_S_S1x1x8 main_cst_6
  let main_v26 : IVec S1x1x8 1 := cmpf .olt main_v24 main_v25
  let main_c_7 : IVec S_ 1 := constantI S_ 1 1#1
  let main_v27 : IVec S_ 1 := (fun x v => Host.reduce IntOp.andi x v reducesTo_S1x1x8_S_d0_1_2 h_S_) main_v26 main_c_7
  let main_v28 : IVec S_ 1 := andi main_v22 main_v27
  let main_v29 : FVec F S1x1x8 .f32 := (extractStridedSlice S1x1x8 ![0, 0, 64] · slices_S1x1x128_S1x1x8_0_0_64) main_arg6
  let main_v30 : FVec F S1x1x8 .f32 := Host.absf main_v29
  let main_cst_8 : FVec F S_ .f32 := constant S_ .f32 0x7F800000#32
  let main_v31 : FVec F S1x1x8 .f32 := broadcastInDim S1x1x8 ![] bcast_S_S1x1x8 main_cst_8
  let main_v32 : IVec S1x1x8 1 := cmpf .olt main_v30 main_v31
  let main_c_9 : IVec S_ 1 := constantI S_ 1 1#1
  let main_v33 : IVec S_ 1 := (fun x v => Host.reduce IntOp.andi x v reducesTo_S1x1x8_S_d0_1_2 h_S_) main_v32 main_c_9
  let main_v34 : IVec S_ 1 := andi main_v28 main_v33
  main_v34

def fn {F : FTy → Type} [FloatOps F] (main_arg0 : FVec F S8x4096x1024 .bf16) (main_arg1 : FVec F S8x4096x1024 .bf16) (main_arg2 : FVec F S8x4096x1024 .bf16) (main_arg3 : FVec F S8x4096x1024 .bf16) (main_arg4 : FVec F S8x4096x128 .f32) (main_arg5 : FVec F S1x1x128 .f32) (main_arg6 : FVec F S1x1x128 .f32) (main_arg7 : FVec F S1x128 .f32) : IVec S_ 1 :=
  let main_v0 : FVec F S8x4096x1024 .f32 := (extf .f32 · bitsLt_bf16_f32) main_arg0
  let main_v1 : FVec F S8x4096x1024 .f32 := Host.absf main_v0
  let main_cst : FVec F S_ .f32 := constant S_ .f32 0x7F800000#32
  let main_v2 : FVec F S8x4096x1024 .f32 := broadcastInDim S8x4096x1024 ![] bcast_S_S8x4096x1024 main_cst
  let main_v3 : IVec S8x4096x1024 1 := cmpf .olt main_v1 main_v2
  let main_c : IVec S_ 1 := constantI S_ 1 1#1
  let main_v4 : IVec S_ 1 := (fun x v => Host.reduce IntOp.andi x v reducesTo_S8x4096x1024_S_d0_1_2 h_S_) main_v3 main_c
  let main_v5 : FVec F S8x4096x1024 .f32 := (extf .f32 · bitsLt_bf16_f32) main_arg1
  let main_v6 : FVec F S8x4096x1024 .f32 := Host.absf main_v5
  let main_cst_0 : FVec F S_ .f32 := constant S_ .f32 0x7F800000#32
  let main_v7 : FVec F S8x4096x1024 .f32 := broadcastInDim S8x4096x1024 ![] bcast_S_S8x4096x1024 main_cst_0
  let main_v8 : IVec S8x4096x1024 1 := cmpf .olt main_v6 main_v7
  let main_c_1 : IVec S_ 1 := constantI S_ 1 1#1
  let main_v9 : IVec S_ 1 := (fun x v => Host.reduce IntOp.andi x v reducesTo_S8x4096x1024_S_d0_1_2 h_S_) main_v8 main_c_1
  let main_v10 : IVec S_ 1 := andi main_v4 main_v9
  let main_v11 : FVec F S8x4096x1024 .f32 := (extf .f32 · bitsLt_bf16_f32) main_arg2
  let main_v12 : FVec F S8x4096x1024 .f32 := Host.absf main_v11
  let main_cst_2 : FVec F S_ .f32 := constant S_ .f32 0x7F800000#32
  let main_v13 : FVec F S8x4096x1024 .f32 := broadcastInDim S8x4096x1024 ![] bcast_S_S8x4096x1024 main_cst_2
  let main_v14 : IVec S8x4096x1024 1 := cmpf .olt main_v12 main_v13
  let main_c_3 : IVec S_ 1 := constantI S_ 1 1#1
  let main_v15 : IVec S_ 1 := (fun x v => Host.reduce IntOp.andi x v reducesTo_S8x4096x1024_S_d0_1_2 h_S_) main_v14 main_c_3
  let main_v16 : IVec S_ 1 := andi main_v10 main_v15
  let main_v17 : FVec F S8x4096x8 .f32 := (extractStridedSlice S8x4096x8 ![0, 0, 64] · slices_S8x4096x128_S8x4096x8_0_0_64) main_arg4
  fn_part1 (F := F) main_arg5 main_arg6 main_v16 main_v17
-- ==== Kernel.lean ====
abbrev S8x4096x1024 : Shape := ⟨3, ![8, 4096, 1024]⟩
abbrev S8x4096x128 : Shape := ⟨3, ![8, 4096, 128]⟩
abbrev S1x1x128 : Shape := ⟨3, ![1, 1, 128]⟩
abbrev S1x128 : Shape := ⟨2, ![1, 128]⟩
abbrev S1x256x1024 : Shape := ⟨3, ![1, 256, 1024]⟩
abbrev S1x256x128 : Shape := ⟨3, ![1, 256, 128]⟩
abbrev S8x128x128 : Shape := ⟨3, ![8, 128, 128]⟩
abbrev S256x1024 : Shape := ⟨2, ![256, 1024]⟩
abbrev S256x128 : Shape := ⟨2, ![256, 128]⟩
abbrev S64x128 : Shape := ⟨2, ![64, 128]⟩
abbrev S128x64 : Shape := ⟨2, ![128, 64]⟩
abbrev S64x64 : Shape := ⟨2, ![64, 64]⟩
abbrev S64x1 : Shape := ⟨2, ![64, 1]⟩
abbrev S1x64 : Shape := ⟨2, ![1, 64]⟩
abbrev S128x128 : Shape := ⟨2, ![128, 128]⟩
abbrev S64x256 : Shape := ⟨2, ![64, 256]⟩
abbrev S1x128x128 : Shape := ⟨3, ![1, 128, 128]⟩
abbrev S192x64 : Shape := ⟨2, ![192, 64]⟩
abbrev S192x128 : Shape := ⟨2, ![192, 128]⟩
abbrev S1x1 : Shape := ⟨2, ![1, 1]⟩
abbrev S64 : Shape := ⟨1, ![64]⟩
abbrev S1x64x128 : Shape := ⟨3, ![1, 64, 128]⟩

abbrev nBuf : Space → Nat
  | .hbm => 9
  | .vmem => 16
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4096x1024, .bf16⟩
  | .hbm, ⟨3, _⟩ => ⟨S8x4096x1024, .bf16⟩
  | .hbm, ⟨4, _⟩ => ⟨S8x4096x128, .f32⟩
  | .hbm, ⟨5, _⟩ => ⟨S1x1x128, .f32⟩
  | .hbm, ⟨6, _⟩ => ⟨S1x1x128, .f32⟩
  | .hbm, ⟨7, _⟩ => ⟨S1x128, .f32⟩
  | .hbm, ⟨8, _⟩ => ⟨S8x4096x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x128, .f32⟩
  | .local _ .vmem, ⟨9, _⟩ => ⟨S1x256x128, .f32⟩
  | .local _ .vmem, ⟨10, _⟩ => ⟨S1x1x128, .f32⟩
  | .local _ .vmem, ⟨11, _⟩ => ⟨S1x1x128, .f32⟩
  | .local _ .vmem, ⟨12, _⟩ => ⟨S1x128, .f32⟩
  | .local _ .vmem, ⟨13, _⟩ => ⟨S1x256x1024, .bf16⟩
  | .local _ .vmem, ⟨14, _⟩ => ⟨S1x256x1024, .bf16⟩
  | .local _ .vmem, ⟨15, _⟩ => ⟨S8x128x128, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![8, 1, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S8x4096x1024 : Shape := ⟨3, ![8, 4096, 1024]⟩
abbrev S8x4096x128 : Shape := ⟨3, ![8, 4096, 128]⟩
abbrev S1x1x128 : Shape := ⟨3, ![1, 1, 128]⟩
abbrev S1x128 : Shape := ⟨2, ![1, 128]⟩
abbrev S8x4096x8x128 : Shape := ⟨4, ![8, 4096, 8, 128]⟩
abbrev S8x4096x8 : Shape := ⟨3, ![8, 4096, 8]⟩
abbrev S1x1x8 : Shape := ⟨3, ![1, 1, 8]⟩
abbrev S8 : Shape := ⟨1, ![8]⟩
abbrev S_ : Shape := ⟨0, ![]⟩
abbrev S4096x8x8x128 : Shape := ⟨4, ![4096, 8, 8, 128]⟩
abbrev S4096x8x8 : Shape := ⟨3, ![4096, 8, 8]⟩
abbrev S8x8x128x128 : Shape := ⟨4, ![8, 8, 128, 128]⟩
abbrev S1x8x8x128 : Shape := ⟨4, ![1, 8, 8, 128]⟩
abbrev S8x8x128 : Shape := ⟨3, ![8, 8, 128]⟩
abbrev S1x8x8 : Shape := ⟨3, ![1, 8, 8]⟩
abbrev S8x8 : Shape := ⟨2, ![8, 8]⟩
abbrev S8x8x1 : Shape := ⟨3, ![8, 8, 1]⟩
abbrev S8x8x1x1 : Shape := ⟨4, ![8, 8, 1, 1]⟩
abbrev S8x8x128x1 : Shape := ⟨4, ![8, 8, 128, 1]⟩
abbrev S8x8x1x128 : Shape := ⟨4, ![8, 8, 1, 128]⟩
abbrev S8x4096x8x1 : Shape := ⟨4, ![8, 4096, 8, 1]⟩
abbrev S128 : Shape := ⟨1, ![128]⟩
abbrev S1x1x1x128 : Shape := ⟨4, ![1, 1, 1, 128]⟩

abbrev nBuf : Space → Nat
  | .hbm => 153
  | .vmem => 0
  | .smem => 0
  | _ => 0

abbrev hbmTy0_0 (i : Nat) : BufTy := match i % 128 with
  | 0 => ⟨S8x4096x1024, .bf16⟩
  | 1 => ⟨S8x4096x1024, .bf16⟩
  | 2 => ⟨S8x4096x1024, .bf16⟩
  | 3 => ⟨S8x4096x1024, .bf16⟩
  | 4 => ⟨S8x4096x128, .f32⟩
  | 5 => ⟨S1x1x128, .f32⟩
  | 6 => ⟨S1x1x128, .f32⟩
  | 7 => ⟨S1x128, .f32⟩
  | 8 => ⟨S8x4096x1024, .f32⟩
  | 9 => ⟨S8x4096x8x128, .f32⟩
  | 10 => ⟨S8x4096x1024, .f32⟩
  | 11 => ⟨S8x4096x8x128, .f32⟩
  | 12 => ⟨S8x4096x1024, .f32⟩
  | 13 => ⟨S8x4096x8x128, .f32⟩
  | 14 => ⟨S8x4096x8, .f32⟩
  | 15 => ⟨S8x4096x8, .f32⟩
  | 16 => ⟨S1x1x8, .f32⟩
  | 17 => ⟨S8, .f32⟩
  | 18 => ⟨S1x1x8, .f32⟩
  | 19 => ⟨S8, .f32⟩
  | 20 => ⟨S8x4096x8, .f32⟩
  | 21 => ⟨S8x4096x8, .f32⟩
  | 22 => ⟨S_, .f32⟩
  | 23 => ⟨S8x4096x8, .f32⟩
  | 24 => ⟨S8x4096x8, .f32⟩
  | 25 => ⟨S_, .f32⟩
  | 26 => ⟨S8x4096x8, .f32⟩
  | 27 => ⟨S8x4096x8, .f32⟩
  | 28 => ⟨S8, .f32⟩
  | 29 => ⟨S8, .f32⟩
  | 30 => ⟨S1x1x8, .f32⟩
  | 31 => ⟨S8x4096x8, .f32⟩
  | 32 => ⟨S8x4096x8, .f32⟩
  | 33 => ⟨S_, .f32⟩
  | 34 => ⟨S8x4096x8, .f32⟩
  | 35 => ⟨S8x4096x8, .f32⟩
  | 36 => ⟨S8x4096x8, .f32⟩
  | 37 => ⟨S8x4096x8, .f32⟩
  | 38 => ⟨S8x4096x8, .i1⟩
  | 39 => ⟨S8x4096x8, .f32⟩
  | 40 => ⟨S8x4096x8, .f32⟩
  | 41 => ⟨S8x4096x8, .f32⟩
  | 42 => ⟨S8x4096x8, .f32⟩
  | 43 => ⟨S8x4096x8, .f32⟩
  | 44 => ⟨S8x4096x8, .f32⟩
  | 45 => ⟨S8x4096x8, .f32⟩
  | 46 => ⟨S8x4096x8, .f32⟩
  | 47 => ⟨S1x1x8, .f32⟩
  | 48 => ⟨S8x4096x8, .f32⟩
  | 49 => ⟨S8x4096x8, .f32⟩
  | 50 => ⟨S8x4096x8, .f32⟩
  | 51 => ⟨S4096x8x8x128, .f32⟩
  | 52 => ⟨S4096x8x8x128, .f32⟩
  | 53 => ⟨S4096x8x8x128, .f32⟩
  | 54 => ⟨S4096x8x8, .f32⟩
  | 55 => ⟨S4096x8x8, .f32⟩
  | 56 => ⟨S_, .f32⟩
  | 57 => ⟨S8x8x128x128, .f32⟩
  | 58 => ⟨S_, .f32⟩
  | 59 => ⟨S4096x8x8x128, .f32⟩
  | 60 => ⟨S_, .i32⟩
  | 61 => ⟨S4096x8x8x128, .f32⟩
  | 62 => ⟨S4096x8x8x128, .f32⟩
  | 63 => ⟨S4096x8x8x128, .f32⟩
  | 64 => ⟨S4096x8x8, .f32⟩
  | 65 => ⟨S4096x8x8, .f32⟩
  | 66 => ⟨S_, .i32⟩
  | 67 => ⟨S8x8x128x128, .f32⟩
  | 68 => ⟨S4096x8x8x128, .f32⟩
  | 69 => ⟨S_, .i32⟩
  | 70 => ⟨S_, .i1⟩
  | 71 => ⟨S_, .i32⟩
  | 72 => ⟨S_, .i32⟩
  | 73 => ⟨S_, .i32⟩
  | 74 => ⟨S1x8x8x128, .f32⟩
  | 75 => ⟨S8x8x128, .f32⟩
  | 76 => ⟨S_, .i32⟩
  | 77 => ⟨S_, .i32⟩
  | 78 => ⟨S_, .i32⟩
  | 79 => ⟨S1x8x8x128, .f32⟩
  | 80 => ⟨S8x8x128, .f32⟩
  | 81 => ⟨S_, .i32⟩
  | 82 => ⟨S_, .i32⟩
  | 83 => ⟨S_, .i32⟩
  | 84 => ⟨S1x8x8x128, .f32⟩
  | 85 => ⟨S8x8x128, .f32⟩
  | 86 => ⟨S_, .i32⟩
  | 87 => ⟨S_, .i32⟩
  | 88 => ⟨S1x8x8, .f32⟩
  | 89 => ⟨S8x8, .f32⟩
  | 90 => ⟨S_, .i32⟩
  | 91 => ⟨S_, .i32⟩
  | 92 => ⟨S1x8x8, .f32⟩
  | 93 => ⟨S8x8, .f32⟩
  | 94 => ⟨S8x8x128, .f32⟩
  | 95 => ⟨S8x8x1, .f32⟩
  | 96 => ⟨S8x8x128, .f32⟩
  | 97 => ⟨S8x8x128, .f32⟩
  | 98 => ⟨S8x8x1x1, .f32⟩
  | 99 => ⟨S8x8x128x1, .f32⟩
  | 100 => ⟨S8x8x1x128, .f32⟩
  | 101 => ⟨S8x8x128x128, .f32⟩
  | 102 => ⟨S8x8x128x128, .f32⟩
  | 103 => ⟨S8x8x128x128, .f32⟩
  | 104 => ⟨S8x8x128x128, .f32⟩
  | 105 => ⟨S8x8x128x128, .f32⟩
  | 106 => ⟨S8x8x128x128, .f32⟩
  | 107 => ⟨S8x8x128x1, .f32⟩
  | 108 => ⟨S8x8x1x128, .f32⟩
  | 109 => ⟨S8x8x128x128, .f32⟩
  | 110 => ⟨S8x8x128x128, .f32⟩
  | 111 => ⟨S8x8x128x128, .f32⟩
  | 112 => ⟨S8x8x128x128, .f32⟩
  | 113 => ⟨S8x8x128, .f32⟩
  | 114 => ⟨S1x8x8x128, .f32⟩
  | 115 => ⟨S_, .i32⟩
  | 116 => ⟨S_, .i32⟩
  | 117 => ⟨S_, .i32⟩
  | 118 => ⟨S4096x8x8x128, .f32⟩
  | 119 => ⟨S_, .i32⟩
  | 120 => ⟨S_, .i32⟩
  | 121 => ⟨S8x4096x8x128, .f32⟩
  | 122 => ⟨S8x4096x1024, .f32⟩
  | 123 => ⟨S8x4096x8x128, .f32⟩
  | 124 => ⟨S8x4096x8x128, .f32⟩
  | 125 => ⟨S_, .f32⟩
  | 126 => ⟨S8x4096x8, .f32⟩
  | 127 => ⟨S8x4096x8x1, .f32⟩
  | _ => ⟨S8x4096x1024, .bf16⟩

abbrev hbmTy0_1 (i : Nat) : BufTy := match i % 128 with
  | 0 => ⟨S_, .f32⟩
  | 1 => ⟨S8x4096x8x1, .f32⟩
  | 2 => ⟨S8x4096x8x1, .f32⟩
  | 3 => ⟨S_, .f32⟩
  | 4 => ⟨S8x4096x8x1, .f32⟩
  | 5 => ⟨S8x4096x8x1, .f32⟩
  | 6 => ⟨S8x4096x8x1, .f32⟩
  | 7 => ⟨S8x4096x8x128, .f32⟩
  | 8 => ⟨S8x4096x8x128, .f32⟩
  | 9 => ⟨S128, .f32⟩
  | 10 => ⟨S1x1x1x128, .f32⟩
  | 11 => ⟨S8x4096x8x128, .f32⟩
  | 12 => ⟨S8x4096x8x128, .f32⟩
  | 13 => ⟨S8x4096x8x128, .f32⟩
  | 14 => ⟨S8x4096x8x128, .f32⟩
  | 15 => ⟨S_, .f32⟩
  | 16 => ⟨S8x4096x8x128, .f32⟩
  | 17 => ⟨S8x4096x8x128, .f32⟩
  | 18 => ⟨S_, .f32⟩
  | 19 => ⟨S8x4096x8x128, .f32⟩
  | 20 => ⟨S8x4096x8x128, .f32⟩
  | 21 => ⟨S8x4096x8x128, .f32⟩
  | 22 => ⟨S8x4096x8x128, .f32⟩
  | 23 => ⟨S8x4096x8x128, .bf16⟩
  | 24 => ⟨S8x4096x1024, .bf16⟩
  | _ => ⟨S8x4096x1024, .bf16⟩

abbrev hbmTy (i : Nat) : BufTy := match i / 128 with
  | 0 => hbmTy0_0 i
  | 1 => hbmTy0_1 i
  | _ => ⟨S8x4096x1024, .bf16⟩

abbrev bufTy : (tb : Table) → Fin (tcTables nBuf tb) → BufTy
  | .hbm, ⟨i, _⟩ => hbmTy i
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_1 : Ref sig .tc := ⟨.hbm, 56, rfl⟩
abbrev main_v33 : Ref sig .tc := ⟨.hbm, 57, rfl⟩
abbrev main_cst_2 : Ref sig .tc := ⟨.hbm, 58, rfl⟩
abbrev main_v34 : Ref sig .tc := ⟨.hbm, 59, rfl⟩
abbrev main_c : Ref sig .tc := ⟨.hbm, 60, rfl⟩
abbrev main_v35_0 : Ref sig .tc := ⟨.hbm, 61, rfl⟩
abbrev main_v35_1 : Ref sig .tc := ⟨.hbm, 62, rfl⟩
abbrev main_v35_2 : Ref sig .tc := ⟨.hbm, 63, rfl⟩
abbrev main_v35_3 : Ref sig .tc := ⟨.hbm, 64, rfl⟩
abbrev main_v35_4 : Ref sig .tc := ⟨.hbm, 65, rfl⟩
abbrev main_v35_5 : Ref sig .tc := ⟨.hbm, 66, rfl⟩
abbrev main_v35_6 : Ref sig .tc := ⟨.hbm, 67, rfl⟩
abbrev main_v35_7 : Ref sig .tc := ⟨.hbm, 68, rfl⟩
abbrev main_while0c_c_13 : Ref sig .tc := ⟨.hbm, 69, rfl⟩
abbrev main_while0c_v57 : Ref sig .tc := ⟨.hbm, 70, rfl⟩
abbrev main_while0b_call1_c : Ref sig .tc := ⟨.hbm, 71, rfl⟩
abbrev main_while0b_call1_c_0 : Ref sig .tc := ⟨.hbm, 72, rfl⟩
abbrev main_while0b_call1_c_1 : Ref sig .tc := ⟨.hbm, 73, rfl⟩
abbrev main_while0b_call1_v0 : Ref sig .tc := ⟨.hbm, 74, rfl⟩
abbrev main_while0b_v57 : Ref sig .tc := ⟨.hbm, 75, rfl⟩
abbrev main_while0b_call2_c : Ref sig .tc := ⟨.hbm, 76, rfl⟩
abbrev main_while0b_call2_c_0 : Ref sig .tc := ⟨.hbm, 77, rfl⟩
abbrev main_while0b_call2_c_1 : Ref sig .tc := ⟨.hbm, 78, rfl⟩
abbrev main_while0b_call2_v0 : Ref sig .tc := ⟨.hbm, 79, rfl⟩
abbrev main_while0b_v58 : Ref sig .tc := ⟨.hbm, 80, rfl⟩
abbrev main_while0b_call3_c : Ref sig .tc := ⟨.hbm, 81, rfl⟩
abbrev main_while0b_call3_c_0 : Ref sig .tc := ⟨.hbm, 82, rfl⟩
abbrev main_while0b_call3_c_1 : Ref sig .tc := ⟨.hbm, 83, rfl⟩
abbrev main_while0b_call3_v0 : Ref sig .tc := ⟨.hbm, 84, rfl⟩
abbrev main_while0b_v59 : Ref sig .tc := ⟨.hbm, 85, rfl⟩
abbrev main_while0b_call4_c : Ref sig .tc := ⟨.hbm, 86, rfl⟩
abbrev main_while0b_call4_c_0 : Ref sig .tc := ⟨.hbm, 87, rfl⟩
abbrev main_while0b_call4_v0 : Ref sig .tc := ⟨.hbm, 88, rfl⟩
abbrev main_while0b_v60 : Ref sig .tc := ⟨.hbm, 89, rfl⟩
abbrev main_while0b_call5_c : Ref sig .tc := ⟨.hbm, 90, rfl⟩
abbrev main_while0b_call5_c_0 : Ref sig .tc := ⟨.hbm, 91, rfl⟩
abbrev main_while0b_call5_v0 : Ref sig .tc := ⟨.hbm, 92, rfl⟩
abbrev main_while0b_v61 : Ref sig .tc := ⟨.hbm, 93, rfl⟩
abbrev main_while0b_v62 : Ref sig .tc := ⟨.hbm, 94, rfl⟩
abbrev main_while0b_v63 : Ref sig .tc := ⟨.hbm, 95, rfl⟩
abbrev main_while0b_v64 : Ref sig .tc := ⟨.hbm, 96, rfl⟩
abbrev main_while0b_v65 : Ref sig .tc := ⟨.hbm, 97, rfl⟩
abbrev main_while0b_v66 : Ref sig .tc := ⟨.hbm, 98, rfl⟩
abbrev main_while0b_v67 : Ref sig .tc := ⟨.hbm, 99, rfl⟩
abbrev main_while0b_v68 : Ref sig .tc := ⟨.hbm, 100, rfl⟩
abbrev main_while0b_v69 : Ref sig .tc := ⟨.hbm, 101, rfl⟩
abbrev main_while0b_v70 : Ref sig .tc := ⟨.hbm, 102, rfl⟩
abbrev main_while0b_v71 : Ref sig .tc := ⟨.hbm, 103, rfl⟩
abbrev main_while0b_v72 : Ref sig .tc := ⟨.hbm, 104, rfl⟩
abbrev main_while0b_v73 : Ref sig .tc := ⟨.hbm, 105, rfl⟩
abbrev main_while0b_v74 : Ref sig .tc := ⟨.hbm, 106, rfl⟩
abbrev main_while0b_v75 : Ref sig .tc := ⟨.hbm, 107, rfl⟩
abbrev main_while0b_v76 : Ref sig .tc := ⟨.hbm, 108, rfl⟩
abbrev main_while0b_v77 : Ref sig .tc := ⟨.hbm, 109, rfl⟩
abbrev main_while0b_v78 : Ref sig .tc := ⟨.hbm, 110, rfl⟩
abbrev main_while0b_v79 : Ref sig .tc := ⟨.hbm, 111, rfl⟩
abbrev main_while0b_v80 : Ref sig .tc := ⟨.hbm, 112, rfl⟩
abbrev main_while0b_v81 : Ref sig .tc := ⟨.hbm, 113, rfl⟩
abbrev main_while0b_call6_v0 : Ref sig .tc := ⟨.hbm, 114, rfl⟩
abbrev main_while0b_call6_c : Ref sig .tc := ⟨.hbm, 115, rfl⟩
abbrev main_while0b_call6_c_0 : Ref sig .tc := ⟨.hbm, 116, rfl⟩
abbrev main_while0b_call6_c_1 : Ref sig .tc := ⟨.hbm, 117, rfl⟩
abbrev main_while0b_v82 : Ref sig .tc := ⟨.hbm, 118, rfl⟩
abbrev main_while0b_c_13 : Ref sig .tc := ⟨.hbm, 119, rfl⟩
abbrev main_while0b_v83 : Ref sig .tc := ⟨.hbm, 120, rfl⟩
abbrev main_v36 : Ref sig .tc := ⟨.hbm, 121, rfl⟩
abbrev main_v37 : Ref sig .tc := ⟨.hbm, 122, rfl⟩
abbrev main_v38 : Ref sig .tc := ⟨.hbm, 123, rfl⟩
abbrev main_v39 : Ref sig .tc := ⟨.hbm, 124, rfl⟩
abbrev main_cst_3 : Ref sig .tc := ⟨.hbm, 125, rfl⟩
abbrev main_v40 : Ref sig .tc := ⟨.hbm, 126, rfl⟩
abbrev main_v41 : Ref sig .tc := ⟨.hbm, 127, rfl⟩
abbrev main_cst_4 : Ref sig .tc := ⟨.hbm, 128, rfl⟩
abbrev main_v42 : Ref sig .tc := ⟨.hbm, 129, rfl⟩
abbrev main_v43 : Ref sig .tc := ⟨.hbm, 130, rfl⟩
abbrev main_cst_5 : Ref sig .tc := ⟨.hbm, 131, rfl⟩
abbrev main_v44 : Ref sig .tc := ⟨.hbm, 132, rfl⟩
abbrev main_v45 : Ref sig .tc := ⟨.hbm, 133, rfl⟩
abbrev main_v46 : Ref sig .tc := ⟨.hbm, 134, rfl⟩
abbrev main_v47 : Ref sig .tc := ⟨.hbm, 135, rfl⟩
abbrev main_v48 : Ref sig .tc := ⟨.hbm, 136, rfl⟩
abbrev main_v49 : Ref sig .tc := ⟨.hbm, 137, rfl⟩
abbrev main_v50 : Ref sig .tc := ⟨.hbm, 138, rfl⟩
abbrev main_v51 : Ref sig .tc := ⟨.hbm, 139, rfl⟩
abbrev main_v52 : Ref sig .tc := ⟨.hbm, 140, rfl⟩
abbrev main_call7_v0 : Ref sig .tc := ⟨.hbm, 141, rfl⟩
abbrev main_call7_v1 : Ref sig .tc := ⟨.hbm, 142, rfl⟩
abbrev main_call7_cst : Ref sig .tc := ⟨.hbm, 143, rfl⟩
abbrev main_call7_v2 : Ref sig .tc := ⟨.hbm, 144, rfl⟩
abbrev main_call7_v3 : Ref sig .tc := ⟨.hbm, 145, rfl⟩
abbrev main_call7_cst_0 : Ref sig .tc := ⟨.hbm, 146, rfl⟩
abbrev main_call7_v4 : Ref sig .tc := ⟨.hbm, 147, rfl⟩
abbrev main_call7_v5 : Ref sig .tc := ⟨.hbm, 148, rfl⟩
abbrev main_v53 : Ref sig .tc := ⟨.hbm, 149, rfl⟩
abbrev main_v54 : Ref sig .tc := ⟨.hbm, 150, rfl⟩
abbrev main_v55 : Ref sig .tc := ⟨.hbm, 151, rfl⟩
abbrev main_v56 : Ref sig .tc := ⟨.hbm, 152, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S8x4096x1024 : Shape := ⟨3, ![8, 4096, 1024]⟩
abbrev S8x1x1024 : Shape := ⟨3, ![8, 1, 1024]⟩
abbrev S1024x1024 : Shape := ⟨2, ![1024, 1024]⟩
abbrev S1x1024 : Shape := ⟨2, ![1, 1024]⟩
abbrev S1024x256 : Shape := ⟨2, ![1024, 256]⟩
abbrev S1024x512 : Shape := ⟨2, ![1024, 512]⟩
abbrev S1024x3072 : Shape := ⟨2, ![1024, 3072]⟩
abbrev S1024x128 : Shape := ⟨2, ![1024, 128]⟩
abbrev S8x4096x256 : Shape := ⟨3, ![8, 4096, 256]⟩
abbrev S8x4096x512 : Shape := ⟨3, ![8, 4096, 512]⟩
abbrev S8x4096x3072 : Shape := ⟨3, ![8, 4096, 3072]⟩
abbrev S8x4096x128 : Shape := ⟨3, ![8, 4096, 128]⟩
abbrev S1x512x1024 : Shape := ⟨3, ![1, 512, 1024]⟩
abbrev S1x1x1024 : Shape := ⟨3, ![1, 1, 1024]⟩
abbrev S1x512x256 : Shape := ⟨3, ![1, 512, 256]⟩
abbrev S1x512x512 : Shape := ⟨3, ![1, 512, 512]⟩
abbrev S1x512x3072 : Shape := ⟨3, ![1, 512, 3072]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S512x512 : Shape := ⟨2, ![512, 512]⟩
abbrev S512x3072 : Shape := ⟨2, ![512, 3072]⟩
abbrev S512x128 : Shape := ⟨2, ![512, 128]⟩

abbrev nBuf : Space → Nat
  | .hbm => 19
  | .vmem => 30
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S8x1x1024, .f32⟩
  | .hbm, ⟨3, _⟩ => ⟨S1024x1024, .bf16⟩
  | .hbm, ⟨4, _⟩ => ⟨S1x1024, .f32⟩
  | .hbm, ⟨5, _⟩ => ⟨S1024x256, .bf16⟩
  | .hbm, ⟨6, _⟩ => ⟨S1024x512, .bf16⟩
  | .hbm, ⟨7, _⟩ => ⟨S1x1024, .f32⟩
  | .hbm, ⟨8, _⟩ => ⟨S8x1x1024, .f32⟩
  | .hbm, ⟨9, _⟩ => ⟨S8x1x1024, .f32⟩
  | .hbm, ⟨10, _⟩ => ⟨S1024x1024, .bf16⟩
  | .hbm, ⟨11, _⟩ => ⟨S1024x3072, .bf16⟩
  | .hbm, ⟨12, _⟩ => ⟨S1024x128, .bf16⟩
  | .hbm, ⟨13, _⟩ => ⟨S8x4096x1024, .f32⟩
  | .hbm, ⟨14, _⟩ => ⟨S8x4096x256, .f32⟩
  | .hbm, ⟨15, _⟩ => ⟨S8x4096x512, .bf16⟩
  | .hbm, ⟨16, _⟩ => ⟨S8x4096x1024, .bf16⟩
  | .hbm, ⟨17, _⟩ => ⟨S8x4096x3072, .bf16⟩
  | .hbm, ⟨18, _⟩ => ⟨S8x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x256, .bf16⟩
  | .local _ .vmem, ⟨9, _⟩ => ⟨S1024x512, .bf16⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1024x1024, .bf16⟩
  | .local _ .vmem, ⟨16, _⟩ => ⟨S1024x3072, .bf16⟩
  | .local _ .vmem, ⟨17, _⟩ => ⟨S1024x128, .bf16⟩
  | .local _ .vmem, ⟨18, _⟩ => ⟨S1x512x1024, .f32⟩
  | .local _ .vmem, ⟨19, _⟩ => ⟨S1x512x1024, .f32⟩
  | .local _ .vmem, ⟨20, _⟩ => ⟨S1x512x256, .f32⟩
  | .local _ .vmem, ⟨21, _⟩ => ⟨S1x512x256, .f32⟩
  | .local _ .vmem, ⟨22, _⟩ => ⟨S1x512x512, .bf16⟩
  | .local _ .vmem, ⟨23, _⟩ => ⟨S1x512x512, .bf16⟩
  | .local _ .vmem, ⟨24, _⟩ => ⟨S1x512x1024, .bf16⟩
  | .local _ .vmem, ⟨25, _⟩ => ⟨S1x512x1024, .bf16⟩
  | .local _ .vmem, ⟨26, _⟩ => ⟨S1x512x3072, .bf16⟩
  | .local _ .vmem, ⟨27, _⟩ => ⟨S1x512x3072, .bf16⟩
  | .local _ .vmem, ⟨28, _⟩ => ⟨S1x512x128, .f32⟩
  | .local _ .vmem, ⟨29, _⟩ => ⟨S1x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x3072 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x3072 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference2Ideal.lean ====
abbrev S8x4096x1024 : Shape := ⟨3, ![8, 4096, 1024]⟩
abbrev S8x1x1024 : Shape := ⟨3, ![8, 1, 1024]⟩
abbrev S1024x1024 : Shape := ⟨2, ![1024, 1024]⟩
abbrev S1x1024 : Shape := ⟨2, ![1, 1024]⟩
abbrev S1024x256 : Shape := ⟨2, ![1024, 256]⟩
abbrev S1024x512 : Shape := ⟨2, ![1024, 512]⟩
abbrev S1024x3072 : Shape := ⟨2, ![1024, 3072]⟩
abbrev S1024x128 : Shape := ⟨2, ![1024, 128]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x256 : Shape := ⟨3, ![8, 4096, 256]⟩
abbrev S8x4096x512 : Shape := ⟨3, ![8, 4096, 512]⟩
abbrev S8x4096x3072 : Shape := ⟨3, ![8, 4096, 3072]⟩
abbrev S8x4096x128 : Shape := ⟨3, ![8, 4096, 128]⟩

abbrev nBuf : Space → Nat
  | .hbm => 87
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S8x1x1024, .f32⟩
  | .hbm, ⟨3, _⟩ => ⟨S1024x1024, .bf16⟩
  | .hbm, ⟨4, _⟩ => ⟨S1x1024, .f32⟩
  | .hbm, ⟨5, _⟩ => ⟨S1024x256, .bf16⟩
  | .hbm, ⟨6, _⟩ => ⟨S1024x512, .bf16⟩
  | .hbm, ⟨7, _⟩ => ⟨S1x1024, .f32⟩
  | .hbm, ⟨8, _⟩ => ⟨S8x1x1024, .f32⟩
  | .hbm, ⟨9, _⟩ => ⟨S8x1x1024, .f32⟩
  | .hbm, ⟨10, _⟩ => ⟨S1024x1024, .bf16⟩
  | .hbm, ⟨11, _⟩ => ⟨S1024x3072, .bf16⟩
  | .hbm, ⟨12, _⟩ => ⟨S1024x128, .bf16⟩
  | .hbm, ⟨13, _⟩ => ⟨S8x4096x1024, .f32⟩
  | .hbm, ⟨14, _⟩ => ⟨S1024x1024, .f32⟩
  | .hbm, ⟨15, _⟩ => ⟨S1024x256, .f32⟩
  | .hbm, ⟨16, _⟩ => ⟨S1024x512, .f32⟩
  | .hbm, ⟨17, _⟩ => ⟨S1024x1024, .f32⟩
  | .hbm, ⟨18, _⟩ => ⟨S1024x3072, .f32⟩
  | .hbm, ⟨19, _⟩ => ⟨S1024x128, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S1024, .f32⟩
  | .hbm, ⟨25, _⟩ => ⟨S8x4096x1024, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S_, .f32⟩
  | .hbm, ⟨30, _⟩ => ⟨S8x4096x1, .f32⟩
  | .hbm, ⟨31, _⟩ => ⟨S8x4096x1, .f32⟩
  | .hbm, ⟨32, _⟩ => ⟨S_, .f32⟩
  | .hbm, ⟨33, _⟩ => ⟨S8x4096x1, .f32⟩
  | .hbm, ⟨34, _⟩ => ⟨S8x4096x1, .f32⟩
  | .hbm, ⟨35, _⟩ => ⟨S8x4096x1, .f32⟩
  | .hbm, ⟨36, _⟩ => ⟨S8x4096x1024, .f32⟩
  | .hbm, ⟨37, _⟩ => ⟨S8x4096x1024, .f32⟩
  | .hbm, ⟨38, _⟩ => ⟨S1x1x1024, .f32⟩
  | .hbm, ⟨39, _⟩ => ⟨S8x4096x1024, .f32⟩
  | .hbm, ⟨40, _⟩ => ⟨S8x4096x1024, .f32⟩
  | .hbm, ⟨41, _⟩ => ⟨S1024, .f32⟩
  | .hbm, ⟨42, _⟩ => ⟨S8x4096x1024, .f32⟩
  | .hbm, ⟨43, _⟩ => ⟨S_, .f32⟩
  | .hbm, ⟨44, _⟩ => ⟨S8x4096, .f32⟩
  | .hbm, ⟨45, _⟩ => ⟨S8x4096x1, .f32⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S_, .f32⟩
  | .hbm, ⟨50, _⟩ => ⟨S8x4096x1, .f32⟩
  | .hbm, ⟨51, _⟩ => ⟨S8x4096x1, .f32⟩
  | .hbm, ⟨52, _⟩ => ⟨S8x4096x1, .f32⟩
  | .hbm, ⟨53, _⟩ => ⟨S8x4096x1024, .f32⟩
  | .hbm, ⟨54, _⟩ => ⟨S8x4096x1024, .f32⟩
  | .hbm, ⟨55, _⟩ => ⟨S1x1x1024, .f32⟩
  | .hbm, ⟨56, _⟩ => ⟨S8x4096x1024, .f32⟩
  | .hbm, ⟨57, _⟩ => ⟨S8x4096x1024, .f32⟩
  | .hbm, ⟨58, _⟩ => ⟨S_, .f32⟩
  | .hbm, ⟨59, _⟩ => ⟨S8x1x1024, .f32⟩
  | .hbm, ⟨60, _⟩ => ⟨S8x1x1024, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S_, .f32⟩
  | .hbm, ⟨67, _⟩ => ⟨S8x4096x1024, .f32⟩
  | .hbm, ⟨68, _⟩ => ⟨S8x4096x1024, .f32⟩
  | .hbm, ⟨69, _⟩ => ⟨S_, .f32⟩
  | .hbm, ⟨70, _⟩ => ⟨S8x4096x1024, .f32⟩
  | .hbm, ⟨71, _⟩ => ⟨S8x4096x1024, .f32⟩
  | .hbm, ⟨72, _⟩ => ⟨S8x4096x256, .f32⟩
  | .hbm, ⟨73, _⟩ => ⟨S8x4096x512, .f32⟩
  | .hbm, ⟨74, _⟩ => ⟨S8x4096x512, .bf16⟩
  | .hbm, ⟨75, _⟩ => ⟨S8x4096x1024, .bf16⟩
  | .hbm, ⟨76, _⟩ => ⟨S8x4096x3072, .f32⟩
  | .hbm, ⟨77, _⟩ => ⟨S8x4096x3072, .bf16⟩
  | .hbm, ⟨78, _⟩ => ⟨S8x4096x128, .f32⟩
  | .hbm, ⟨79, _⟩ => ⟨S8x4096x128, .f32⟩
  | .hbm, ⟨80, _⟩ => ⟨S8x4096x128, .f32⟩
  | .hbm, ⟨81, _⟩ => ⟨S_, .f32⟩
  | .hbm, ⟨82, _⟩ => ⟨S8x4096x128, .f32⟩
  | .hbm, ⟨83, _⟩ => ⟨S8x4096x128, .f32⟩
  | .hbm, ⟨84, _⟩ => ⟨S_, .f32⟩
  | .hbm, ⟨85, _⟩ => ⟨S8x4096x128, .f32⟩
  | .hbm, ⟨86, _⟩ => ⟨S8x4096x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_v47 : Ref sig .tc := ⟨.hbm, 68, rfl⟩
abbrev main_cst_7 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_8 : Ref sig .tc := ⟨.hbm, 81, rfl⟩
abbrev main_v59 : Ref sig .tc := ⟨.hbm, 82, rfl⟩
abbrev main_v60 : Ref sig .tc := ⟨.hbm, 83, rfl⟩
abbrev main_cst_9 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x1x1024 : Shape := ⟨3, ![8, 1, 1024]⟩
abbrev S1024x1024 : Shape := ⟨2, ![1024, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .f32⟩
  | .hbm, ⟨2, _⟩ => ⟨S8x1x1024, .f32⟩
  | .hbm, ⟨3, _⟩ => ⟨S1024x1024, .bf16⟩
  | .hbm, ⟨4, _⟩ => ⟨S1x1024, .f32⟩
  | .hbm, ⟨5, _⟩ => ⟨S8x4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8x4096x1024 : Shape := ⟨3, ![8, 4096, 1024]⟩
abbrev S8x1x1024 : Shape := ⟨3, ![8, 1, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .f32⟩
  | .hbm, ⟨2, _⟩ => ⟨S8x1x1024, .f32⟩
  | .hbm, ⟨3, _⟩ => ⟨S1024x1024, .bf16⟩
  | .hbm, ⟨4, _⟩ => ⟨S1x1024, .f32⟩
  | .hbm, ⟨5, _⟩ => ⟨S8x4096x1024, .f32⟩
  | .hbm, ⟨6, _⟩ => ⟨S1024x1024, .f32⟩
  | .hbm, ⟨7, _⟩ => ⟨S8x4096x1024, .f32⟩
  | .hbm, ⟨8, _⟩ => ⟨S8x4096x1024, .f32⟩
  | .hbm, ⟨9, _⟩ => ⟨S8x4096x1024, .f32⟩
  | .hbm, ⟨10, _⟩ => ⟨S8x4096x1024, .f32⟩
  | .hbm, ⟨11, _⟩ => ⟨S1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1, .f32⟩
  | .hbm, ⟨23, _⟩ => ⟨S8x4096x1024, .f32⟩
  | .hbm, ⟨24, _⟩ => ⟨S8x4096x1024, .f32⟩
  | .hbm, ⟨25, _⟩ => ⟨S1x1x1024, .f32⟩
  | .hbm, ⟨26, _⟩ => ⟨S8x4096x1024, .f32⟩
  | .hbm, ⟨27, _⟩ => ⟨S8x4096x1024, .f32⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel4.lean ====
abbrev S8x4096x1024 : Shape := ⟨3, ![8, 4096, 1024]⟩
abbrev S1x1024 : Shape := ⟨2, ![1, 1024]⟩
abbrev S8x1x1024 : Shape := ⟨3, ![8, 1, 1024]⟩
abbrev S1024x3072 : Shape := ⟨2, ![1024, 3072]⟩
abbrev S1024x1024 : Shape := ⟨2, ![1024, 1024]⟩
abbrev S1024x128 : Shape := ⟨2, ![1024, 128]⟩
abbrev S4x3072 : Shape := ⟨2, ![4, 3072]⟩
abbrev S8x4096x128 : Shape := ⟨3, ![8, 4096, 128]⟩
abbrev S1x512x1024 : Shape := ⟨3, ![1, 512, 1024]⟩
abbrev S1x1x1024 : Shape := ⟨3, ![1, 1, 1024]⟩
abbrev S1x512x128 : Shape := ⟨3, ![1, 512, 128]⟩
abbrev S8x3072 : Shape := ⟨2, ![8, 3072]⟩
abbrev S512x1024 : Shape := ⟨2, ![512, 1024]⟩
abbrev S512 : Shape := ⟨1, ![512]⟩
abbrev S512x1 : Shape := ⟨2, ![512, 1]⟩
abbrev S512x3072 : Shape := ⟨2, ![512, 3072]⟩
abbrev S520x3072 : Shape := ⟨2, ![520, 3072]⟩
abbrev S1x3072 : Shape := ⟨2, ![1, 3072]⟩
abbrev S512x128 : Shape := ⟨2, ![512, 128]⟩

abbrev nBuf : Space → Nat
  | .hbm => 13
  | .vmem => 22
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S8x1x1024, .f32⟩
  | .hbm, ⟨3, _⟩ => ⟨S8x1x1024, .f32⟩
  | .hbm, ⟨4, _⟩ => ⟨S1024x3072, .bf16⟩
  | .hbm, ⟨5, _⟩ => ⟨S1024x1024, .bf16⟩
  | .hbm, ⟨6, _⟩ => ⟨S1024x128, .bf16⟩
  | .hbm, ⟨7, _⟩ => ⟨S4x3072, .f32⟩
  | .hbm, ⟨8, _⟩ => ⟨S8x4096x1024, .bf16⟩
  | .hbm, ⟨9, _⟩ => ⟨S8x4096x1024, .bf16⟩
  | .hbm, ⟨10, _⟩ => ⟨S8x4096x1024, .bf16⟩
  | .hbm, ⟨11, _⟩ => ⟨S8x4096x1024, .bf16⟩
  | .hbm, ⟨12, _⟩ => ⟨S8x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S1024x1024, .bf16⟩
  | .local _ .vmem, ⟨9, _⟩ => ⟨S1024x128, .bf16⟩
  | .local _ .vmem, ⟨10, _⟩ => ⟨S4x3072, .f32⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x128, .f32⟩
  | .local _ .vmem, ⟨20, _⟩ => ⟨S1x512x128, .f32⟩
  | .local _ .vmem, ⟨21, _⟩ => ⟨S8x3072, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference4Ideal.lean ====
abbrev S8x4096x1024 : Shape := ⟨3, ![8, 4096, 1024]⟩
abbrev S1x1024 : Shape := ⟨2, ![1, 1024]⟩
abbrev S8x1x1024 : Shape := ⟨3, ![8, 1, 1024]⟩
abbrev S1024x3072 : Shape := ⟨2, ![1024, 3072]⟩
abbrev S1024x1024 : Shape := ⟨2, ![1024, 1024]⟩
abbrev S1024x128 : Shape := ⟨2, ![1024, 128]⟩
abbrev S4x3072 : Shape := ⟨2, ![4, 3072]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3072 : Shape := ⟨3, ![8, 4096, 3072]⟩
abbrev S8x4099x3072 : Shape := ⟨3, ![8, 4099, 3072]⟩
abbrev S1x3072 : Shape := ⟨2, ![1, 3072]⟩
abbrev S3072 : Shape := ⟨1, ![3072]⟩
abbrev S1x1x3072 : Shape := ⟨3, ![1, 1, 3072]⟩
abbrev S8x4096x8x128 : Shape := ⟨4, ![8, 4096, 8, 128]⟩
abbrev S8x4096x8 : Shape := ⟨3, ![8, 4096, 8]⟩
abbrev S8x4096x8x1 : Shape := ⟨4, ![8, 4096, 8, 1]⟩
abbrev S8x4096x128 : Shape := ⟨3, ![8, 4096, 128]⟩

abbrev nBuf : Space → Nat
  | .hbm => 111
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S8x1x1024, .f32⟩
  | .hbm, ⟨3, _⟩ => ⟨S8x1x1024, .f32⟩
  | .hbm, ⟨4, _⟩ => ⟨S1024x3072, .bf16⟩
  | .hbm, ⟨5, _⟩ => ⟨S1024x1024, .bf16⟩
  | .hbm, ⟨6, _⟩ => ⟨S1024x128, .bf16⟩
  | .hbm, ⟨7, _⟩ => ⟨S4x3072, .f32⟩
  | .hbm, ⟨8, _⟩ => ⟨S1024x3072, .f32⟩
  | .hbm, ⟨9, _⟩ => ⟨S1024x1024, .f32⟩
  | .hbm, ⟨10, _⟩ => ⟨S1024x128, .f32⟩
  | .hbm, ⟨11, _⟩ => ⟨S1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1, .f32⟩
  | .hbm, ⟨23, _⟩ => ⟨S8x4096x1024, .f32⟩
  | .hbm, ⟨24, _⟩ => ⟨S8x4096x1024, .f32⟩
  | .hbm, ⟨25, _⟩ => ⟨S1x1x1024, .f32⟩
  | .hbm, ⟨26, _⟩ => ⟨S8x4096x1024, .f32⟩
  | .hbm, ⟨27, _⟩ => ⟨S8x4096x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x3072, .f32⟩
  | .hbm, ⟨36, _⟩ => ⟨S_, .i32⟩
  | .hbm, ⟨37, _⟩ => ⟨S_, .f32⟩
  | .hbm, ⟨38, _⟩ => ⟨S8x4099x3072, .f32⟩
  | .hbm, ⟨39, _⟩ => ⟨S8x4096x3072, .f32⟩
  | .hbm, ⟨40, _⟩ => ⟨S1x3072, .f32⟩
  | .hbm, ⟨41, _⟩ => ⟨S3072, .f32⟩
  | .hbm, ⟨42, _⟩ => ⟨S1x1x3072, .f32⟩
  | .hbm, ⟨43, _⟩ => ⟨S8x4096x3072, .f32⟩
  | .hbm, ⟨44, _⟩ => ⟨S8x4096x3072, .f32⟩
  | .hbm, ⟨45, _⟩ => ⟨S8x4096x3072, .f32⟩
  | .hbm, ⟨46, _⟩ => ⟨S1x3072, .f32⟩
  | .hbm, ⟨47, _⟩ => ⟨S3072, .f32⟩
  | .hbm, ⟨48, _⟩ => ⟨S1x1x3072, .f32⟩
  | .hbm, ⟨49, _⟩ => ⟨S8x4096x3072, .f32⟩
  | .hbm, ⟨50, _⟩ => ⟨S8x4096x3072, .f32⟩
  | .hbm, ⟨51, _⟩ => ⟨S8x4096x3072, .f32⟩
  | .hbm, ⟨52, _⟩ => ⟨S8x4096x3072, .f32⟩
  | .hbm, ⟨53, _⟩ => ⟨S1x3072, .f32⟩
  | .hbm, ⟨54, _⟩ => ⟨S3072, .f32⟩
  | .hbm, ⟨55, _⟩ => ⟨S1x1x3072, .f32⟩
  | .hbm, ⟨56, _⟩ => ⟨S8x4096x3072, .f32⟩
  | .hbm, ⟨57, _⟩ => ⟨S8x4096x3072, .f32⟩
  | .hbm, ⟨58, _⟩ => ⟨S8x4096x3072, .f32⟩
  | .hbm, ⟨59, _⟩ => ⟨S8x4096x3072, .f32⟩
  | .hbm, ⟨60, _⟩ => ⟨S1x3072, .f32⟩
  | .hbm, ⟨61, _⟩ => ⟨S3072, .f32⟩
  | .hbm, ⟨62, _⟩ => ⟨S1x1x3072, .f32⟩
  | .hbm, ⟨63, _⟩ => ⟨S8x4096x3072, .f32⟩
  | .hbm, ⟨64, _⟩ => ⟨S8x4096x3072, .f32⟩
  | .hbm, ⟨65, _⟩ => ⟨S8x4096x3072, .f32⟩
  | .hbm, ⟨66, _⟩ => ⟨S8x4096x3072, .f32⟩
  | .hbm, ⟨67, _⟩ => ⟨S8x4096x3072, .f32⟩
  | .hbm, ⟨68, _⟩ => ⟨S_, .f32⟩
  | .hbm, ⟨69, _⟩ => ⟨S8x4096x3072, .f32⟩
  | .hbm, ⟨70, _⟩ => ⟨S8x4096x3072, .f32⟩
  | .hbm, ⟨71, _⟩ => ⟨S_, .f32⟩
  | .hbm, ⟨72, _⟩ => ⟨S8x4096x3072, .f32⟩
  | .hbm, ⟨73, _⟩ => ⟨S8x4096x3072, .f32⟩
  | .hbm, ⟨74, _⟩ => ⟨S8x4096x3072, .f32⟩
  | .hbm, ⟨75, _⟩ => ⟨S8x4096x1024, .f32⟩
  | .hbm, ⟨76, _⟩ => ⟨S8x4096x1024, .f32⟩
  | .hbm, ⟨77, _⟩ => ⟨S8x4096x1024, .f32⟩
  | .hbm, ⟨78, _⟩ => ⟨S8x4096x8x128, .f32⟩
  | .hbm, ⟨79, _⟩ => ⟨S8x4096x8x128, .f32⟩
  | .hbm, ⟨80, _⟩ => ⟨S_, .f32⟩
  | .hbm, ⟨81, _⟩ => ⟨S8x4096x8, .f32⟩
  | .hbm, ⟨82, _⟩ => ⟨S8x4096x8x1, .f32⟩
  | .hbm, ⟨83, _⟩ => ⟨S_, .f32⟩
  | .hbm, ⟨84, _⟩ => ⟨S8x4096x8x1, .f32⟩
  | .hbm, ⟨85, _⟩ => ⟨S8x4096x8x1, .f32⟩
  | .hbm, ⟨86, _⟩ => ⟨S8x4096x8x1, .f32⟩
  | .hbm, ⟨87, _⟩ => ⟨S8x4096x8x128, .f32⟩
  | .hbm, ⟨88, _⟩ => ⟨S8x4096x8x128, .f32⟩
  | .hbm, ⟨89, _⟩ => ⟨S_, .f32⟩
  | .hbm, ⟨90, _⟩ => ⟨S8x4096x8x128, .f32⟩
  | .hbm, ⟨91, _⟩ => ⟨S8x4096x8x128, .f32⟩
  | .hbm, ⟨92, _⟩ => ⟨S8x4096x8x128, .f32⟩
  | .hbm, ⟨93, _⟩ => ⟨S8x4096x8x128, .f32⟩
  | .hbm, ⟨94, _⟩ => ⟨S_, .f32⟩
  | .hbm, ⟨95, _⟩ => ⟨S8x4096x8, .f32⟩
  | .hbm, ⟨96, _⟩ => ⟨S8x4096x8x1, .f32⟩
  | .hbm, ⟨97, _⟩ => ⟨S_, .f32⟩
  | .hbm, ⟨98, _⟩ => ⟨S8x4096x8x1, .f32⟩
  | .hbm, ⟨99, _⟩ => ⟨S8x4096x8x1, .f32⟩
  | .hbm, ⟨100, _⟩ => ⟨S8x4096x8x1, .f32⟩
  | .hbm, ⟨101, _⟩ => ⟨S8x4096x8x128, .f32⟩
  | .hbm, ⟨102, _⟩ => ⟨S8x4096x8x128, .f32⟩
  | .hbm, ⟨103, _⟩ => ⟨S8x4096x1024, .f32⟩
  | .hbm, ⟨104, _⟩ => ⟨S8x4096x1024, .f32⟩
  | .hbm, ⟨105, _⟩ => ⟨S8x4096x1024, .f32⟩
  | .hbm, ⟨106, _⟩ => ⟨S8x4096x1024, .bf16⟩
  | .hbm, ⟨107, _⟩ => ⟨S8x4096x1024, .bf16⟩
  | .hbm, ⟨108, _⟩ => ⟨S8x4096x1024, .bf16⟩
  | .hbm, ⟨109, _⟩ => ⟨S8x4096x1024, .bf16⟩
  | .hbm, ⟨110, _⟩ => ⟨S8x4096x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_call1_v0 : Ref sig .tc := ⟨.hbm, 66, rfl⟩
abbrev main_call1_v1 : Ref sig .tc := ⟨.hbm, 67, rfl⟩
abbrev main_call1_cst : Ref sig .tc := ⟨.hbm, 68, rfl⟩
abbrev main_call1_v2 : Ref sig .tc := ⟨.hbm, 69, rfl⟩
abbrev main_call1_v3 : Ref sig .tc := ⟨.hbm, 70, rfl⟩
abbrev main_call1_cst_0 : Ref sig .tc := ⟨.hbm, 71, rfl⟩
abbrev main_call1_v4 : Ref sig .tc := ⟨.hbm, 72, rfl⟩
abbrev main_call1_v5 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_3 : Ref sig .tc := ⟨.hbm, 80, rfl⟩
abbrev main_v58 : Ref sig .tc := ⟨.hbm, 81, rfl⟩
abbrev main_v59 : Ref sig .tc := ⟨.hbm, 82, rfl⟩
abbrev main_cst_4 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_5 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_6 : Ref sig .tc := ⟨.hbm, 94, rfl⟩
abbrev main_v69 : Ref sig .tc := ⟨.hbm, 95, rfl⟩
abbrev main_v70 : Ref sig .tc := ⟨.hbm, 96, rfl⟩
abbrev main_cst_7 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩

abbrev nD : Nat := 1
abbrev τ : Topo := Topo.v7x

variable {F : FTy → Type} [FloatOps F]
-- ==== Kernel5.lean ====
abbrev S8x4096x256 : Shape := ⟨3, ![8, 4096, 256]⟩
abbrev S2x32x64 : Shape := ⟨3, ![2, 32, 64]⟩
abbrev S2x2048x256 : Shape := ⟨3, ![2, 2048, 256]⟩
abbrev S2x256x64 : Shape := ⟨3, ![2, 256, 64]⟩
abbrev S8x4x256x64 : Shape := ⟨4, ![8, 4, 256, 64]⟩
abbrev S1x4096x128 : Shape := ⟨3, ![1, 4096, 128]⟩
abbrev S1x4x256x64 : Shape := ⟨4, ![1, 4, 256, 64]⟩
abbrev S1x256x128 : Shape := ⟨3, ![1, 256, 128]⟩
abbrev S256x128 : Shape := ⟨2, ![256, 128]⟩
abbrev S256x64 : Shape := ⟨2, ![256, 64]⟩
abbrev S1x1x64 : Shape := ⟨3, ![1, 1, 64]⟩
abbrev S1x64 : Shape := ⟨2, ![1, 64]⟩
abbrev S1x64x256 : Shape := ⟨3, ![1, 64, 256]⟩
abbrev S64x256 : Shape := ⟨2, ![64, 256]⟩
abbrev S256x256 : Shape := ⟨2, ![256, 256]⟩
abbrev S1x256x64 : Shape := ⟨3, ![1, 256, 64]⟩
abbrev S1x1x256x64 : Shape := ⟨4, ![1, 1, 256, 64]⟩

abbrev nBuf : Space → Nat
  | .hbm => 5
  | .vmem => 9
  | .smem => 0
  | _ => 0

abbrev bufTy : (tb : Table) → Fin (tcTables nBuf tb) → BufTy
  | .hbm, ⟨0, _⟩ => ⟨S8x4096x256, .f32⟩
  | .hbm, ⟨1, _⟩ => ⟨S2x32x64, .f32⟩
  | .hbm, ⟨2, _⟩ => ⟨S2x2048x256, .bf16⟩
  | .hbm, ⟨3, _⟩ => ⟨S2x256x64, .bf16⟩
  | .hbm, ⟨4, _⟩ => ⟨S8x4x256x64, .bf16⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S2x32x64, .f32⟩
  | .local _ .vmem, ⟨5, _⟩ => ⟨S2x2048x256, .bf16⟩
  | .local _ .vmem, ⟨6, _⟩ => ⟨S2x256x64, .bf16⟩
  | .local _ .vmem, ⟨7, _⟩ => ⟨S1x4x256x64, .bf16⟩
  | .local _ .vmem, ⟨8, _⟩ => ⟨S1x4x256x64, .bf16⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S8x4096x256 : Shape := ⟨3, ![8, 4096, 256]⟩
abbrev S2x32x64 : Shape := ⟨3, ![2, 32, 64]⟩
abbrev S2x2048x256 : Shape := ⟨3, ![2, 2048, 256]⟩
abbrev S2x256x64 : Shape := ⟨3, ![2, 256, 64]⟩
abbrev S8x16x256 : Shape := ⟨3, ![8, 16, 256]⟩
abbrev S8x4112x256 : Shape := ⟨3, ![8, 4112, 256]⟩
abbrev S256 : Shape := ⟨1, ![256]⟩
abbrev S256x1 : Shape := ⟨2, ![256, 1]⟩
abbrev S_ : Shape := ⟨0, ![]⟩
abbrev S32 : Shape := ⟨1, ![32]⟩
abbrev S1x32 : Shape := ⟨2, ![1, 32]⟩
abbrev S256x32 : Shape := ⟨2, ![256, 32]⟩
abbrev S256x32x1 : Shape := ⟨3, ![256, 32, 1]⟩
abbrev S8x256x32x256 : Shape := ⟨4, ![8, 256, 32, 256]⟩
abbrev S8x256x32x64 : Shape := ⟨4, ![8, 256, 32, 64]⟩
abbrev S1x32x64 : Shape := ⟨3, ![1, 32, 64]⟩
abbrev S32x64 : Shape := ⟨2, ![32, 64]⟩
abbrev S1x2048x256 : Shape := ⟨3, ![1, 2048, 256]⟩
abbrev S2048x256 : Shape := ⟨2, ![2048, 256]⟩
abbrev S1x256x64 : Shape := ⟨3, ![1, 256, 64]⟩
abbrev S256x64 : Shape := ⟨2, ![256, 64]⟩
abbrev S1x1x32x64 : Shape := ⟨4, ![1, 1, 32, 64]⟩
abbrev S8x256x2048 : Shape := ⟨3, ![8, 256, 2048]⟩
abbrev S8x256x256 : Shape := ⟨3, ![8, 256, 256]⟩
abbrev S8x256x64 : Shape := ⟨3, ![8, 256, 64]⟩
abbrev S8x1x256x64 : Shape := ⟨4, ![8, 1, 256, 64]⟩
abbrev S8x4x256x64 : Shape := ⟨4, ![8, 4, 256, 64]⟩

abbrev nBuf : Space → Nat
  | .hbm => 121
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S2x32x64, .f32⟩
  | .hbm, ⟨2, _⟩ => ⟨S2x2048x256, .bf16⟩
  | .hbm, ⟨3, _⟩ => ⟨S2x256x64, .bf16⟩
  | .hbm, ⟨4, _⟩ => ⟨S2x2048x256, .f32⟩
  | .hbm, ⟨5, _⟩ => ⟨S2x256x64, .f32⟩
  | .hbm, ⟨6, _⟩ => ⟨S8x16x256, .f32⟩
  | .hbm, ⟨7, _⟩ => ⟨S8x4112x256, .f32⟩
  | .hbm, ⟨8, _⟩ => ⟨S256, .i32⟩
  | .hbm, ⟨9, _⟩ => ⟨S256x1, .i32⟩
  | .hbm, ⟨10, _⟩ => ⟨S_, .i32⟩
  | .hbm, ⟨11, _⟩ => ⟨S256x1, .i32⟩
  | .hbm, ⟨12, _⟩ => ⟨S256x1, .i32⟩
  | .hbm, ⟨13, _⟩ => ⟨S32, .i32⟩
  | .hbm, ⟨14, _⟩ => ⟨S1x32, .i32⟩
  | .hbm, ⟨15, _⟩ => ⟨S256x32, .i32⟩
  | .hbm, ⟨16, _⟩ => ⟨S256x32, .i32⟩
  | .hbm, ⟨17, _⟩ => ⟨S256x32, .i32⟩
  | .hbm, ⟨18, _⟩ => ⟨S_, .i32⟩
  | .hbm, ⟨19, _⟩ => ⟨S256x32, .i32⟩
  | .hbm, ⟨20, _⟩ => ⟨S256x32, .i1⟩
  | .hbm, ⟨21, _⟩ => ⟨S_, .i32⟩
  | .hbm, ⟨22, _⟩ => ⟨S256x32, .i32⟩
  | .hbm, ⟨23, _⟩ => ⟨S256x32, .i32⟩
  | .hbm, ⟨24, _⟩ => ⟨S256x32, .i32⟩
  | .hbm, ⟨25, _⟩ => ⟨S256x32x1, .i32⟩
  | .hbm, ⟨26, _⟩ => ⟨S8x256x32x256, .f32⟩
  | .hbm, ⟨27, _⟩ => ⟨S8x256x32x64, .f32⟩
  | .hbm, ⟨28, _⟩ => ⟨S1x32x64, .f32⟩
  | .hbm, ⟨29, _⟩ => ⟨S32x64, .f32⟩
  | .hbm, ⟨30, _⟩ => ⟨S1x2048x256, .f32⟩
  | .hbm, ⟨31, _⟩ => ⟨S2048x256, .f32⟩
  | .hbm, ⟨32, _⟩ => ⟨S1x256x64, .f32⟩
  | .hbm, ⟨33, _⟩ => ⟨S256x64, .f32⟩
  | .hbm, ⟨34, _⟩ => ⟨S1x1x32x64, .f32⟩
  | .hbm, ⟨35, _⟩ => ⟨S8x256x32x64, .f32⟩
  | .hbm, ⟨36, _⟩ => ⟨S8x256x32x64, .f32⟩
  | .hbm, ⟨37, _⟩ => ⟨S8x256x2048, .f32⟩
  | .hbm, ⟨38, _⟩ => ⟨S8x256x256, .f32⟩
  | .hbm, ⟨39, _⟩ => ⟨S8x256x256, .f32⟩
  | .hbm, ⟨40, _⟩ => ⟨S8x256x256, .f32⟩
  | .hbm, ⟨41, _⟩ => ⟨S_, .f32⟩
  | .hbm, ⟨42, _⟩ => ⟨S8x256x256, .f32⟩
  | .hbm, ⟨43, _⟩ => ⟨S8x256x256, .f32⟩
  | .hbm, ⟨44, _⟩ => ⟨S_, .f32⟩
  | .hbm, ⟨45, _⟩ => ⟨S8x256x256, .f32⟩
  | .hbm, ⟨46, _⟩ => ⟨S8x256x256, .f32⟩
  | .hbm, ⟨47, _⟩ => ⟨S8x256x256, .f32⟩
  | .hbm, ⟨48, _⟩ => ⟨S8x256x64, .f32⟩
  | .hbm, ⟨49, _⟩ => ⟨S8x256x32x64, .f32⟩
  | .hbm, ⟨50, _⟩ => ⟨S1x32x64, .f32⟩
  | .hbm, ⟨51, _⟩ => ⟨S32x64, .f32⟩
  | .hbm, ⟨52, _⟩ => ⟨S1x2048x256, .f32⟩
  | .hbm, ⟨53, _⟩ => ⟨S2048x256, .f32⟩
  | .hbm, ⟨54, _⟩ => ⟨S1x256x64, .f32⟩
  | .hbm, ⟨55, _⟩ => ⟨S256x64, .f32⟩
  | .hbm, ⟨56, _⟩ => ⟨S1x1x32x64, .f32⟩
  | .hbm, ⟨57, _⟩ => ⟨S8x256x32x64, .f32⟩
  | .hbm, ⟨58, _⟩ => ⟨S8x256x32x64, .f32⟩
  | .hbm, ⟨59, _⟩ => ⟨S8x256x2048, .f32⟩
  | .hbm, ⟨60, _⟩ => ⟨S8x256x256, .f32⟩
  | .hbm, ⟨61, _⟩ => ⟨S8x256x256, .f32⟩
  | .hbm, ⟨62, _⟩ => ⟨S8x256x256, .f32⟩
  | .hbm, ⟨63, _⟩ => ⟨S_, .f32⟩
  | .hbm, ⟨64, _⟩ => ⟨S8x256x256, .f32⟩
  | .hbm, ⟨65, _⟩ => ⟨S8x256x256, .f32⟩
  | .hbm, ⟨66, _⟩ => ⟨S_, .f32⟩
  | .hbm, ⟨67, _⟩ => ⟨S8x256x256, .f32⟩
  | .hbm, ⟨68, _⟩ => ⟨S8x256x256, .f32⟩
  | .hbm, ⟨69, _⟩ => ⟨S8x256x256, .f32⟩
  | .hbm, ⟨70, _⟩ => ⟨S8x256x64, .f32⟩
  | .hbm, ⟨71, _⟩ => ⟨S8x256x32x64, .f32⟩
  | .hbm, ⟨72, _⟩ => ⟨S1x32x64, .f32⟩
  | .hbm, ⟨73, _⟩ => ⟨S32x64, .f32⟩
  | .hbm, ⟨74, _⟩ => ⟨S1x2048x256, .f32⟩
  | .hbm, ⟨75, _⟩ => ⟨S2048x256, .f32⟩
  | .hbm, ⟨76, _⟩ => ⟨S1x256x64, .f32⟩
  | .hbm, ⟨77, _⟩ => ⟨S256x64, .f32⟩
  | .hbm, ⟨78, _⟩ => ⟨S1x1x32x64, .f32⟩
  | .hbm, ⟨79, _⟩ => ⟨S8x256x32x64, .f32⟩
  | .hbm, ⟨80, _⟩ => ⟨S8x256x32x64, .f32⟩
  | .hbm, ⟨81, _⟩ => ⟨S8x256x2048, .f32⟩
  | .hbm, ⟨82, _⟩ => ⟨S8x256x256, .f32⟩
  | .hbm, ⟨83, _⟩ => ⟨S8x256x256, .f32⟩
  | .hbm, ⟨84, _⟩ => ⟨S8x256x256, .f32⟩
  | .hbm, ⟨85, _⟩ => ⟨S_, .f32⟩
  | .hbm, ⟨86, _⟩ => ⟨S8x256x256, .f32⟩
  | .hbm, ⟨87, _⟩ => ⟨S8x256x256, .f32⟩
  | .hbm, ⟨88, _⟩ => ⟨S_, .f32⟩
  | .hbm, ⟨89, _⟩ => ⟨S8x256x256, .f32⟩
  | .hbm, ⟨90, _⟩ => ⟨S8x256x256, .f32⟩
  | .hbm, ⟨91, _⟩ => ⟨S8x256x256, .f32⟩
  | .hbm, ⟨92, _⟩ => ⟨S8x256x64, .f32⟩
  | .hbm, ⟨93, _⟩ => ⟨S8x256x32x64, .f32⟩
  | .hbm, ⟨94, _⟩ => ⟨S1x32x64, .f32⟩
  | .hbm, ⟨95, _⟩ => ⟨S32x64, .f32⟩
  | .hbm, ⟨96, _⟩ => ⟨S1x2048x256, .f32⟩
  | .hbm, ⟨97, _⟩ => ⟨S2048x256, .f32⟩
  | .hbm, ⟨98, _⟩ => ⟨S1x256x64, .f32⟩
  | .hbm, ⟨99, _⟩ => ⟨S256x64, .f32⟩
  | .hbm, ⟨100, _⟩ => ⟨S1x1x32x64, .f32⟩
  | .hbm, ⟨101, _⟩ => ⟨S8x256x32x64, .f32⟩
  | .hbm, ⟨102, _⟩ => ⟨S8x256x32x64, .f32⟩
  | .hbm, ⟨103, _⟩ => ⟨S8x256x2048, .f32⟩
  | .hbm, ⟨104, _⟩ => ⟨S8x256x256, .f32⟩
  | .hbm, ⟨105, _⟩ => ⟨S8x256x256, .f32⟩
  | .hbm, ⟨106, _⟩ => ⟨S8x256x256, .f32⟩
  | .hbm, ⟨107, _⟩ => ⟨S_, .f32⟩
  | .hbm, ⟨108, _⟩ => ⟨S8x256x256, .f32⟩
  | .hbm, ⟨109, _⟩ => ⟨S8x256x256, .f32⟩
  | .hbm, ⟨110, _⟩ => ⟨S_, .f32⟩
  | .hbm, ⟨111, _⟩ => ⟨S8x256x256, .f32⟩
  | .hbm, ⟨112, _⟩ => ⟨S8x256x256, .f32⟩
  | .hbm, ⟨113, _⟩ => ⟨S8x256x256, .f32⟩
  | .hbm, ⟨114, _⟩ => ⟨S8x256x64, .f32⟩
  | .hbm, ⟨115, _⟩ => ⟨S8x1x256x64, .f32⟩
  | .hbm, ⟨116, _⟩ => ⟨S8x1x256x64, .f32⟩
  | .hbm, ⟨117, _⟩ => ⟨S8x1x256x64, .f32⟩
  | .hbm, ⟨118, _⟩ => ⟨S8x1x256x64, .f32⟩
  | .hbm, ⟨119, _⟩ => ⟨S8x4x256x64, .f32⟩
  | .hbm, ⟨120, _⟩ => ⟨S8x4x256x64, .bf16⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call2_v0 : Ref sig .tc := ⟨.hbm, 83, rfl⟩
abbrev main_call2_v1 : Ref sig .tc := ⟨.hbm, 84, rfl⟩
abbrev main_call2_cst : Ref sig .tc := ⟨.hbm, 85, rfl⟩
abbrev main_call2_v2 : Ref sig .tc := ⟨.hbm, 86, rfl⟩
abbrev main_call2_v3 : Ref sig .tc := ⟨.hbm, 87, rfl⟩
abbrev main_call2_cst_0 : Ref sig .tc := ⟨.hbm, 88, rfl⟩
abbrev main_call2_v4 : Ref sig .tc := ⟨.hbm, 89, rfl⟩
abbrev main_call2_v5 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_call3_v0 : Ref sig .tc := ⟨.hbm, 105, rfl⟩
abbrev main_call3_v1 : Ref sig .tc := ⟨.hbm, 106, rfl⟩
abbrev main_call3_cst : Ref sig .tc := ⟨.hbm, 107, rfl⟩
abbrev main_call3_v2 : Ref sig .tc := ⟨.hbm, 108, rfl⟩
abbrev main_call3_v3 : Ref sig .tc := ⟨.hbm, 109, rfl⟩
abbrev main_call3_cst_0 : Ref sig .tc := ⟨.hbm, 110, rfl⟩
abbrev main_call3_v4 : Ref sig .tc := ⟨.hbm, 111, rfl⟩
abbrev main_call3_v5 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩

abbrev nD : Nat := 1
abbrev τ : Topo := Topo.v7x

variable {F : FTy → Type} [FloatOps F]
-- ==== Kernel6.lean ====
abbrev S8x1024 : Shape := ⟨2, ![8, 1024]⟩
abbrev S2x1024x3072 : Shape := ⟨3, ![2, 1024, 3072]⟩
abbrev S2x3072 : Shape := ⟨2, ![2, 3072]⟩
abbrev S2x1x3072 : Shape := ⟨3, ![2, 1, 3072]⟩
abbrev S2x8x3072 : Shape := ⟨3, ![2, 8, 3072]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x3072, .f32⟩
  | .hbm, ⟨2, _⟩ => ⟨S2x3072, .f32⟩
  | .hbm, ⟨3, _⟩ => ⟨S2x1x3072, .f32⟩
  | .hbm, ⟨4, _⟩ => ⟨S2x8x3072, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8x1024 : Shape := ⟨2, ![8, 1024]⟩
abbrev S2x1024x3072 : Shape := ⟨3, ![2, 1024, 3072]⟩
abbrev S2x3072 : Shape := ⟨2, ![2, 3072]⟩
abbrev S_ : Shape := ⟨0, ![]⟩
abbrev S1x1024x3072 : Shape := ⟨3, ![1, 1024, 3072]⟩
abbrev S1024x3072 : Shape := ⟨2, ![1024, 3072]⟩
abbrev S8x3072 : Shape := ⟨2, ![8, 3072]⟩
abbrev S1x3072 : Shape := ⟨2, ![1, 3072]⟩
abbrev S3072 : Shape := ⟨1, ![3072]⟩
abbrev S1x8x3072 : Shape := ⟨3, ![1, 8, 3072]⟩
abbrev S2x8x3072 : Shape := ⟨3, ![2, 8, 3072]⟩

abbrev nBuf : Space → Nat
  | .hbm => 40
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x3072, .f32⟩
  | .hbm, ⟨2, _⟩ => ⟨S2x3072, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x3072, .f32⟩
  | .hbm, ⟨13, _⟩ => ⟨S1024x3072, .f32⟩
  | .hbm, ⟨14, _⟩ => ⟨S8x3072, .f32⟩
  | .hbm, ⟨15, _⟩ => ⟨S1x3072, .f32⟩
  | .hbm, ⟨16, _⟩ => ⟨S3072, .f32⟩
  | .hbm, ⟨17, _⟩ => ⟨S1x3072, .f32⟩
  | .hbm, ⟨18, _⟩ => ⟨S8x3072, .f32⟩
  | .hbm, ⟨19, _⟩ => ⟨S8x3072, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S_, .f32⟩
  | .hbm, ⟨26, _⟩ => ⟨S8x1024, .f32⟩
  | .hbm, ⟨27, _⟩ => ⟨S8x1024, .f32⟩
  | .hbm, ⟨28, _⟩ => ⟨S8x1024, .f32⟩
  | .hbm, ⟨29, _⟩ => ⟨S1x1024x3072, .f32⟩
  | .hbm, ⟨30, _⟩ => ⟨S1024x3072, .f32⟩
  | .hbm, ⟨31, _⟩ => ⟨S8x3072, .f32⟩
  | .hbm, ⟨32, _⟩ => ⟨S1x3072, .f32⟩
  | .hbm, ⟨33, _⟩ => ⟨S3072, .f32⟩
  | .hbm, ⟨34, _⟩ => ⟨S1x3072, .f32⟩
  | .hbm, ⟨35, _⟩ => ⟨S8x3072, .f32⟩
  | .hbm, ⟨36, _⟩ => ⟨S8x3072, .f32⟩
  | .hbm, ⟨37, _⟩ => ⟨S1x8x3072, .f32⟩
  | .hbm, ⟨38, _⟩ => ⟨S1x8x3072, .f32⟩
  | .hbm, ⟨39, _⟩ => ⟨S2x8x3072, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Proof.Rows.lean ====
/-
  What the layer's projections compute from one token's row: the product with a weight matrix, the gated residual, the
  rms norm with its gain, the modulation by scale and shift, and the sigmoid.
-/
module

public import Idealize.ShloMosaic.PureOps.Ideal
public import Idealize.ShloMosaic.Lib.Pointwise

@[expose] public section

noncomputable section

namespace Rows

open Idealize.ShloMosaic Idealize.ShloMosaic.Pointwise

/-- A row of extended reals. -/
abbrev Row (n : ℕ) := Fin n → EReal

/-- A row times a matrix. -/
def mul {K N : ℕ} (a : Row K) (w : Fin K → Row N) : Row N := fun n => ∑ k, a k * w k n

/-- The gated residual. -/
def resid (x gate out : Row 1024) : Row 1024 := fun n => x n + gate n * out n

/-- The rms norm with its gain. -/
def norm (x g : Row 1024) : Row 1024 := fun n =>
  x n * Ideal.rsqrt (Ideal.div (∑ e, x e * x e) (Ideal.ofBits .f32 0x44800000#32) + Ideal.ofBits .f32 0x358637BD#32) * g n

/-- The modulation by scale and shift. -/
def modulate (h scale shift : Row 1024) : Row 1024 := fun n => h n * (1 + scale n) + shift n

/-- The sigmoid. -/
def sigm (x : EReal) : EReal := Ideal.div 1 (1 + Ideal.exp (-x))

theorem zero3 : (![0, 0, 0] : Fin 3 → Nat) = fun _ => 0 := by funext a; fin_cases a <;> rfl
theorem zero2 : (![0, 0] : Fin 2 → Nat) = fun _ => 0 := by funext a; fin_cases a <;> rfl

/-- Where a window of 512 rows lies in its array, at point `t` of eight blocks of rows for each of eight batch rows. -/
theorem row_idx {N t : ℕ} {j : Shape.Idx ⟨3, ![8, 4096, N]⟩} {B : Fin 8} {T : Fin 4096} {r : Fin 512} {n : Fin N} {i0 i1 i2 : ℕ}
    (hB : B.val = t / 8) (hT : T.val = 512 * (t % 8) + r.val) (h : i0 = t / 8 ∧ i1 = t % 8 ∧ i2 = 0)
    (e0 : (j 0).val = i0 * 1 + 1 * 0) (e1 : (j 1).val = i1 * 512 + 1 * r.val) (e2 : (j 2).val = i2 * N + 1 * n.val) : j = ix3 B T n := by
  obtain ⟨rfl, rfl, rfl⟩ := h
  exact funext fun a => match a with
    | ⟨0, _⟩ => Fin.ext (e0.trans (by show _ = B.val; omega))
    | ⟨1, _⟩ => Fin.ext (e1.trans (by show _ = T.val; omega))
    | ⟨2, _⟩ => Fin.ext (e2.trans (by show _ = n.val; omega))

/-- Where a window of one vector for each batch row lies. -/
theorem batch_idx {N t : ℕ} {j : Shape.Idx ⟨3, ![8, 1, N]⟩} {B : Fin 8} {n : Fin N} {i0 i1 i2 : ℕ}
    (hB : B.val = t / 8) (h : i0 = t / 8 ∧ i1 = 0 ∧ i2 = 0)
    (e0 : (j 0).val = i0 * 1 + 1 * 0) (e1 : (j 1).val = i1 * 1 + 1 * 0) (e2 : (j 2).val = i2 * N + 1 * n.val) : j = ix3 B 0 n := by
  obtain ⟨rfl, rfl, rfl⟩ := h
  exact funext fun a => match a with
    | ⟨0, _⟩ => Fin.ext (e0.trans (by show _ = B.val; omega))
    | ⟨1, _⟩ => Fin.ext (e1.trans (by rfl))
    | ⟨2, _⟩ => Fin.ext (e2.trans (by show _ = n.val; omega))

/-- A window of a whole array. -/
theorem whole_idx {K N : ℕ} {j : Shape.Idx ⟨2, ![K, N]⟩} {k : Fin K} {n : Fin N} {i0 i1 : ℕ} (h : i0 = 0 ∧ i1 = 0)
    (e0 : (j 0).val = i0 * K + 1 * k.val) (e1 : (j 1).val = i1 * N + 1 * n.val) : j = ix2 k n := by
  obtain ⟨rfl, rfl⟩ := h
  exact funext fun a => match a with
    | ⟨0, _⟩ => Fin.ext (e0.trans (by show _ = k.val; omega))
    | ⟨1, _⟩ => Fin.ext (e1.trans (by show _ = n.val; omega))

/-- Two arrays that hold the same at every token are one. -/
theorem same {α : Type} {N : ℕ} {a b : (⟨3, ![8, 4096, N]⟩ : Shape).Idx → EReal} {u v : Fin 8 → Fin 4096 → α} (f : α → Row N)
    (ha : ∀ B T n, a (ix3 B T n) = f (u B T) n) (hb : ∀ B T n, b (ix3 B T n) = f (v B T) n) (h : u = v) : a = b := by
  subst h
  funext j
  obtain ⟨B, T, n, rfl⟩ : ∃ B T n, j = ix3 B T n := ⟨_, _, _, eq_ix3 j⟩
  exact (ha B T n).trans (hb B T n).symm

end Rows

end
-- ==== Proof.Post.lean ====
/-
  The call between the recurrent layer and the attention: the output projection with its gated residual, the keys' and
  values' projections of one norm, and the queries', gates' and side projections of another, modulated one. Each grid point
  takes 512 rows; the six arrays that it leaves hold, at every row, what the rows of the arguments say.
-/
module

public import proofs.«01_k».proof.Proof.Rows
public import proofs.«01_k».proof.Proof.Gen.Kernel2Ideal.Value

@[expose] public section

set_option maxRecDepth 4096

noncomputable section

namespace Rows.Post

open Idealize.ShloMosaic Idealize.ShloMosaic.TcCoe Idealize.ShloMosaic.Pointwise

/-- What one token's results depend on. -/
structure Tok where
  x : Row 1024
  og : Row 1024
  gate : Row 1024
  wo : Fin 1024 → Row 1024
  kvg : Row 1024
  wkvc : Fin 1024 → Row 256
  wkvr : Fin 1024 → Row 512
  g1 : Row 1024
  scale : Row 1024
  shift : Row 1024
  wq : Fin 1024 → Row 1024
  wz : Fin 1024 → Row 3072
  wg : Fin 1024 → Row 128

namespace Tok

variable (A : Tok)

/-- The residual. -/
def x1 : Row 1024 := resid A.x A.gate (mul A.og A.wo)
/-- The norm before the keys and values. -/
def s : Row 1024 := norm A.x1 A.kvg
/-- The modulated norm. -/
def h : Row 1024 := modulate (norm A.x1 A.g1) A.scale A.shift
def kvc : Row 256 := mul A.s A.wkvc
def kvr : Row 512 := mul A.s A.wkvr
/-- The queries, scaled. -/
def q : Row 1024 := fun n => mul A.h A.wq n * Ideal.ofBits .f32 0x3E38AA3B#32
def z : Row 3072 := mul A.h A.wz
def gates : Row 128 := fun n => sigm (mul A.h A.wg n)

end Tok

section kernel

open Cert.Kernel2Ideal Cert.Kernel2Ideal.Gen Cert.Kernel2Ideal.Value

/-! ## A point's block -/

theorem pay4_at (og : Vec Ideal S1x512x1024 .bf16) (wo : Vec Ideal S1024x1024 .bf16) (x : Vec Ideal S1x512x1024 .f32) (gate : Vec Ideal S1x1x1024 .f32)
    (r : Fin 512) (n : Fin 1024) :
    k0_pay4 og wo x gate (ix2 r n)
      = resid (fun n => x (ix3 0 r n)) (fun n => gate (ix3 0 0 n)) (mul (fun k => og (ix3 0 r k)) fun k n => wo (ix2 k n)) n := by
  pointwise [k0_pay4]
  rfl

theorem pay6_at (og : Vec Ideal S1x512x1024 .bf16) (wo : Vec Ideal S1024x1024 .bf16) (x : Vec Ideal S1x512x1024 .f32) (gate : Vec Ideal S1x1x1024 .f32)
    (g : Vec Ideal S1x1024 .f32) (r : Fin 512) (n : Fin 1024) :
    k0_pay6 og wo x gate g (ix2 r n) = norm (fun n => k0_pay4 og wo x gate (ix2 r n)) (fun n => g (ix2 0 n)) n := by
  pointwise [k0_pay6]
  rfl

theorem pay10_at (v : FVec Ideal S512x1024 .f32) (g : Vec Ideal S1x1024 .f32) (scale shift : Vec Ideal S1x1x1024 .f32)
    (r : Fin 512) (n : Fin 1024) :
    k0_pay10 v g scale shift (ix2 r n)
      = modulate (norm (fun n => v (ix2 r n)) fun n => g (ix2 0 n)) (fun n => scale (ix3 0 0 n)) (fun n => shift (ix3 0 0 n)) n := by
  pointwise [k0_pay10]
  rfl

section tile

variable (x0 : Vec Ideal S1x512x1024 .f32) (x1 : Vec Ideal S1x512x1024 .bf16) (x2 : Vec Ideal S1x1x1024 .f32) (x3 : Vec Ideal S1024x1024 .bf16)
  (x4 : Vec Ideal S1x1024 .f32) (x5 : Vec Ideal S1024x256 .bf16) (x6 : Vec Ideal S1024x512 .bf16) (x7 : Vec Ideal S1x1024 .f32)
  (x8 x9 : Vec Ideal S1x1x1024 .f32) (x10 : Vec Ideal S1024x1024 .bf16) (x11 : Vec Ideal S1024x3072 .bf16) (x12 : Vec Ideal S1024x128 .bf16)

/-- A token of a point, from the blocks that the point reads. -/
def tokB (r : Fin 512) : Tok where
  x n := x0 (ix3 0 r n)
  og k := x1 (ix3 0 r k)
  gate n := x2 (ix3 0 0 n)
  wo k n := x3 (ix2 k n)
  kvg n := x4 (ix2 0 n)
  wkvc k n := x5 (ix2 k n)
  wkvr k n := x6 (ix2 k n)
  g1 n := x7 (ix2 0 n)
  scale n := x8 (ix3 0 0 n)
  shift n := x9 (ix3 0 0 n)
  wq k n := x10 (ix2 k n)
  wz k n := x11 (ix2 k n)
  wg k n := x12 (ix2 k n)

variable (r : Fin 512)

theorem pay12_at (n : Fin 1024) : k0_pay12 x0 x1 x2 x3 x4 x5 x6 x7 x8 x9 x10 x11 x12 (ix2 r n) = (tokB x0 x1 x2 x3 x4 x5 x6 x7 x8 x9 x10 x11 x12 r).x1 n := by
  unfold k0_pay12
  simp only [View.ld_unit_zero (S := S1x512x1024) zero3, View.ld_unit_zero (S := S1x1x1024) zero3, View.ld_unit_zero (S := S1024x1024) zero2]
  exact pay4_at x1 x3 x0 x2 r n

theorem pay13_at (n : Fin 1024) : k0_pay13 x0 x1 x2 x3 x4 x5 x6 x7 x8 x9 x10 x11 x12 (ix2 r n) = (tokB x0 x1 x2 x3 x4 x5 x6 x7 x8 x9 x10 x11 x12 r).h n := by
  unfold k0_pay13
  simp only [View.ld_unit_zero (S := S1x1024) zero2, View.ld_unit_zero (S := S1x1x1024) zero3]
  refine (pay10_at _ x7 x8 x9 r n).trans ?_
  simp only [pay12_at]
  rfl

theorem tile13 (n : Fin 1024) : out0_13 x0 x1 x2 x3 x4 x5 x6 x7 x8 x9 x10 x11 x12 (ix3 (0 : Fin 1) r n) = (tokB x0 x1 x2 x3 x4 x5 x6 x7 x8 x9 x10 x11 x12 r).x1 n := by
  unfold out0_13
  rw [View.canon_cons_unit_zero zero3]
  simp only [View.ld_unit_zero (S := S1x512x1024) zero3, View.ld_unit_zero (S := S1x1x1024) zero3, View.ld_unit_zero (S := S1024x1024) zero2]
  pointwise [k0_pay5]
  exact pay4_at x1 x3 x0 x2 r n

theorem tile14 (n : Fin 256) : out0_14 x0 x1 x2 x3 x4 x5 x6 x7 x8 x9 x10 x11 x12 (ix3 (0 : Fin 1) r n) = (tokB x0 x1 x2 x3 x4 x5 x6 x7 x8 x9 x10 x11 x12 r).kvc n := by
  unfold out0_14
  rw [View.canon_cons_unit_zero zero3]
  simp only [View.ld_unit_zero (S := S1x512x1024) zero3, View.ld_unit_zero (S := S1x1x1024) zero3, View.ld_unit_zero (S := S1024x1024) zero2,
    View.ld_unit_zero (S := S1x1024) zero2, View.ld_unit_zero (S := S1024x256) zero2]
  pointwise [k0_pay8, k0_pay7]
  simp only [pay6_at, pay4_at]
  rfl

theorem tile15 (n : Fin 512) : out0_15 x0 x1 x2 x3 x4 x5 x6 x7 x8 x9 x10 x11 x12 (ix3 (0 : Fin 1) r n) = (tokB x0 x1 x2 x3 x4 x5 x6 x7 x8 x9 x10 x11 x12 r).kvr n := by
  unfold out0_15
  rw [View.canon_cons_unit_zero zero3]
  simp only [View.ld_unit_zero (S := S1x512x1024) zero3, View.ld_unit_zero (S := S1x1x1024) zero3, View.ld_unit_zero (S := S1024x1024) zero2,
    View.ld_unit_zero (S := S1x1024) zero2, View.ld_unit_zero (S := S1024x512) zero2]
  pointwise [k0_pay9]
  simp only [pay6_at, pay4_at]
  rfl

theorem tile16 (n : Fin 1024) : out0_16 x0 x1 x2 x3 x4 x5 x6 x7 x8 x9 x10 x11 x12 (ix3 (0 : Fin 1) r n) = (tokB x0 x1 x2 x3 x4 x5 x6 x7 x8 x9 x10 x11 x12 r).q n := by
  unfold out0_16
  rw [View.canon_cons_unit_zero zero3]
  simp only [View.ld_unit_zero (S := S1x1x1024) zero3, View.ld_unit_zero (S := S1024x1024) zero2, View.ld_unit_zero (S := S1x1024) zero2]
  pointwise [k0_pay1, k0_pay11]
  simp only [pay10_at, pay12_at]
  rfl

theorem tile17 (n : Fin 3072) : out0_17 x0 x1 x2 x3 x4 x5 x6 x7 x8 x9 x10 x11 x12 (ix3 (0 : Fin 1) r n) = (tokB x0 x1 x2 x3 x4 x5 x6 x7 x8 x9 x10 x11 x12 r).z n := by
  unfold out0_17
  rw [View.canon_cons_unit_zero zero3]
  simp only [View.ld_unit_zero (S := S1024x3072) zero2]
  pointwise [k0_pay2]
  simp only [pay13_at]
  rfl

theorem tile18 (n : Fin 128) : out0_18 x0 x1 x2 x3 x4 x5 x6 x7 x8 x9 x10 x11 x12 (ix3 (0 : Fin 1) r n) = (tokB x0 x1 x2 x3 x4 x5 x6 x7 x8 x9 x10 x11 x12 r).gates n := by
  unfold out0_18
  rw [View.canon_cons_unit_zero zero3]
  simp only [View.ld_unit_zero (S := S1024x128) zero2]
  pointwise [k0_pay3]
  have hz (x : EReal) : 0 - x = -x := by rw [sub_eq_add_neg, zero_add]
  simp only [pay13_at, hz]
  rfl

end tile

/-! ## Where the windows of a point lie -/

variable (m : (ℓ : Loc nD τ sig) → Buf (Elt Ideal) ℓ) (c : Dev nD) (t : Fin cfg0.N)

/-- A point's batch row and block of rows. -/
abbrev row_ (t : Fin cfg0.N) : Fin 8 := ⟨t.val / 8, by have := lt_of_lt_of_eq t.isLt (show cfg0.N = 64 from N_0); omega⟩
abbrev blk_ (t : Fin cfg0.N) : Fin 8 := ⟨t.val % 8, by omega⟩
abbrev pos_ (t : Fin cfg0.N) (r : Fin 512) : Fin 4096 := ⟨512 * (blk_ t).val + r.val, by omega⟩

/-- The windows that take a block of rows. -/
theorem rows_ : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = t.val % 8 ∧ win0_1.index t (2 : Fin 3) = 0)
    ∧ (win0_13.index t (0 : Fin 3) = t.val / 8 ∧ win0_13.index t (1 : Fin 3) = t.val % 8 ∧ win0_13.index t (2 : Fin 3) = 0)
    ∧ (win0_14.index t (0 : Fin 3) = t.val / 8 ∧ win0_14.index t (1 : Fin 3) = t.val % 8 ∧ win0_14.index t (2 : Fin 3) = 0)
    ∧ (win0_15.index t (0 : Fin 3) = t.val / 8 ∧ win0_15.index t (1 : Fin 3) = t.val % 8 ∧ win0_15.index t (2 : Fin 3) = 0)
    ∧ (win0_16.index t (0 : Fin 3) = t.val / 8 ∧ win0_16.index t (1 : Fin 3) = t.val % 8 ∧ win0_16.index t (2 : Fin 3) = 0)
    ∧ (win0_17.index t (0 : Fin 3) = t.val / 8 ∧ win0_17.index t (1 : Fin 3) = t.val % 8 ∧ win0_17.index t (2 : Fin 3) = 0)
    ∧ (win0_18.index t (0 : Fin 3) = t.val / 8 ∧ win0_18.index t (1 : Fin 3) = t.val % 8 ∧ win0_18.index t (2 : Fin 3) = 0) :=
  (by decide +kernel : ∀ t : Fin grid0.N, _)

/-- The windows that take a batch row's vector. -/
theorem batch_ : ∀ t : Fin cfg0.N,
    (win0_2.index t (0 : Fin 3) = t.val / 8 ∧ win0_2.index t (1 : Fin 3) = 0 ∧ win0_2.index t (2 : Fin 3) = 0)
    ∧ (win0_8.index t (0 : Fin 3) = t.val / 8 ∧ win0_8.index t (1 : Fin 3) = 0 ∧ win0_8.index t (2 : Fin 3) = 0)
    ∧ (win0_9.index t (0 : Fin 3) = t.val / 8 ∧ win0_9.index t (1 : Fin 3) = 0 ∧ win0_9.index t (2 : Fin 3) = 0) :=
  (by decide +kernel : ∀ t : Fin grid0.N, _)

/-- The windows that take a whole array. -/
theorem whole_ : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-- Every point writes its blocks back. -/
theorem flush_ : ∀ t : Fin cfg0.N,
    (cfg0.win 13).flush t = true ∧ (cfg0.win 14).flush t = true ∧ (cfg0.win 15).flush t = true ∧ (cfg0.win 16).flush t = true ∧ (cfg0.win 17).flush t = true ∧ (cfg0.win 18).flush t = true :=
  (by decide +kernel : ∀ t : Fin grid0.N, _)

/-! ## The blocks that a point reads -/

theorem blk0 (r : Fin 512) (n : Fin 1024) : iblk m c 0 t (ix3 (0 : Fin 1) r n) = m ((c : Thread nD τ).loc main_arg0) (ix3 (row_ t) (pos_ t r) n) :=
  congrArg (V m c main_arg0) (row_idx rfl rfl (rows_ t).1 rfl rfl rfl)

theorem blk1 (r : Fin 512) (n : Fin 1024) : iblk m c 1 t (ix3 (0 : Fin 1) r n) = m ((c : Thread nD τ).loc main_arg1) (ix3 (row_ t) (pos_ t r) n) :=
  congrArg (V m c main_arg1) (row_idx rfl rfl (rows_ t).2.1 rfl rfl rfl)

theorem blk2 (n : Fin 1024) : iblk m c 2 t (ix3 (0 : Fin 1) (0 : Fin 1) n) = m ((c : Thread nD τ).loc main_arg2) (ix3 (row_ t) (0 : Fin 1) n) :=
  congrArg (V m c main_arg2) (batch_idx rfl (batch_ t).1 rfl rfl rfl)

theorem blk8 (n : Fin 1024) : iblk m c 8 t (ix3 (0 : Fin 1) (0 : Fin 1) n) = m ((c : Thread nD τ).loc main_arg8) (ix3 (row_ t) (0 : Fin 1) n) :=
  congrArg (V m c main_arg8) (batch_idx rfl (batch_ t).2.1 rfl rfl rfl)

theorem blk9 (n : Fin 1024) : iblk m c 9 t (ix3 (0 : Fin 1) (0 : Fin 1) n) = m ((c : Thread nD τ).loc main_arg9) (ix3 (row_ t) (0 : Fin 1) n) :=
  congrArg (V m c main_arg9) (batch_idx rfl (batch_ t).2.2 rfl rfl rfl)

theorem blk3 (k : Fin 1024) (n : Fin 1024) : iblk m c 3 t (ix2 k n) = m ((c : Thread nD τ).loc main_arg3) (ix2 k n) :=
  congrArg (V m c main_arg3) (whole_idx (whole_ t).1 rfl rfl)

theorem blk4 (k : Fin 1) (n : Fin 1024) : iblk m c 4 t (ix2 k n) = m ((c : Thread nD τ).loc main_arg4) (ix2 k n) :=
  congrArg (V m c main_arg4) (whole_idx (whole_ t).2.1 rfl rfl)

theorem blk5 (k : Fin 1024) (n : Fin 256) : iblk m c 5 t (ix2 k n) = m ((c : Thread nD τ).loc main_arg5) (ix2 k n) :=
  congrArg (V m c main_arg5) (whole_idx (whole_ t).2.2.1 rfl rfl)

theorem blk6 (k : Fin 1024) (n : Fin 512) : iblk m c 6 t (ix2 k n) = m ((c : Thread nD τ).loc main_arg6) (ix2 k n) :=
  congrArg (V m c main_arg6) (whole_idx (whole_ t).2.2.2.1 rfl rfl)

theorem blk7 (k : Fin 1) (n : Fin 1024) : iblk m c 7 t (ix2 k n) = m ((c : Thread nD τ).loc main_arg7) (ix2 k n) :=
  congrArg (V m c main_arg7) (whole_idx (whole_ t).2.2.2.2.1 rfl rfl)

theorem blk10 (k : Fin 1024) (n : Fin 1024) : iblk m c 10 t (ix2 k n) = m ((c : Thread nD τ).loc main_arg10) (ix2 k n) :=
  congrArg (V m c main_arg10) (whole_idx (whole_ t).2.2.2.2.2.1 rfl rfl)

theorem blk11 (k : Fin 1024) (n : Fin 3072) : iblk m c 11 t (ix2 k n) = m ((c : Thread nD τ).loc main_arg11) (ix2 k n) :=
  congrArg (V m c main_arg11) (whole_idx (whole_ t).2.2.2.2.2.2.1 rfl rfl)

theorem blk12 (k : Fin 1024) (n : Fin 128) : iblk m c 12 t (ix2 k n) = m ((c : Thread nD τ).loc main_arg12) (ix2 k n) :=
  congrArg (V m c main_arg12) (whole_idx (whole_ t).2.2.2.2.2.2.2 rfl rfl)

/-- A token, from the arguments in memory. -/
def tok (B : Fin 8) (T : Fin 4096) : Tok where
  x n := m ((c : Thread nD τ).loc main_arg0) (ix3 B T n)
  og k := m ((c : Thread nD τ).loc main_arg1) (ix3 B T k)
  gate n := m ((c : Thread nD τ).loc main_arg2) (ix3 B 0 n)
  wo k n := m ((c : Thread nD τ).loc main_arg3) (ix2 k n)
  kvg n := m ((c : Thread nD τ).loc main_arg4) (ix2 0 n)
  wkvc k n := m ((c : Thread nD τ).loc main_arg5) (ix2 k n)
  wkvr k n := m ((c : Thread nD τ).loc main_arg6) (ix2 k n)
  g1 n := m ((c : Thread nD τ).loc main_arg7) (ix2 0 n)
  scale n := m ((c : Thread nD τ).loc main_arg8) (ix3 B 0 n)
  shift n := m ((c : Thread nD τ).loc main_arg9) (ix3 B 0 n)
  wq k n := m ((c : Thread nD τ).loc main_arg10) (ix2 k n)
  wz k n := m ((c : Thread nD τ).loc main_arg11) (ix2 k n)
  wg k n := m ((c : Thread nD τ).loc main_arg12) (ix2 k n)

/-- The blocks of a point hold its tokens. -/
theorem tokB_eq (r : Fin 512) :
    tokB (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) r = tok m c (row_ t) (pos_ t r) := by
  unfold tokB tok
  simp only [blk0, blk1, blk2, blk3, blk4, blk5, blk6, blk7, blk8, blk9, blk10, blk11, blk12]

/-! ## THE KERNEL'S VALUES: every entry of each array -/

/-- A token's point, block of rows and place in the block. -/
theorem place (B : Fin 8) (T : Fin 4096) : ∃ (t : Fin cfg0.N) (r : Fin 512), row_ t = B ∧ pos_ t r = T :=
  ⟨⟨8 * B.val + T.val / 512, lt_of_lt_of_eq (by omega : _ < 64) (show cfg0.N = 64 from N_0).symm⟩, ⟨T.val % 512, by omega⟩,
    Fin.ext (by show (8 * B.val + T.val / 512) / 8 = B.val; omega),
    Fin.ext (by show 512 * ((8 * B.val + T.val / 512) % 8) + T.val % 512 = T.val; omega)⟩

theorem arr13 (B : Fin 8) (T : Fin 4096) (n : Fin 1024) : (dats m 0 c).arrAt 13 cfg0.N (ix3 B T n) = (tok m c B T).x1 n := by
  obtain ⟨t, r, rfl, rfl⟩ := place B T
  exact (congrArg ((dats m 0 c).arrAt 13 cfg0.N) (row_idx rfl rfl (rows_ t).2.2.1 rfl rfl rfl).symm).trans
    ((congrFun ((blocks13 m c t (flush_ t).1).trans (flushed13 m c t)) (ix3 (0 : Fin 1) r n)).trans
      ((tile13 _ _ _ _ _ _ _ _ _ _ _ _ _ r n).trans (by rw [tokB_eq])))

theorem arr14 (B : Fin 8) (T : Fin 4096) (n : Fin 256) : (dats m 0 c).arrAt 14 cfg0.N (ix3 B T n) = (tok m c B T).kvc n := by
  obtain ⟨t, r, rfl, rfl⟩ := place B T
  exact (congrArg ((dats m 0 c).arrAt 14 cfg0.N) (row_idx rfl rfl (rows_ t).2.2.2.1 rfl rfl rfl).symm).trans
    ((congrFun ((blocks14 m c t (flush_ t).2.1).trans (flushed14 m c t)) (ix3 (0 : Fin 1) r n)).trans
      ((tile14 _ _ _ _ _ _ _ _ _ _ _ _ _ r n).trans (by rw [tokB_eq])))

theorem arr15 (B : Fin 8) (T : Fin 4096) (n : Fin 512) : (dats m 0 c).arrAt 15 cfg0.N (ix3 B T n) = (tok m c B T).kvr n := by
  obtain ⟨t, r, rfl, rfl⟩ := place B T
  exact (congrArg ((dats m 0 c).arrAt 15 cfg0.N) (row_idx rfl rfl (rows_ t).2.2.2.2.1 rfl rfl rfl).symm).trans
    ((congrFun ((blocks15 m c t (flush_ t).2.2.1).trans (flushed15 m c t)) (ix3 (0 : Fin 1) r n)).trans
      ((tile15 _ _ _ _ _ _ _ _ _ _ _ _ _ r n).trans (by rw [tokB_eq])))

theorem arr16 (B : Fin 8) (T : Fin 4096) (n : Fin 1024) : (dats m 0 c).arrAt 16 cfg0.N (ix3 B T n) = (tok m c B T).q n := by
  obtain ⟨t, r, rfl, rfl⟩ := place B T
  exact (congrArg ((dats m 0 c).arrAt 16 cfg0.N) (row_idx rfl rfl (rows_ t).2.2.2.2.2.1 rfl rfl rfl).symm).trans
    ((congrFun ((blocks16 m c t (flush_ t).2.2.2.1).trans (flushed16 m c t)) (ix3 (0 : Fin 1) r n)).trans
      ((tile16 _ _ _ _ _ _ _ _ _ _ _ _ _ r n).trans (by rw [tokB_eq])))

theorem arr17 (B : Fin 8) (T : Fin 4096) (n : Fin 3072) : (dats m 0 c).arrAt 17 cfg0.N (ix3 B T n) = (tok m c B T).z n := by
  obtain ⟨t, r, rfl, rfl⟩ := place B T
  exact (congrArg ((dats m 0 c).arrAt 17 cfg0.N) (row_idx rfl rfl (rows_ t).2.2.2.2.2.2.1 rfl rfl rfl).symm).trans
    ((congrFun ((blocks17 m c t (flush_ t).2.2.2.2.1).trans (flushed17 m c t)) (ix3 (0 : Fin 1) r n)).trans
      ((tile17 _ _ _ _ _ _ _ _ _ _ _ _ _ r n).trans (by rw [tokB_eq])))

theorem arr18 (B : Fin 8) (T : Fin 4096) (n : Fin 128) : (dats m 0 c).arrAt 18 cfg0.N (ix3 B T n) = (tok m c B T).gates n := by
  obtain ⟨t, r, rfl, rfl⟩ := place B T
  exact (congrArg ((dats m 0 c).arrAt 18 cfg0.N) (row_idx rfl rfl (rows_ t).2.2.2.2.2.2.2 rfl rfl rfl).symm).trans
    ((congrFun ((blocks18 m c t (flush_ t).2.2.2.2.2).trans (flushed18 m c t)) (ix3 (0 : Fin 1) r n)).trans
      ((tile18 _ _ _ _ _ _ _ _ _ _ _ _ _ r n).trans (by rw [tokB_eq])))

end kernel

end Rows.Post

end
-- ==== Proof.PostRef.lean ====
/-
  The reference of the call between the recurrent layer and the attention: its six results, read at a token, and their
  equality with the kernel's.
-/
module

public import proofs.«01_k».proof.Proof.Post
public import proofs.«01_k».proof.Proof.Gen.Reference2Ideal.Run

@[expose] public section

set_option maxRecDepth 4096

noncomputable section

namespace Rows.Post

open Idealize.ShloMosaic Idealize.ShloMosaic.TcCoe Idealize.ShloMosaic.Pointwise
open Cert.Reference2Ideal Cert.Reference2Ideal.Gen

/-! ## The reference's operations, step by step -/

def rX1 (x : FVec Ideal S8x4096x1024 .f32) (og : FVec Ideal S8x4096x1024 .bf16) (gate : FVec Ideal S8x1x1024 .f32) (wo : FVec Ideal S1024x1024 .bf16) :
    FVec Ideal S8x4096x1024 .f32 :=
  addf x (mulf (broadcastInDim S8x4096x1024 ![0, 1, 2] bcast_S8x1x1024_S8x4096x1024_0_1_2 gate)
    (Host.dotGeneral dot_S8x4096x1024_S1024x1024_S8x4096x1024_2_0_01_1_n_n none (extf .f32 og bitsLt_bf16_f32) (extf .f32 wo bitsLt_bf16_f32)))

def rNorm (x : FVec Ideal S8x4096x1024 .f32) (g : FVec Ideal S1x1024 .f32) : FVec Ideal S8x4096x1024 .f32 :=
  mulf (mulf x (broadcastInDim S8x4096x1024 ![0, 1, 2] bcast_S8x4096x1_S8x4096x1024_0_1_2 (Host.rsqrt (addf (Host.divf
    (broadcastInDim S8x4096x1 ![0, 1] bcast_S8x4096_S8x4096x1_0_1 (Host.reduceAdd (mulf x x) (constant S_ .f32 0x00000000#32) reducesTo_S8x4096x1024_S8x4096_d2 h_S_))
    (broadcastInDim S8x4096x1 ![] bcast_S_S8x4096x1 (constant S_ .f32 0x44800000#32)))
    (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 (shapeCast S1024 g shapeCasts_S1x1024_S1024)))

def rMod (h : FVec Ideal S8x4096x1024 .f32) (scale shift : FVec Ideal S8x1x1024 .f32) : FVec Ideal S8x4096x1024 .f32 :=
  addf (mulf h (broadcastInDim S8x4096x1024 ![0, 1, 2] bcast_S8x1x1024_S8x4096x1024_0_1_2
      (addf (broadcastInDim S8x1x1024 ![] bcast_S_S8x1x1024 (constant S_ .f32 0x3F800000#32)) scale)))
    (broadcastInDim S8x4096x1024 ![0, 1, 2] bcast_S8x1x1024_S8x4096x1024_0_1_2 shift)

def rKvc (s : FVec Ideal S8x4096x1024 .f32) (w : FVec Ideal S1024x256 .bf16) : FVec Ideal S8x4096x256 .f32 :=
  Host.dotGeneral dot_S8x4096x1024_S1024x256_S8x4096x256_2_0_01_1_n_n none s (extf .f32 w bitsLt_bf16_f32)

def rKvr (s : FVec Ideal S8x4096x1024 .f32) (w : FVec Ideal S1024x512 .bf16) : FVec Ideal S8x4096x512 .bf16 :=
  truncf .bf16 (Host.dotGeneral dot_S8x4096x1024_S1024x512_S8x4096x512_2_0_01_1_n_n none s (extf .f32 w bitsLt_bf16_f32)) bitsLt_bf16_f32

def rQ (h : FVec Ideal S8x4096x1024 .f32) (w : FVec Ideal S1024x1024 .bf16) : FVec Ideal S8x4096x1024 .bf16 :=
  truncf .bf16 (mulf (mulf (Host.dotGeneral dot_S8x4096x1024_S1024x1024_S8x4096x1024_2_0_01_1_n_n none h (extf .f32 w bitsLt_bf16_f32))
    (broadcastInDim S8x4096x1024 ![] bcast_S_S8x4096x1024 (constant S_ .f32 0x3E000000#32)))
    (broadcastInDim S8x4096x1024 ![] bcast_S_S8x4096x1024 (constant S_ .f32 0x3FB8AA3B#32))) bitsLt_bf16_f32

def rZ (h : FVec Ideal S8x4096x1024 .f32) (w : FVec Ideal S1024x3072 .bf16) : FVec Ideal S8x4096x3072 .bf16 :=
  truncf .bf16 (Host.dotGeneral dot_S8x4096x1024_S1024x3072_S8x4096x3072_2_0_01_1_n_n none h (extf .f32 w bitsLt_bf16_f32)) bitsLt_bf16_f32

def rGates (h : FVec Ideal S8x4096x1024 .f32) (w : FVec Ideal S1024x128 .bf16) : FVec Ideal S8x4096x128 .f32 :=
  Host.divf (broadcastInDim S8x4096x128 ![] bcast_S_S8x4096x128 (constant S_ .f32 0x3F800000#32))
    (addf (broadcastInDim S8x4096x128 ![] bcast_S_S8x4096x128 (constant S_ .f32 0x3F800000#32))
      (Host.exp (Host.negf (Host.dotGeneral dot_S8x4096x1024_S1024x128_S8x4096x128_2_0_01_1_n_n none h (extf .f32 w bitsLt_bf16_f32)))))

/-- The queries' two factors are the kernel's one. -/
theorem scale_eq : Ideal.ofBits .f32 0x3E000000#32 * Ideal.ofBits .f32 0x3FB8AA3B#32 = Ideal.ofBits .f32 0x3E38AA3B#32 := by
  simp [Ideal.ofBits, Ideal.ieee, -EReal.coe_mul]
  rw [← EReal.coe_mul]
  norm_num

/-! ## Their entries -/

section entries

variable (B : Fin 8) (T : Fin 4096)

theorem rX1_at (x : FVec Ideal S8x4096x1024 .f32) (og : FVec Ideal S8x4096x1024 .bf16) (gate : FVec Ideal S8x1x1024 .f32) (wo : FVec Ideal S1024x1024 .bf16)
    (n : Fin 1024) :
    rX1 x og gate wo (ix3 B T n) = resid (fun n => x (ix3 B T n)) (fun n => gate (ix3 B 0 n)) (mul (fun k => og (ix3 B T k)) fun k n => wo (ix2 k n)) n := by
  pointwise [rX1]
  rfl

theorem rNorm_at (x : FVec Ideal S8x4096x1024 .f32) (g : FVec Ideal S1x1024 .f32) (n : Fin 1024) :
    rNorm x g (ix3 B T n) = norm (fun n => x (ix3 B T n)) (fun n => g (ix2 0 n)) n := by
  pointwise [rNorm]
  rfl

theorem rMod_at (h : FVec Ideal S8x4096x1024 .f32) (scale shift : FVec Ideal S8x1x1024 .f32) (n : Fin 1024) :
    rMod h scale shift (ix3 B T n) = modulate (fun n => h (ix3 B T n)) (fun n => scale (ix3 B 0 n)) (fun n => shift (ix3 B 0 n)) n := by
  pointwise [rMod]
  rfl

theorem rKvc_at (s : FVec Ideal S8x4096x1024 .f32) (w : FVec Ideal S1024x256 .bf16) (n : Fin 256) :
    rKvc s w (ix3 B T n) = mul (fun k => s (ix3 B T k)) (fun k n => w (ix2 k n)) n := by
  pointwise [rKvc]
  rfl

theorem rKvr_at (s : FVec Ideal S8x4096x1024 .f32) (w : FVec Ideal S1024x512 .bf16) (n : Fin 512) :
    rKvr s w (ix3 B T n) = mul (fun k => s (ix3 B T k)) (fun k n => w (ix2 k n)) n := by
  pointwise [rKvr]
  rfl

theorem rQ_at (h : FVec Ideal S8x4096x1024 .f32) (w : FVec Ideal S1024x1024 .bf16) (n : Fin 1024) :
    rQ h w (ix3 B T n) = mul (fun k => h (ix3 B T k)) (fun k n => w (ix2 k n)) n * Ideal.ofBits .f32 0x3E38AA3B#32 := by
  rw [← scale_eq, ← mul_assoc]
  pointwise [rQ]
  rfl

theorem rZ_at (h : FVec Ideal S8x4096x1024 .f32) (w : FVec Ideal S1024x3072 .bf16) (n : Fin 3072) :
    rZ h w (ix3 B T n) = mul (fun k => h (ix3 B T k)) (fun k n => w (ix2 k n)) n := by
  pointwise [rZ]
  rfl

theorem rGates_at (h : FVec Ideal S8x4096x1024 .f32) (w : FVec Ideal S1024x128 .bf16) (n : Fin 128) :
    rGates h w (ix3 B T n) = sigm (mul (fun k => h (ix3 B T k)) (fun k n => w (ix2 k n)) n) := by
  pointwise [rGates]
  rfl

end entries

/-! ## THE REFERENCE'S VALUES -/

variable (m : (ℓ : Loc nD τ sig) → Buf (Elt Ideal) ℓ) (c : Dev nD)

/-- A token, from the arguments in memory. -/
def tokR (B : Fin 8) (T : Fin 4096) : Tok where
  x n := m ((c.tc : Thread nD τ).loc main_arg0) (ix3 B T n)
  og k := m ((c.tc : Thread nD τ).loc main_arg1) (ix3 B T k)
  gate n := m ((c.tc : Thread nD τ).loc main_arg2) (ix3 B 0 n)
  wo k n := m ((c.tc : Thread nD τ).loc main_arg3) (ix2 k n)
  kvg n := m ((c.tc : Thread nD τ).loc main_arg4) (ix2 0 n)
  wkvc k n := m ((c.tc : Thread nD τ).loc main_arg5) (ix2 k n)
  wkvr k n := m ((c.tc : Thread nD τ).loc main_arg6) (ix2 k n)
  g1 n := m ((c.tc : Thread nD τ).loc main_arg7) (ix2 0 n)
  scale n := m ((c.tc : Thread nD τ).loc main_arg8) (ix3 B 0 n)
  shift n := m ((c.tc : Thread nD τ).loc main_arg9) (ix3 B 0 n)
  wq k n := m ((c.tc : Thread nD τ).loc main_arg10) (ix2 k n)
  wz k n := m ((c.tc : Thread nD τ).loc main_arg11) (ix2 k n)
  wg k n := m ((c.tc : Thread nD τ).loc main_arg12) (ix2 k n)

def vX1 : FVec Ideal S8x4096x1024 .f32 :=
  rX1 (m ((c.tc : Thread nD τ).loc main_arg0)) (m ((c.tc : Thread nD τ).loc main_arg1)) (m ((c.tc : Thread nD τ).loc main_arg2)) (m ((c.tc : Thread nD τ).loc main_arg3))
def vS : FVec Ideal S8x4096x1024 .f32 := rNorm (vX1 m c) (m ((c.tc : Thread nD τ).loc main_arg4))
def vH : FVec Ideal S8x4096x1024 .f32 :=
  rMod (rNorm (vX1 m c) (m ((c.tc : Thread nD τ).loc main_arg7))) (m ((c.tc : Thread nD τ).loc main_arg8)) (m ((c.tc : Thread nD τ).loc main_arg9))
def vKvc := rKvc (vS m c) (m ((c.tc : Thread nD τ).loc main_arg5))
def vKvr := rKvr (vS m c) (m ((c.tc : Thread nD τ).loc main_arg6))
def vQ := rQ (vH m c) (m ((c.tc : Thread nD τ).loc main_arg10))
def vZ := rZ (vH m c) (m ((c.tc : Thread nD τ).loc main_arg11))
def vGates := rGates (vH m c) (m ((c.tc : Thread nD τ).loc main_arg12))

variable (B : Fin 8) (T : Fin 4096)

theorem vX1_at (n : Fin 1024) : vX1 m c (ix3 B T n) = (tokR m c B T).x1 n := rX1_at B T _ _ _ _ n
theorem vS_at (n : Fin 1024) : vS m c (ix3 B T n) = (tokR m c B T).s n :=
  (rNorm_at B T _ _ n).trans (congrArg (fun v => norm v _ n) (funext (vX1_at m c B T)))
theorem vH_at (n : Fin 1024) : vH m c (ix3 B T n) = (tokR m c B T).h n :=
  (rMod_at B T _ _ _ n).trans (congrArg (fun v => modulate v _ _ n)
    (funext fun n => (rNorm_at B T _ _ n).trans (congrArg (fun v => norm v _ n) (funext (vX1_at m c B T)))))
theorem vKvc_at (n : Fin 256) : vKvc m c (ix3 B T n) = (tokR m c B T).kvc n :=
  (rKvc_at B T _ _ n).trans (congrArg (fun v => mul v _ n) (funext (vS_at m c B T)))
theorem vKvr_at (n : Fin 512) : vKvr m c (ix3 B T n) = (tokR m c B T).kvr n :=
  (rKvr_at B T _ _ n).trans (congrArg (fun v => mul v _ n) (funext (vS_at m c B T)))
theorem vQ_at (n : Fin 1024) : vQ m c (ix3 B T n) = (tokR m c B T).q n :=
  (rQ_at B T _ _ n).trans (congrArg (fun v => mul v _ n * _) (funext (vH_at m c B T)))
theorem vZ_at (n : Fin 3072) : vZ m c (ix3 B T n) = (tokR m c B T).z n :=
  (rZ_at B T _ _ n).trans (congrArg (fun v => mul v _ n) (funext (vH_at m c B T)))
theorem vGates_at (n : Fin 128) : vGates m c (ix3 B T n) = (tokR m c B T).gates n :=
  (rGates_at B T _ _ n).trans (congrArg (fun v => sigm (mul v _ n)) (funext (vH_at m c B T)))

end Rows.Post

end
-- ==== Proof.InProj.lean ====
/-
  The call that opens the recurrent layer: the modulated norm's projections, a causal convolution of four taps over the
  tokens with its silu, the normed queries and keys of eight heads, the values, and two further projections. A grid point
  takes 512 tokens and carries the last eight projected rows to the next. Here: what the results are, and what one point's
  arithmetic makes of the blocks that it reads.
-/
module

public import proofs.«01_k».proof.Proof.Rows
public import proofs.«01_k».proof.Proof.Gen.Kernel4Ideal.Skeleton
public import Idealize.ShloMosaic.Lib.Pipeline.CanonAppend
public import Idealize.ShloMosaic.Lib.Pipeline.ValueKit.Tiles

@[expose] public section

set_option maxRecDepth 4096

noncomputable section

namespace Rows.InProj

open Idealize.ShloMosaic Idealize.ShloMosaic.TcCoe Idealize.ShloMosaic.Pointwise

/-- What one batch row's results depend on. -/
structure Seq where
  x : Fin 4096 → Row 1024
  g : Row 1024
  scale : Row 1024
  shift : Row 1024
  wqkv : Fin 1024 → Row 3072
  wz : Fin 1024 → Row 1024
  wba : Fin 1024 → Row 128
  taps : Fin 4 → Row 3072

/-- A lane of a head, of the queries' or the keys' columns. -/
def col (a : Fin 2) (i : Fin 8) (d : Fin 128) : Fin 3072 := ⟨1024 * a.val + 128 * i.val + d.val, by omega⟩
/-- A lane of a head. -/
def lane (i : Fin 8) (d : Fin 128) : Fin 1024 := ⟨128 * i.val + d.val, by omega⟩
/-- A value's column. -/
def vcol (n : Fin 1024) : Fin 3072 := ⟨2048 + n.val, by omega⟩

/-- The reciprocal root that norms a head's row. -/
def rnorm (u : Row 128) : EReal := Ideal.rsqrt ((∑ e, u e * u e) + Ideal.ofBits .f32 0x358637BD#32)

namespace Seq

variable (A : Seq) (T : Fin 4096)

/-- The modulated norm. -/
def h : Row 1024 := modulate (norm (A.x T) A.g) A.scale A.shift
/-- The projection before the convolution. -/
def p : Row 3072 := mul (A.h T) A.wqkv
/-- The projections, counted from eight tokens before the first; zero before the first. -/
def past (j : ℕ) : Row 3072 := if hj : 8 ≤ j ∧ j - 8 < 4096 then A.p ⟨j - 8, hj.2⟩ else fun _ => 0
/-- The convolution. -/
def conv : Row 3072 := fun n =>
  A.past (T.val + 5) n * A.taps 0 n + A.past (T.val + 6) n * A.taps 1 n + A.past (T.val + 7) n * A.taps 2 n + A.past (T.val + 8) n * A.taps 3 n
/-- Its silu. -/
def y : Row 3072 := fun n => A.conv T n * sigm (A.conv T n)
/-- A head's queries or keys, normed. -/
def head (a : Fin 2) (i : Fin 8) (gain : EReal) : Row 128 := fun d =>
  A.y T (col a i d) * (rnorm (fun e => A.y T (col a i e)) * gain)
def q (i : Fin 8) : Row 128 := A.head T 0 i (Ideal.ofBits .f32 0x3DB504F3#32)
def k (i : Fin 8) : Row 128 := A.head T 1 i 1
def v : Row 1024 := fun n => A.y T (vcol n)
def z : Row 1024 := mul (A.h T) A.wz
def ba : Row 128 := mul (A.h T) A.wba

theorem past_at (j : ℕ) (hj : j = T.val + 8) : A.past j = A.p T := by
  subst hj
  unfold past
  rw [dif_pos ⟨by omega, by omega⟩]
  rfl

theorem past_zero (j : ℕ) (hj : j < 8) : A.past j = fun _ => 0 := dif_neg (by omega)

end Seq

open Cert.Kernel4Ideal Cert.Kernel4Ideal.Gen

/-! ## A point's arithmetic -/

section job

variable {F : FTy → Type} [FloatOps F]

theorem sl_head (a : Fin 2) (i : Fin 8) : S512x3072.Slices ![0, 1024 * a.val + 128 * i.val] S512x128 :=
  ⟨rfl, fun b => by have := a.isLt; have := i.isLt; fin_cases b <;> simp [Shape.size] <;> omega⟩

theorem inb_head (i : Fin 8) : ∀ a, (![0, 0, 128 * i.val] : Fin 3 → Nat) a + S1x512x128.size a ≤ S1x512x1024.size a :=
  fun a => by have := i.isLt; fin_cases a <;> simp [Shape.size] <;> omega

/-- A head's columns of the convolved block. -/
def cols (y : FVec F S512x3072 .f32) (a : Fin 2) (i : Fin 8) : FVec F S512x128 .f32 :=
  extractStridedSlice S512x128 ![0, 1024 * a.val + 128 * i.val] y (sl_head a i)

/-- A head's rows, normed with a gain. -/
def normed (u : FVec F S512x128 .f32) (gain : F .f32) : FVec F S1x512x128 .bf16 :=
  shapeCast S1x512x128 (truncf .bf16 (mulf u (broadcastTo S512x128 (mulf (rsqrt (addf
    (shapeCast S512x1 (multiReduction .add [1] S512 (mulf u u) 0x00000000#32 reduces_S512x128_S512 (.inl rfl) rfl) shapeCasts_S512_S512x1)
    (broadcast S512x1 (Scalar.ofBits .f32 0x358637BD#32)))) (broadcast S512x1 gain)) broadcasts_S512x1_S512x128)) bitsLt_bf16_f32)
    shapeCasts_S512x128_S1x512x128

def heads : List (Fin 8) := [7, 6, 5, 4, 3, 2, 1, 0]

/-- The stored pieces of the queries or the keys, last first. -/
def headPieces (y : FVec F S512x3072 .f32) (a : Fin 2) (gain : F .f32) : List (View.Piece (Elt F) S1x512x1024 .bf16) :=
  heads.map fun i => ⟨Rect.unit ![0, 0, 128 * i.val] S1x512x128.size (inb_head i), normed (cols y a i) gain⟩

end job

/-! ## Its entries -/

theorem one_bits : Ideal.ofBits .f32 0x3F800000#32 = 1 := by
  have h : (8388608 : ℝ) * (2 ^ 23)⁻¹ = 1 := by norm_num
  simp [Ideal.ofBits, Ideal.ieee, -EReal.coe_mul, h]

theorem mem_heads (i : Fin 8) : i ∈ heads := by revert i; decide

theorem normed_at (u : FVec Ideal S512x128 .f32) (gain : EReal) (r : Fin 512) (d : Fin 128) :
    normed u gain (ix3 (0 : Fin 1) r d) = u (ix2 r d) * (rnorm (fun e => u (ix2 r e)) * gain) := by
  pointwise [normed]
  rfl

theorem cols_at (y : FVec Ideal S512x3072 .f32) (a : Fin 2) (i : Fin 8) (r : Fin 512) (d : Fin 128) :
    cols y a i (ix2 r d) = y (ix2 r (col a i d)) := by
  pointwise [cols]
  rfl

/-- The heads' pieces, read back. -/
theorem canon_heads (y : FVec Ideal S512x3072 .f32) (a : Fin 2) (gain : EReal) (r : Fin 512) (i : Fin 8) (d : Fin 128) :
    View.canon (headPieces (F := Ideal) y a gain) (ix3 (0 : Fin 1) r (lane i d)) = normed (F := Ideal) (cols y a i) gain (ix3 (0 : Fin 1) r d) := by
  let G : S1x512x1024.Idx → Elt Ideal .bf16 := fun x =>
    normed (F := Ideal) (cols y a ⟨(x 2).val / 128, by have : (x 2).val < 1024 := (x 2).isLt; omega⟩) gain
      (ix3 (0 : Fin 1) (⟨(x 1).val, (x 1).isLt⟩ : Fin 512) (⟨(x 2).val % 128, by omega⟩ : Fin 128))
  have hG (i : Fin 8) (r : Fin 512) (d : Fin 128) (x : S1x512x1024.Idx) (h1 : (x 1).val = r.val) (h2 : (x 2).val = 128 * i.val + d.val) :
      G x = normed (F := Ideal) (cols y a i) gain (ix3 (0 : Fin 1) r d) := by
    have e1 : (⟨(x 1).val, (x 1).isLt⟩ : Fin 512) = r := Fin.ext h1
    have e2 (h) : (⟨(x 2).val / 128, h⟩ : Fin 8) = i := Fin.ext (by dsimp only; omega)
    have e3 (h) : (⟨(x 2).val % 128, h⟩ : Fin 128) = d := Fin.ext (by dsimp only; omega)
    dsimp only [G]
    rw [e1, e2, e3]
  refine (View.canon_apply_of_pieces G _ ?_ _ ?_).trans (hG i r d _ rfl rfl)
  · intro pc hpc
    obtain ⟨i, -, rfl⟩ := List.mem_map.mp hpc
    intro (x : S1x512x128.Idx)
    have hx : x = ix3 (0 : Fin 1) (⟨(x 1).val, (x 1).isLt⟩ : Fin 512) (⟨(x 2).val, (x 2).isLt⟩ : Fin 128) := by
      refine (eq_ix3 x).trans ?_
      congr 1
      exact Fin.ext (by have : (x 0).val < 1 := (x 0).isLt; show (x 0).val = 0; omega)
    refine (congrArg (normed (F := Ideal) (cols y a i) gain) hx).trans (hG i _ _ _ ?_ ?_).symm
    · show 0 + 1 * (x 1).val = (x 1).val; omega
    · show 128 * i.val + 1 * (x 2).val = 128 * i.val + (x 2).val; omega
  · refine ⟨_, List.mem_map.mpr ⟨i, mem_heads i, rfl⟩, ?_⟩
    show _ ∈ (Rect.unit (s := S1x512x1024) ![0, 0, 128 * i.val] S1x512x128.size (inb_head i)).set
    rw [Rect.mem_set_unit]
    intro b
    match b with
    | ⟨0, _⟩ => show 0 ≤ 0 ∧ 0 < 0 + 1; omega
    | ⟨1, _⟩ => show 0 ≤ r.val ∧ r.val < 0 + 512; omega
    | ⟨2, _⟩ => show 128 * i.val ≤ 128 * i.val + d.val ∧ 128 * i.val + d.val < 128 * i.val + 128; omega

/-- What a point reads: the blocks at a block of tokens, and the rows that the point before left. -/
structure Reads (A : Seq) (b : Fin 8) (x : Vec Ideal S1x512x1024 .f32) (g : Vec Ideal S1x1024 .f32) (scale shift : Vec Ideal S1x1x1024 .f32)
    (wqkv : Vec Ideal S1024x3072 .bf16) (wz : Vec Ideal S1024x1024 .bf16) (wba : Vec Ideal S1024x128 .bf16) (taps : Vec Ideal S4x3072 .f32)
    (buf : Vec Ideal S8x3072 .f32) : Prop where
  x (r : Fin 512) n : x (ix3 (0 : Fin 1) r n) = A.x ⟨512 * b.val + r.val, by omega⟩ n
  g n : g (ix2 (0 : Fin 1) n) = A.g n
  scale n : scale (ix3 (0 : Fin 1) (0 : Fin 1) n) = A.scale n
  shift n : shift (ix3 (0 : Fin 1) (0 : Fin 1) n) = A.shift n
  wqkv k n : wqkv (ix2 k n) = A.wqkv k n
  wz k n : wz (ix2 k n) = A.wz k n
  wba k n : wba (ix2 k n) = A.wba k n
  taps k n : taps (ix2 k n) = A.taps k n
  buf (r : Fin 8) n : buf (ix2 r n) = A.past (512 * b.val + r.val) n

namespace Reads

variable {A : Seq} {b : Fin 8} {x : Vec Ideal S1x512x1024 .f32} {g : Vec Ideal S1x1024 .f32} {scale shift : Vec Ideal S1x1x1024 .f32}
  {wqkv : Vec Ideal S1024x3072 .bf16} {wz : Vec Ideal S1024x1024 .bf16} {wba : Vec Ideal S1024x128 .bf16} {taps : Vec Ideal S4x3072 .f32}
  {buf : Vec Ideal S8x3072 .f32} (H : Reads A b x g scale shift wqkv wz wba taps buf)
include H

theorem h (r : Fin 512) (n : Fin 1024) : k0_pay3 x g scale shift (ix2 r n) = A.h ⟨512 * b.val + r.val, by omega⟩ n := by
  refine Eq.trans (b := modulate (norm (fun n => x (ix3 (0 : Fin 1) r n)) fun n => g (ix2 (0 : Fin 1) n)) (fun n => scale (ix3 (0 : Fin 1) (0 : Fin 1) n)) (fun n => shift (ix3 (0 : Fin 1) (0 : Fin 1) n)) n) ?_ ?_
  · pointwise [k0_pay3]
    rfl
  · simp only [H.x, H.g, H.scale, H.shift]
    rfl

/-- The carried rows and the point's own, below them. -/
theorem rows (r : Fin 520) (n : Fin 3072) : k0_pay4 x g scale shift buf wqkv (ix2 r n) = A.past (512 * b.val + r.val) n := by
  by_cases hr : r.val < 8
  · refine Eq.trans ?_ (H.buf ⟨r.val, hr⟩ n)
    pointwise [k0_pay4]
    exact dif_pos hr
  · rw [A.past_at ⟨512 * b.val + (r.val - 8), by omega⟩ _ (by dsimp only; omega)]
    pointwise [k0_pay4]
    refine (dif_neg hr).trans ?_
    unfold Seq.p mul
    refine Finset.sum_congr rfl fun k _ => ?_
    rw [H.wqkv, H.h ⟨r.val - 8, by omega⟩]

/-- The convolved rows with their silu. -/
theorem y (r : Fin 512) (n : Fin 3072) : k0_pay6 (k0_pay4 x g scale shift buf wqkv) taps (ix2 r n) = A.y ⟨512 * b.val + r.val, by omega⟩ n := by
  have e (s : ℕ) (hs : s ≤ 3) : (8 + r.val + 520 - s) % 520 = 8 + r.val - s := by omega
  have hz (x : EReal) : 0 - x = -x := by rw [sub_eq_add_neg, zero_add]
  have hc : A.past (512 * b.val + (8 + r.val)) n * A.taps 3 n + A.past (512 * b.val + (8 + r.val - 3)) n * A.taps 0 n
        + A.past (512 * b.val + (8 + r.val - 2)) n * A.taps 1 n + A.past (512 * b.val + (8 + r.val - 1)) n * A.taps 2 n
      = A.conv ⟨512 * b.val + r.val, by omega⟩ n := by
    unfold Seq.conv
    dsimp only
    rw [show 512 * b.val + (8 + r.val) = 512 * b.val + r.val + 8 by omega, show 512 * b.val + (8 + r.val - 3) = 512 * b.val + r.val + 5 by omega,
      show 512 * b.val + (8 + r.val - 2) = 512 * b.val + r.val + 6 by omega, show 512 * b.val + (8 + r.val - 1) = 512 * b.val + r.val + 7 by omega]
    rw [add_assoc, add_assoc, add_comm]
    simp only [add_assoc]
  pointwise [k0_pay6]
  simp only [H.rows, H.taps, e 3 (by omega), e 2 (by omega), e 1 (by omega), hz, hc]
  rfl

theorem head_at (a : Fin 2) (gain : EReal) (r : Fin 512) (i : Fin 8) (d : Fin 128) :
    View.canon (headPieces (F := Ideal) (k0_pay6 (k0_pay4 x g scale shift buf wqkv) taps) a gain) (ix3 (0 : Fin 1) r (lane i d))
      = A.head ⟨512 * b.val + r.val, by omega⟩ a i gain d := by
  rw [canon_heads, normed_at]
  simp only [cols_at, H.y]
  rfl

theorem v_at (r : Fin 512) (n : Fin 1024) :
    k0_pay32 (k0_pay6 (k0_pay4 x g scale shift buf wqkv) taps) (ix3 (0 : Fin 1) r n) = A.v ⟨512 * b.val + r.val, by omega⟩ n := by
  refine Eq.trans ?_ (H.y r (vcol n))
  pointwise [k0_pay32]
  rfl

theorem z_at (r : Fin 512) (n : Fin 1024) : k0_pay33 (k0_pay3 x g scale shift) wz (ix3 (0 : Fin 1) r n) = A.z ⟨512 * b.val + r.val, by omega⟩ n := by
  pointwise [k0_pay33]
  simp only [H.h, H.wz]
  rfl

theorem ba_at (r : Fin 512) (n : Fin 128) : k0_pay1 (k0_pay3 x g scale shift) wba (ix3 (0 : Fin 1) r n) = A.ba ⟨512 * b.val + r.val, by omega⟩ n := by
  pointwise [k0_pay1]
  simp only [H.h, H.wba]
  rfl

/-- The rows that the point leaves to the next. -/
theorem buf_at (r : Fin 8) (n : Fin 3072) : k0_pay5 (k0_pay4 x g scale shift buf wqkv) (ix2 r n) = A.past (512 * (b.val + 1) + r.val) n := by
  rw [show 512 * (b.val + 1) + r.val = 512 * b.val + (512 + r.val) by omega]
  refine Eq.trans ?_ (H.rows ⟨512 + r.val, by omega⟩ n)
  pointwise [k0_pay5]

end Reads

end Rows.InProj

end
-- ==== Proof.InProjRuns.lean ====
/-
  The call that opens the recurrent layer, run over its grid: the pieces that a point stores, the rows carried from one
  point to the next, and the five arrays that it leaves.
-/
module

public import proofs.«01_k».proof.Proof.InProj
public import proofs.«01_k».proof.Proof.Gen.Kernel4Ideal.Value

@[expose] public section

set_option maxRecDepth 65536

noncomputable section

namespace Rows.InProj

open Cert.Kernel4Ideal Cert.Kernel4Ideal.Gen Cert.Kernel4Ideal.Value
open Idealize.ShloMosaic Idealize.ShloMosaic.TcCoe Idealize.ShloMosaic.Pointwise Idealize.ShloMosaic.Tactic

/-! ## The pieces that a point stores -/

section pieces

variable {F : FTy → Type} [FloatOps F]

/-- A whole block, loaded. -/
abbrev ld {S : Shape} {e : EltTy} (a : Memref sig .tc .vmem S e) (h : a.IsWhole) (x : Vec F S e) {off : Fin S.rank → Nat} (inb : ∀ a, off a + S.size a ≤ S.size a) : Vec F S e :=
  View.readAt (Elt F) a.view (Rect.unit off S.size inb).toLoadRect (h.unread x)

/-- The rows carried, at zero, as one piece. -/
def zeroPieces : List (View.Piece (Elt F) S8x3072 .f32) := [⟨Rect.unit ![0, 0] S8x3072.size inb_S8x3072_S8x3072_0_0, k0_pay2⟩]

/-- The rows that a batch row's first point reads: of the zeros that it has just stored. -/
def rdZero (a : Memref sig .tc .vmem S8x3072 .f32) : Vec F S8x3072 .f32 :=
  View.readCov (Val := Elt F) a.view zeroPieces (Rect.unit (s := S8x3072) ![0, 0] S8x3072.size inb_S8x3072_S8x3072_0_0).toLoadRect

variable (c : Dev nD) (i : grid0.Coords)
  (arg2 : Memref sig .tc .vmem S1x512x1024 .f32) (harg2 : arg2.IsWhole) (arg3 : Memref sig .tc .vmem S1x1024 .f32) (harg3 : arg3.IsWhole)
  (arg4 : Memref sig .tc .vmem S1x1x1024 .f32) (harg4 : arg4.IsWhole) (arg5 : Memref sig .tc .vmem S1x1x1024 .f32) (harg5 : arg5.IsWhole)
  (arg6 : Memref sig .tc .vmem S1024x3072 .bf16) (harg6 : arg6.IsWhole) (arg7 : Memref sig .tc .vmem S1024x1024 .bf16) (harg7 : arg7.IsWhole)
  (arg8 : Memref sig .tc .vmem S1024x128 .bf16) (harg8 : arg8.IsWhole) (arg9 : Memref sig .tc .vmem S4x3072 .f32) (harg9 : arg9.IsWhole)
  (arg10 : Memref sig .tc .vmem S1x512x1024 .bf16) (harg10 : arg10.IsWhole) (arg11 : Memref sig .tc .vmem S1x512x1024 .bf16) (harg11 : arg11.IsWhole)
  (arg12 : Memref sig .tc .vmem S1x512x1024 .bf16) (harg12 : arg12.IsWhole) (arg13 : Memref sig .tc .vmem S1x512x1024 .bf16) (harg13 : arg13.IsWhole)
  (arg14 : Memref sig .tc .vmem S1x512x128 .f32) (harg14 : arg14.IsWhole) (arg15 : Memref sig .tc .vmem S8x3072 .f32) (harg15 : arg15.IsWhole)
  (x0 : Vec F S1x512x1024 .f32) (x1 : Vec F S1x1024 .f32) (x2 x3 : Vec F S1x1x1024 .f32) (x4 : Vec F S1024x3072 .bf16) (x5 : Vec F S1024x1024 .bf16)
  (x6 : Vec F S1024x128 .bf16) (x7 : Vec F S4x3072 .f32) (xs0 : Vec F S8x3072 .f32)

/-- The point's modulated norm. -/
def pH : FVec F S512x1024 .bf16 :=
  k0_pay3 (ld arg2 harg2 x0 inb_S1x512x1024_S1x512x1024_0_0_0) (ld arg3 harg3 x1 inb_S1x1024_S1x1024_0_0)
    (ld arg4 harg4 x2 inb_S1x1x1024_S1x1x1024_0_0_0) (ld arg5 harg5 x3 inb_S1x1x1024_S1x1x1024_0_0_0)

/-- The carried rows `buf` and the point's own. -/
def pRows (buf : Vec F S8x3072 .f32) : FVec F S520x3072 .f32 :=
  k0_pay4 (ld arg2 harg2 x0 inb_S1x512x1024_S1x512x1024_0_0_0) (ld arg3 harg3 x1 inb_S1x1024_S1x1024_0_0)
    (ld arg4 harg4 x2 inb_S1x1x1024_S1x1x1024_0_0_0) (ld arg5 harg5 x3 inb_S1x1x1024_S1x1x1024_0_0_0) buf (ld arg6 harg6 x4 inb_S1024x3072_S1024x3072_0_0)

/-- What a point leaves, if its stored pieces are these. -/
structure Pieces (H : FVec F S512x1024 .bf16) (R : FVec F S520x3072 .f32) (wz : Vec F S1024x1024 .bf16) (wba : Vec F S1024x128 .bf16) (taps : Vec F S4x3072 .f32)
    (L : List (View.Piece (Elt F) S8x3072 .f32))
    (L8 L9 L10 L11 : List (View.Piece (Elt F) S1x512x1024 .bf16)) (L12 : List (View.Piece (Elt F) S1x512x128 .f32)) (LS : List (View.Piece (Elt F) S8x3072 .f32)) : Prop where
  q : L8 = headPieces (k0_pay6 R taps) 0 (Scalar.ofBits .f32 0x3DB504F3#32)
  k : L9 = headPieces (k0_pay6 R taps) 1 (Scalar.ofBits .f32 0x3F800000#32)
  v : L10 = [⟨Rect.unit ![0, 0, 0] S1x512x1024.size inb_S1x512x1024_S1x512x1024_0_0_0, k0_pay32 (k0_pay6 R taps)⟩]
  z : L11 = [⟨Rect.unit ![0, 0, 0] S1x512x1024.size inb_S1x512x1024_S1x512x1024_0_0_0, k0_pay33 H wz⟩]
  ba : L12 = [⟨Rect.unit ![0, 0, 0] S1x512x128.size inb_S1x512x128_S1x512x128_0_0_0, k0_pay1 H wba⟩]
  st : LS = ⟨Rect.unit ![0, 0] S8x3072.size inb_S8x3072_S8x3072_0_0, k0_pay5 R⟩ :: L

section A
variable (hc0 : cond0_0 i)
/-- A first point's run. -/
abbrev runA := kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7

theorem pieces_A : Pieces (pH arg2 harg2 arg3 harg3 arg4 harg4 arg5 harg5 x0 x1 x2 x3)
    (pRows arg2 harg2 arg3 harg3 arg4 harg4 arg5 harg5 arg6 harg6 x0 x1 x2 x3 x4 (rdZero arg15))
    (ld arg7 harg7 x5 inb_S1024x1024_S1024x1024_0_0) (ld arg8 harg8 x6 inb_S1024x128_S1024x128_0_0) (ld arg9 harg9 x7 inb_S4x3072_S4x3072_0_0) zeroPieces
    (runA c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0).1
    (runA c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0).2.1
    (runA c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0).2.2.1
    (runA c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0).2.2.2.1
    (runA c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0).2.2.2.2.1
    (runA c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0).2.2.2.2.2.1 where
  q := by sl_kernel_rfl
  k := by sl_kernel_rfl
  v := by sl_kernel_rfl
  z := by sl_kernel_rfl
  ba := by sl_kernel_rfl
  st := by sl_kernel_rfl
end A

section B
variable (hc0 : ¬cond0_0 i)
/-- A later point's run. -/
abbrev runB := kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0

theorem pieces_B : Pieces (pH arg2 harg2 arg3 harg3 arg4 harg4 arg5 harg5 x0 x1 x2 x3)
    (pRows arg2 harg2 arg3 harg3 arg4 harg4 arg5 harg5 arg6 harg6 x0 x1 x2 x3 x4 (ld arg15 harg15 xs0 inb_S8x3072_S8x3072_0_0))
    (ld arg7 harg7 x5 inb_S1024x1024_S1024x1024_0_0) (ld arg8 harg8 x6 inb_S1024x128_S1024x128_0_0) (ld arg9 harg9 x7 inb_S4x3072_S4x3072_0_0) []
    (runB c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xs0 hc0).1
    (runB c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xs0 hc0).2.1
    (runB c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xs0 hc0).2.2.1
    (runB c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xs0 hc0).2.2.2.1
    (runB c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xs0 hc0).2.2.2.2.1
    (runB c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xs0 hc0).2.2.2.2.2.1 where
  q := by sl_kernel_rfl
  k := by sl_kernel_rfl
  v := by sl_kernel_rfl
  z := by sl_kernel_rfl
  ba := by sl_kernel_rfl
  st := by sl_kernel_rfl
end B

end pieces

theorem load_whole {S : Shape} {e : EltTy} (a : Memref sig .tc .vmem S e) (h : a.IsWhole) (x : Vec Ideal S e) {off : Fin S.rank → Nat}
    (inb : ∀ a, off a + S.size a ≤ S.size a) (ho : off = fun _ => 0) : ld a h x inb = x := by
  rw [ld, View.readAt_eq_ld, h.read_unread, View.ld_unit_zero ho]

theorem pH_eq (a : Memref sig .tc .vmem S1x512x1024 .f32) (h : a.IsWhole) (x : Vec Ideal S1x512x1024 .f32) (a' : Memref sig .tc .vmem S1x1024 .f32) (h' : a'.IsWhole)
    (x' : Vec Ideal S1x1024 .f32) (b : Memref sig .tc .vmem S1x1x1024 .f32) (hb : b.IsWhole) (y : Vec Ideal S1x1x1024 .f32)
    (b' : Memref sig .tc .vmem S1x1x1024 .f32) (hb' : b'.IsWhole) (y' : Vec Ideal S1x1x1024 .f32) : pH a h a' h' b hb b' hb' x x' y y' = k0_pay3 x x' y y' := by
  unfold pH
  rw [load_whole (S := S1x512x1024) _ _ _ _ zero3, load_whole (S := S1x1024) _ _ _ _ zero2, load_whole (S := S1x1x1024) _ _ _ _ zero3,
    load_whole (S := S1x1x1024) _ _ _ _ zero3]

theorem pRows_eq (a : Memref sig .tc .vmem S1x512x1024 .f32) (h : a.IsWhole) (x : Vec Ideal S1x512x1024 .f32) (a' : Memref sig .tc .vmem S1x1024 .f32) (h' : a'.IsWhole)
    (x' : Vec Ideal S1x1024 .f32) (b : Memref sig .tc .vmem S1x1x1024 .f32) (hb : b.IsWhole) (y : Vec Ideal S1x1x1024 .f32)
    (b' : Memref sig .tc .vmem S1x1x1024 .f32) (hb' : b'.IsWhole) (y' : Vec Ideal S1x1x1024 .f32) (e : Memref sig .tc .vmem S1024x3072 .bf16) (he : e.IsWhole)
    (w : Vec Ideal S1024x3072 .bf16) (buf : Vec Ideal S8x3072 .f32) :
    pRows a h a' h' b hb b' hb' e he x x' y y' w buf = k0_pay4 x x' y y' buf w := by
  unfold pRows
  rw [load_whole (S := S1x512x1024) _ _ _ _ zero3, load_whole (S := S1x1024) _ _ _ _ zero2, load_whole (S := S1x1x1024) _ _ _ _ zero3,
    load_whole (S := S1x1x1024) _ _ _ _ zero3, load_whole (S := S1024x3072) _ _ _ _ zero2]

theorem rdZero_at (a : Memref sig .tc .vmem S8x3072 .f32) (r : Fin 8) (n : Fin 3072) : rdZero (F := Ideal) a (ix2 r n) = 0 := by
  unfold rdZero zeroPieces
  rw [View.readCov_eq_canon', View.canon_cons_unit_zero zero2]
  pointwise [k0_pay2]

/-! ## What a point leaves -/

/-- The five blocks at their tokens, and the rows for the next point. -/
structure Left (A : Seq) (b : Fin 8)
    (o : Vec Ideal S1x512x1024 .bf16 × Vec Ideal S1x512x1024 .bf16 × Vec Ideal S1x512x1024 .bf16 × Vec Ideal S1x512x1024 .bf16 × Vec Ideal S1x512x128 .f32 × Vec Ideal S8x3072 .f32) : Prop where
  q (r : Fin 512) i d : o.1 (ix3 (0 : Fin 1) r (lane i d)) = A.q ⟨512 * b.val + r.val, by omega⟩ i d
  k (r : Fin 512) i d : o.2.1 (ix3 (0 : Fin 1) r (lane i d)) = A.k ⟨512 * b.val + r.val, by omega⟩ i d
  v (r : Fin 512) n : o.2.2.1 (ix3 (0 : Fin 1) r n) = A.v ⟨512 * b.val + r.val, by omega⟩ n
  z (r : Fin 512) n : o.2.2.2.1 (ix3 (0 : Fin 1) r n) = A.z ⟨512 * b.val + r.val, by omega⟩ n
  ba (r : Fin 512) n : o.2.2.2.2.1 (ix3 (0 : Fin 1) r n) = A.ba ⟨512 * b.val + r.val, by omega⟩ n
  st (r : Fin 8) n : o.2.2.2.2.2 (ix2 r n) = A.past (512 * (b.val + 1) + r.val) n

theorem left_of {A : Seq} {b : Fin 8} {x : Vec Ideal S1x512x1024 .f32} {g : Vec Ideal S1x1024 .f32} {scale shift : Vec Ideal S1x1x1024 .f32}
    {wqkv : Vec Ideal S1024x3072 .bf16} {wz : Vec Ideal S1024x1024 .bf16} {wba : Vec Ideal S1024x128 .bf16} {taps : Vec Ideal S4x3072 .f32}
    {buf : Vec Ideal S8x3072 .f32} (H : Reads A b x g scale shift wqkv wz wba taps buf) {L LS : List (View.Piece (Elt Ideal) S8x3072 .f32)}
    {L8 L9 L10 L11 : List (View.Piece (Elt Ideal) S1x512x1024 .bf16)} {L12 : List (View.Piece (Elt Ideal) S1x512x128 .f32)}
    (P : Pieces (k0_pay3 x g scale shift) (k0_pay4 x g scale shift buf wqkv) wz wba taps L L8 L9 L10 L11 L12 LS) :
    Left A b (View.canon L8, View.canon L9, View.canon L10, View.canon L11, View.canon L12, View.canon LS) where
  q r i d := (congrFun (congrArg View.canon P.q) _).trans (H.head_at 0 _ r i d)
  k r i d := (congrFun (congrArg View.canon P.k) _).trans ((H.head_at 1 _ r i d).trans (congrArg (A.head _ 1 i · d) one_bits))
  v r n := by rw [P.v, View.canon_cons_unit_zero (S := S1x512x1024) zero3]; exact H.v_at r n
  z r n := by rw [P.z, View.canon_cons_unit_zero (S := S1x512x1024) zero3]; exact H.z_at r n
  ba r n := by rw [P.ba, View.canon_cons_unit_zero (S := S1x512x128) zero3]; exact H.ba_at r n
  st r n := by rw [P.st, View.canon_cons_unit_zero (S := S8x3072) zero2]; exact H.buf_at r n

/-! ## Where the windows of a point lie -/

variable (m : (ℓ : Loc nD τ sig) → Buf (Elt Ideal) ℓ) (c : Dev nD) (t : Fin cfg0.N)

/-- A point's batch row and block of rows. -/
abbrev row_ (t : Fin cfg0.N) : Fin 8 := ⟨t.val / 8, by have := lt_of_lt_of_eq t.isLt (show cfg0.N = 64 from N_0); omega⟩
abbrev blk_ (t : Fin cfg0.N) : Fin 8 := ⟨t.val % 8, by omega⟩
abbrev pos_ (t : Fin cfg0.N) (r : Fin 512) : Fin 4096 := ⟨512 * (blk_ t).val + r.val, by omega⟩

/-- The windows that take a block of rows. -/
theorem rows_ : ∀ t : Fin cfg0.N,
    (win0_0.index t (0 : Fin 3) = t.val / 8 ∧ win0_0.index t (1 : Fin 3) = t.val % 8 ∧ win0_0.index t (2 : Fin 3) = 0)
    ∧ (win0_8.index t (0 : Fin 3) = t.val / 8 ∧ win0_8.index t (1 : Fin 3) = t.val % 8 ∧ win0_8.index t (2 : Fin 3) = 0)
    ∧ (win0_9.index t (0 : Fin 3) = t.val / 8 ∧ win0_9.index t (1 : Fin 3) = t.val % 8 ∧ win0_9.index t (2 : Fin 3) = 0)
    ∧ (win0_10.index t (0 : Fin 3) = t.val / 8 ∧ win0_10.index t (1 : Fin 3) = t.val % 8 ∧ win0_10.index t (2 : Fin 3) = 0)
    ∧ (win0_11.index t (0 : Fin 3) = t.val / 8 ∧ win0_11.index t (1 : Fin 3) = t.val % 8 ∧ win0_11.index t (2 : Fin 3) = 0)
    ∧ (win0_12.index t (0 : Fin 3) = t.val / 8 ∧ win0_12.index t (1 : Fin 3) = t.val % 8 ∧ win0_12.index t (2 : Fin 3) = 0) :=
  (by decide +kernel : ∀ t : Fin grid0.N, _)

/-- The windows that take a batch row's vector. -/
theorem batch_ : ∀ t : Fin cfg0.N,
    (win0_2.index t (0 : Fin 3) = t.val / 8 ∧ win0_2.index t (1 : Fin 3) = 0 ∧ win0_2.index t (2 : Fin 3) = 0)
    ∧ (win0_3.index t (0 : Fin 3) = t.val / 8 ∧ win0_3.index t (1 : Fin 3) = 0 ∧ win0_3.index t (2 : Fin 3) = 0) :=
  (by decide +kernel : ∀ t : Fin grid0.N, _)

/-- The windows that take a whole array. -/
theorem whole_ : ∀ t : Fin cfg0.N,
    (win0_1.index t (0 : Fin 2) = 0 ∧ win0_1.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- Every point writes its blocks back. -/
theorem flush_ : ∀ t : Fin cfg0.N,
    (cfg0.win 8).flush t = true ∧ (cfg0.win 9).flush t = true ∧ (cfg0.win 10).flush t = true ∧ (cfg0.win 11).flush t = true ∧ (cfg0.win 12).flush t = true :=
  (by decide +kernel : ∀ t : Fin grid0.N, _)

/-- A batch row's arguments, from memory. -/
def seq (B : Fin 8) : Seq where
  x T n := m ((c : Thread nD τ).loc main_arg0) (ix3 B T n)
  g n := m ((c : Thread nD τ).loc main_arg1) (ix2 0 n)
  scale n := m ((c : Thread nD τ).loc main_arg2) (ix3 B 0 n)
  shift n := m ((c : Thread nD τ).loc main_arg3) (ix3 B 0 n)
  wqkv k n := m ((c : Thread nD τ).loc main_arg4) (ix2 k n)
  wz k n := m ((c : Thread nD τ).loc main_arg5) (ix2 k n)
  wba k n := m ((c : Thread nD τ).loc main_arg6) (ix2 k n)
  taps k n := m ((c : Thread nD τ).loc main_arg7) (ix2 k n)

/-- What a point reads, if the rows carried to it are those before its block. -/
theorem reads {buf : Vec Ideal S8x3072 .f32} (hb : ∀ (r : Fin 8) n, buf (ix2 r n) = (seq m c (row_ t)).past (512 * (blk_ t).val + r.val) n) :
    Reads (seq m c (row_ t)) (blk_ t) (iblk m c 0 t) (iblk m c 1 t) (iblk m c 2 t) (iblk m c 3 t) (iblk m c 4 t) (iblk m c 5 t) (iblk m c 6 t) (iblk m c 7 t) buf where
  x _ _ := congrArg (V m c main_arg0) (row_idx rfl rfl (rows_ t).1 rfl rfl rfl)
  g _ := congrArg (V m c main_arg1) (whole_idx (whole_ t).1 rfl rfl)
  scale _ := congrArg (V m c main_arg2) (batch_idx rfl (batch_ t).1 rfl rfl rfl)
  shift _ := congrArg (V m c main_arg3) (batch_idx rfl (batch_ t).2 rfl rfl rfl)
  wqkv _ _ := congrArg (V m c main_arg4) (whole_idx (whole_ t).2.1 rfl rfl)
  wz _ _ := congrArg (V m c main_arg5) (whole_idx (whole_ t).2.2.1 rfl rfl)
  wba _ _ := congrArg (V m c main_arg6) (whole_idx (whole_ t).2.2.2.1 rfl rfl)
  taps _ _ := congrArg (V m c main_arg7) (whole_idx (whole_ t).2.2.2.2 rfl rfl)
  buf := hb

/-! ## From point to point -/

theorem left_A (h0 : t.val % 8 = 0) : Left (seq m c (row_ t)) (blk_ t) (outsAt0 m c t.val t.isLt) := by
  have P := pieces_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) ((hcond0_0 t).mpr h0)
  simp only [pH_eq, pRows_eq, load_whole (S := S1024x1024) _ _ _ _ zero2, load_whole (S := S1024x128) _ _ _ _ zero2, load_whole (S := S4x3072) _ _ _ _ zero2,
    load_whole (S := S8x3072) _ _ _ _ zero2] at P
  have K := left_of (reads m c t (buf := rdZero scM0_0) fun r n => by
    rw [rdZero_at, (seq m c (row_ t)).past_zero _ (by show 512 * (t.val % 8) + r.val < 8; omega)]) P
  rw [outsAt0_A m c t h0]
  refine ⟨fun r i d => Eq.trans ?_ (K.q r i d), fun r i d => Eq.trans ?_ (K.k r i d), fun r n => Eq.trans ?_ (K.v r n),
    fun r n => Eq.trans ?_ (K.z r n), fun r n => Eq.trans ?_ (K.ba r n), fun r n => Eq.trans ?_ (K.st r n)⟩
  all_goals simp only [out0_A_8, out0_A_9, out0_A_10, out0_A_11, out0_A_12, sout0_A_0, View.read_writes_junk_apply_eq_canon]

theorem left_B (h0 : ¬t.val % 8 = 0) (hp : t.val - 1 < cfg0.N) (ih : Left (seq m c (row_ ⟨t.val - 1, hp⟩)) (blk_ ⟨t.val - 1, hp⟩) (outsAt0 m c (t.val - 1) hp)) :
    Left (seq m c (row_ t)) (blk_ t) (outsAt0 m c t.val t.isLt) := by
  have P := pieces_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (outsAt0 m c (t.val - 1) hp).2.2.2.2.2 (fun h => h0 ((hcond0_0 t).mp h))
  simp only [pH_eq, pRows_eq, load_whole (S := S1024x1024) _ _ _ _ zero2, load_whole (S := S1024x128) _ _ _ _ zero2, load_whole (S := S4x3072) _ _ _ _ zero2,
    load_whole (S := S8x3072) _ _ _ _ zero2] at P
  have K := left_of (reads m c t (buf := (outsAt0 m c (t.val - 1) hp).2.2.2.2.2) fun r n => by
    have e1 : row_ ⟨t.val - 1, hp⟩ = row_ t := Fin.ext (by show (t.val - 1) / 8 = t.val / 8; omega)
    have e2 : (blk_ ⟨t.val - 1, hp⟩).val + 1 = (blk_ t).val := by show (t.val - 1) % 8 + 1 = t.val % 8; omega
    refine (ih.st r n).trans ?_
    rw [e1, e2]) P
  rw [outsAt0_B m c t h0]
  refine ⟨fun r i d => Eq.trans ?_ (K.q r i d), fun r i d => Eq.trans ?_ (K.k r i d), fun r n => Eq.trans ?_ (K.v r n),
    fun r n => Eq.trans ?_ (K.z r n), fun r n => Eq.trans ?_ (K.ba r n), fun r n => Eq.trans ?_ (K.st r n)⟩
  all_goals simp only [out0_B_8, out0_B_9, out0_B_10, out0_B_11, out0_B_12, sout0_B_0, View.read_writes_junk_apply_eq_canon]

/-- What every point leaves. -/
theorem left : ∀ (n : ℕ) (hn : n < cfg0.N), Left (seq m c (row_ ⟨n, hn⟩)) (blk_ ⟨n, hn⟩) (outsAt0 m c n hn)
  | 0, hn => left_A m c ⟨0, hn⟩ rfl
  | n + 1, hn => by
    by_cases h0 : (n + 1) % 8 = 0
    · exact left_A m c ⟨n + 1, hn⟩ h0
    · exact left_B m c ⟨n + 1, hn⟩ h0 (Nat.lt_of_succ_lt hn) (left n (Nat.lt_of_succ_lt hn))

/-! ## THE KERNEL'S VALUES: every entry of each array -/

/-- A token's point, block of rows and place in the block. -/
theorem place (B : Fin 8) (T : Fin 4096) : ∃ (t : Fin cfg0.N) (r : Fin 512), row_ t = B ∧ pos_ t r = T :=
  ⟨⟨8 * B.val + T.val / 512, lt_of_lt_of_eq (by omega : _ < 64) (show cfg0.N = 64 from N_0).symm⟩, ⟨T.val % 512, by omega⟩,
    Fin.ext (by show (8 * B.val + T.val / 512) / 8 = B.val; omega),
    Fin.ext (by show 512 * ((8 * B.val + T.val / 512) % 8) + T.val % 512 = T.val; omega)⟩

theorem arr8 (B : Fin 8) (T : Fin 4096) (i : Fin 8) (d : Fin 128) : (dats m 0 c).arrAt 8 cfg0.N (ix3 B T (lane i d)) = (seq m c B).q T i d := by
  obtain ⟨t, r, rfl, rfl⟩ := place B T
  exact (congrArg ((dats m 0 c).arrAt 8 cfg0.N) (row_idx rfl rfl (rows_ t).2.1 rfl rfl rfl).symm).trans
    ((congrFun ((blocks8 m c t (flush_ t).1).trans (flushed8 m c t)) (ix3 (0 : Fin 1) r (lane i d))).trans ((left m c t.val t.isLt).q r i d))

theorem arr9 (B : Fin 8) (T : Fin 4096) (i : Fin 8) (d : Fin 128) : (dats m 0 c).arrAt 9 cfg0.N (ix3 B T (lane i d)) = (seq m c B).k T i d := by
  obtain ⟨t, r, rfl, rfl⟩ := place B T
  exact (congrArg ((dats m 0 c).arrAt 9 cfg0.N) (row_idx rfl rfl (rows_ t).2.2.1 rfl rfl rfl).symm).trans
    ((congrFun ((blocks9 m c t (flush_ t).2.1).trans (flushed9 m c t)) (ix3 (0 : Fin 1) r (lane i d))).trans ((left m c t.val t.isLt).k r i d))

theorem arr10 (B : Fin 8) (T : Fin 4096) (n : Fin 1024) : (dats m 0 c).arrAt 10 cfg0.N (ix3 B T n) = (seq m c B).v T n := by
  obtain ⟨t, r, rfl, rfl⟩ := place B T
  exact (congrArg ((dats m 0 c).arrAt 10 cfg0.N) (row_idx rfl rfl (rows_ t).2.2.2.1 rfl rfl rfl).symm).trans
    ((congrFun ((blocks10 m c t (flush_ t).2.2.1).trans (flushed10 m c t)) (ix3 (0 : Fin 1) r n)).trans ((left m c t.val t.isLt).v r n))

theorem arr11 (B : Fin 8) (T : Fin 4096) (n : Fin 1024) : (dats m 0 c).arrAt 11 cfg0.N (ix3 B T n) = (seq m c B).z T n := by
  obtain ⟨t, r, rfl, rfl⟩ := place B T
  exact (congrArg ((dats m 0 c).arrAt 11 cfg0.N) (row_idx rfl rfl (rows_ t).2.2.2.2.1 rfl rfl rfl).symm).trans
    ((congrFun ((blocks11 m c t (flush_ t).2.2.2.1).trans (flushed11 m c t)) (ix3 (0 : Fin 1) r n)).trans ((left m c t.val t.isLt).z r n))

theorem arr12 (B : Fin 8) (T : Fin 4096) (n : Fin 128) : (dats m 0 c).arrAt 12 cfg0.N (ix3 B T n) = (seq m c B).ba T n := by
  obtain ⟨t, r, rfl, rfl⟩ := place B T
  exact (congrArg ((dats m 0 c).arrAt 12 cfg0.N) (row_idx rfl rfl (rows_ t).2.2.2.2.2 rfl rfl rfl).symm).trans
    ((congrFun ((blocks12 m c t (flush_ t).2.2.2.2).trans (flushed12 m c t)) (ix3 (0 : Fin 1) r n)).trans ((left m c t.val t.isLt).ba r n))

end Rows.InProj

end
-- ==== Proof.InProjRef.lean ====
/-
  The reference of the call that opens the recurrent layer: its five results, read at a token, and their equality with the
  kernel's.
-/
module

public import proofs.«01_k».proof.Proof.InProjRuns
public import proofs.«01_k».proof.Proof.Gen.Reference4Ideal.Run

@[expose] public section

set_option maxRecDepth 8192

noncomputable section

namespace Rows.InProj

open Idealize.ShloMosaic Idealize.ShloMosaic.TcCoe Idealize.ShloMosaic.Pointwise
open Cert.Reference4Ideal Cert.Reference4Ideal.Gen

/-! ## The reference's operations, step by step -/

def rH (x : FVec Ideal S8x4096x1024 .f32) (g : FVec Ideal S1x1024 .f32) (scale shift : FVec Ideal S8x1x1024 .f32) : FVec Ideal S8x4096x1024 .f32 :=
  addf (mulf (mulf (mulf x (broadcastInDim S8x4096x1024 ![0, 1, 2] bcast_S8x4096x1_S8x4096x1024_0_1_2 (Host.rsqrt (addf (Host.divf
    (broadcastInDim S8x4096x1 ![0, 1] bcast_S8x4096_S8x4096x1_0_1 (Host.reduceAdd (mulf x x) (constant S_ .f32 0x00000000#32) reducesTo_S8x4096x1024_S8x4096_d2 h_S_))
    (broadcastInDim S8x4096x1 ![] bcast_S_S8x4096x1 (constant S_ .f32 0x44800000#32)))
    (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 (shapeCast S1024 g shapeCasts_S1x1024_S1024))))
    (broadcastInDim S8x4096x1024 ![0, 1, 2] bcast_S8x1x1024_S8x4096x1024_0_1_2
      (addf (broadcastInDim S8x1x1024 ![] bcast_S_S8x1x1024 (constant S_ .f32 0x3F800000#32)) scale)))
    (broadcastInDim S8x4096x1024 ![0, 1, 2] bcast_S8x1x1024_S8x4096x1024_0_1_2 shift)

/-- The projections, three zero rows before them. -/
def rPad (h : FVec Ideal S8x4096x1024 .f32) (w : FVec Ideal S1024x3072 .bf16) : FVec Ideal S8x4099x3072 .f32 :=
  pad S8x4099x3072 ![0, 3, 0] ![0, 0, 0] ![0, 0, 0] (Host.dotGeneral dot_S8x4096x1024_S1024x3072_S8x4096x3072_2_0_01_1_n_n none h (extf .f32 w bitsLt_bf16_f32))
    (sitofp .f32 (constantI S_ 32 0#32)) pads_S8x4096x3072_S8x4099x3072_000_300_000 h_S_

/-- A tap's term. -/
def rTap (p : FVec Ideal S8x4099x3072 .f32) (taps : FVec Ideal S4x3072 .f32) (k : ℕ) (hs : S8x4099x3072.Slices ![0, k, 0] S8x4096x3072)
    (ht : S4x3072.Slices ![k, 0] S1x3072) : FVec Ideal S8x4096x3072 .f32 :=
  mulf (extractStridedSlice S8x4096x3072 ![0, k, 0] p hs) (broadcastInDim S8x4096x3072 ![0, 1, 2] bcast_S1x1x3072_S8x4096x3072_0_1_2
    (broadcastInDim S1x1x3072 ![2] bcast_S3072_S1x1x3072_2 (shapeCast S3072 (extractStridedSlice S1x3072 ![k, 0] taps ht) shapeCasts_S1x3072_S3072)))

def rConv (p : FVec Ideal S8x4099x3072 .f32) (taps : FVec Ideal S4x3072 .f32) : FVec Ideal S8x4096x3072 .f32 :=
  addf (addf (addf (rTap p taps 0 slices_S8x4099x3072_S8x4096x3072_0_0_0 slices_S4x3072_S1x3072_0_0)
    (rTap p taps 1 slices_S8x4099x3072_S8x4096x3072_0_1_0 slices_S4x3072_S1x3072_1_0))
    (rTap p taps 2 slices_S8x4099x3072_S8x4096x3072_0_2_0 slices_S4x3072_S1x3072_2_0))
    (rTap p taps 3 slices_S8x4099x3072_S8x4096x3072_0_3_0 slices_S4x3072_S1x3072_3_0)

def rSilu (y : FVec Ideal S8x4096x3072 .f32) : FVec Ideal S8x4096x3072 .f32 :=
  mulf y (Host.divf (broadcastInDim S8x4096x3072 ![] bcast_S_S8x4096x3072 (constant S_ .f32 0x3F800000#32))
    (addf (broadcastInDim S8x4096x3072 ![] bcast_S_S8x4096x3072 (constant S_ .f32 0x3F800000#32)) (Host.exp (Host.negf y))))

/-- The heads of the queries' or the keys' columns. -/
def rHeads (y : FVec Ideal S8x4096x3072 .f32) (o : ℕ) (hs : S8x4096x3072.Slices ![0, 0, o] S8x4096x1024) : FVec Ideal S8x4096x8x128 .f32 :=
  shapeCast S8x4096x8x128 (extractStridedSlice S8x4096x1024 ![0, 0, o] y hs) shapeCasts_S8x4096x1024_S8x4096x8x128

/-- Each head's rows normed. -/
def rNormed (u : FVec Ideal S8x4096x8x128 .f32) : FVec Ideal S8x4096x8x128 .f32 :=
  mulf u (broadcastInDim S8x4096x8x128 ![0, 1, 2, 3] bcast_S8x4096x8x1_S8x4096x8x128_0_1_2_3 (Host.rsqrt (addf
    (broadcastInDim S8x4096x8x1 ![0, 1, 2] bcast_S8x4096x8_S8x4096x8x1_0_1_2
      (Host.reduceAdd (mulf u u) (constant S_ .f32 0x00000000#32) reducesTo_S8x4096x8x128_S8x4096x8_d3 h_S_))
    (broadcastInDim S8x4096x8x1 ![] bcast_S_S8x4096x8x1 (constant S_ .f32 0x358637BD#32)))))

def rQ (y : FVec Ideal S8x4096x3072 .f32) : FVec Ideal S8x4096x1024 .bf16 :=
  truncf .bf16 (shapeCast S8x4096x1024 (mulf (rNormed (rHeads y 0 slices_S8x4096x3072_S8x4096x1024_0_0_0))
    (broadcastInDim S8x4096x8x128 ![] bcast_S_S8x4096x8x128 (constant S_ .f32 0x3DB504F3#32))) shapeCasts_S8x4096x8x128_S8x4096x1024) bitsLt_bf16_f32

def rK (y : FVec Ideal S8x4096x3072 .f32) : FVec Ideal S8x4096x1024 .bf16 :=
  truncf .bf16 (shapeCast S8x4096x1024 (rNormed (rHeads y 1024 slices_S8x4096x3072_S8x4096x1024_0_0_1024)) shapeCasts_S8x4096x8x128_S8x4096x1024) bitsLt_bf16_f32

def rV (y : FVec Ideal S8x4096x3072 .f32) : FVec Ideal S8x4096x1024 .bf16 :=
  truncf .bf16 (extractStridedSlice S8x4096x1024 ![0, 0, 2048] y slices_S8x4096x3072_S8x4096x1024_0_0_2048) bitsLt_bf16_f32

def rZ (h : FVec Ideal S8x4096x1024 .f32) (w : FVec Ideal S1024x1024 .bf16) : FVec Ideal S8x4096x1024 .bf16 :=
  truncf .bf16 (Host.dotGeneral dot_S8x4096x1024_S1024x1024_S8x4096x1024_2_0_01_1_n_n none h (extf .f32 w bitsLt_bf16_f32)) bitsLt_bf16_f32

def rBa (h : FVec Ideal S8x4096x1024 .f32) (w : FVec Ideal S1024x128 .bf16) : FVec Ideal S8x4096x128 .f32 :=
  Host.dotGeneral dot_S8x4096x1024_S1024x128_S8x4096x128_2_0_01_1_n_n none h (extf .f32 w bitsLt_bf16_f32)

/-! ## Their entries -/

section entries

variable (B : Fin 8) (T : Fin 4096)

theorem rH_at (x : FVec Ideal S8x4096x1024 .f32) (g : FVec Ideal S1x1024 .f32) (scale shift : FVec Ideal S8x1x1024 .f32) (n : Fin 1024) :
    rH x g scale shift (ix3 B T n)
      = modulate (norm (fun n => x (ix3 B T n)) (fun n => g (ix2 0 n))) (fun n => scale (ix3 B 0 n)) (fun n => shift (ix3 B 0 n)) n := by
  pointwise [rH]
  rfl

theorem rZ_at (h : FVec Ideal S8x4096x1024 .f32) (w : FVec Ideal S1024x1024 .bf16) (n : Fin 1024) :
    rZ h w (ix3 B T n) = mul (fun k => h (ix3 B T k)) (fun k n => w (ix2 k n)) n := by
  pointwise [rZ]
  rfl

theorem rBa_at (h : FVec Ideal S8x4096x1024 .f32) (w : FVec Ideal S1024x128 .bf16) (n : Fin 128) :
    rBa h w (ix3 B T n) = mul (fun k => h (ix3 B T k)) (fun k n => w (ix2 k n)) n := by
  pointwise [rBa]
  rfl

theorem rPad_at (h : FVec Ideal S8x4096x1024 .f32) (w : FVec Ideal S1024x3072 .bf16) (j : Fin 4099) (n : Fin 3072) :
    rPad h w (ix3 B j n) = if hj : 3 ≤ j.val then mul (fun k => h (ix3 B ⟨j.val - 3, by omega⟩ k)) (fun k n => w (ix2 k n)) n else 0 := by
  have h0 : FloatOps.sitofp (F := Ideal) .f32 0#32 = (0 : EReal) := by
    show ((((0#32).toInt : ℝ)) : EReal) = 0
    simp
  pointwise [rPad]
  by_cases hj : 3 ≤ j.val
  · rw [dif_pos ⟨hj, by omega⟩, dif_pos hj]
    rfl
  · rw [dif_neg fun e => hj e.1, dif_neg hj, h0]

theorem rTap_at (p : FVec Ideal S8x4099x3072 .f32) (taps : FVec Ideal S4x3072 .f32) (k : Fin 4) (hs : S8x4099x3072.Slices ![0, k.val, 0] S8x4096x3072)
    (ht : S4x3072.Slices ![k.val, 0] S1x3072) (n : Fin 3072) : rTap p taps k.val hs ht (ix3 B T n) = p (ix3 B ⟨T.val + k.val, by omega⟩ n) * taps (ix2 k n) := by
  have e : (⟨T.val + k.val, by omega⟩ : Fin 4099) = ⟨k.val + T.val, by omega⟩ := Fin.ext (Nat.add_comm _ _)
  rw [e]
  pointwise [rTap]

theorem rSilu_at (y : FVec Ideal S8x4096x3072 .f32) (n : Fin 3072) : rSilu y (ix3 B T n) = y (ix3 B T n) * sigm (y (ix3 B T n)) := by
  pointwise [rSilu]
  rfl

theorem rHeads_at (y : FVec Ideal S8x4096x3072 .f32) (a : Fin 2) (hs : S8x4096x3072.Slices ![0, 0, 1024 * a.val] S8x4096x1024) (i : Fin 8) (d : Fin 128) :
    rHeads y (1024 * a.val) hs (ix4 B T i d) = y (ix3 B T (col a i d)) := by
  have e : col a i d = ⟨1024 * a.val + (i.val * 128 + d.val), by omega⟩ := Fin.ext (by show 1024 * a.val + 128 * i.val + d.val = 1024 * a.val + (i.val * 128 + d.val); omega)
  rw [e]
  pointwise [rHeads]

theorem rNormed_at (u : FVec Ideal S8x4096x8x128 .f32) (i : Fin 8) (d : Fin 128) :
    rNormed u (ix4 B T i d) = u (ix4 B T i d) * rnorm fun e => u (ix4 B T i e) := by
  pointwise [rNormed]
  rfl

theorem lane_parts (i : Fin 8) (d : Fin 128) (h : (lane i d).val / 128 < 8) (h' : (lane i d).val % 128 < 128) :
    ix4 B T (⟨(lane i d).val / 128, h⟩ : Fin 8) (⟨(lane i d).val % 128, h'⟩ : Fin 128) = ix4 B T i d := by
  congr 1
  · exact Fin.ext (by show (128 * i.val + d.val) / 128 = i.val; omega)
  · exact Fin.ext (by show (128 * i.val + d.val) % 128 = d.val; omega)

theorem rHead_at (y : FVec Ideal S8x4096x3072 .f32) (a : Fin 2) (hs : S8x4096x3072.Slices ![0, 0, 1024 * a.val] S8x4096x1024) (i : Fin 8) (d : Fin 128) :
    rNormed (rHeads y (1024 * a.val) hs) (ix4 B T i d) = y (ix3 B T (col a i d)) * rnorm fun e => y (ix3 B T (col a i e)) := by
  rw [rNormed_at]
  simp only [rHeads_at]

theorem rQ_at (y : FVec Ideal S8x4096x3072 .f32) (i : Fin 8) (d : Fin 128) :
    rQ y (ix3 B T (lane i d)) = y (ix3 B T (col 0 i d)) * ((rnorm fun e => y (ix3 B T (col 0 i e))) * Ideal.ofBits .f32 0x3DB504F3#32) := by
  rw [← mul_assoc]
  pointwise [rQ]
  rw [lane_parts]
  exact congrArg (· * _) (rHead_at B T y 0 _ i d)

theorem rK_at (y : FVec Ideal S8x4096x3072 .f32) (i : Fin 8) (d : Fin 128) :
    rK y (ix3 B T (lane i d)) = y (ix3 B T (col 1 i d)) * ((rnorm fun e => y (ix3 B T (col 1 i e))) * 1) := by
  rw [mul_one]
  pointwise [rK]
  rw [lane_parts]
  exact rHead_at B T y 1 _ i d

theorem rV_at (y : FVec Ideal S8x4096x3072 .f32) (n : Fin 1024) : rV y (ix3 B T n) = y (ix3 B T (vcol n)) := by
  pointwise [rV]
  rfl

end entries

/-! ## THE REFERENCE'S VALUES -/

variable (m : (ℓ : Loc nD τ sig) → Buf (Elt Ideal) ℓ) (c : Dev nD)

/-- A batch row's arguments, from memory. -/
def seqR (B : Fin 8) : Seq where
  x T n := m ((c.tc : Thread nD τ).loc main_arg0) (ix3 B T n)
  g n := m ((c.tc : Thread nD τ).loc main_arg1) (ix2 0 n)
  scale n := m ((c.tc : Thread nD τ).loc main_arg2) (ix3 B 0 n)
  shift n := m ((c.tc : Thread nD τ).loc main_arg3) (ix3 B 0 n)
  wqkv k n := m ((c.tc : Thread nD τ).loc main_arg4) (ix2 k n)
  wz k n := m ((c.tc : Thread nD τ).loc main_arg5) (ix2 k n)
  wba k n := m ((c.tc : Thread nD τ).loc main_arg6) (ix2 k n)
  taps k n := m ((c.tc : Thread nD τ).loc main_arg7) (ix2 k n)

def vH : FVec Ideal S8x4096x1024 .f32 :=
  rH (m ((c.tc : Thread nD τ).loc main_arg0)) (m ((c.tc : Thread nD τ).loc main_arg1)) (m ((c.tc : Thread nD τ).loc main_arg2)) (m ((c.tc : Thread nD τ).loc main_arg3))
def vPad : FVec Ideal S8x4099x3072 .f32 := rPad (vH m c) (m ((c.tc : Thread nD τ).loc main_arg4))
def vY : FVec Ideal S8x4096x3072 .f32 := rSilu (rConv (vPad m c) (m ((c.tc : Thread nD τ).loc main_arg7)))
def vQ := rQ (vY m c)
def vK := rK (vY m c)
def vV := rV (vY m c)
def vZ := rZ (vH m c) (m ((c.tc : Thread nD τ).loc main_arg5))
def vBa := rBa (vH m c) (m ((c.tc : Thread nD τ).loc main_arg6))

variable (B : Fin 8) (T : Fin 4096)

theorem vH_at (n : Fin 1024) : vH m c (ix3 B T n) = (seqR m c B).h T n := rH_at B T _ _ _ _ n

theorem vPad_at (j : Fin 4099) (n : Fin 3072) : vPad m c (ix3 B j n) = (seqR m c B).past (j.val + 5) n := by
  refine (rPad_at B _ _ j n).trans ?_
  by_cases hj : 3 ≤ j.val
  · rw [dif_pos hj, (seqR m c B).past_at ⟨j.val - 3, by omega⟩ _ (by show _ = j.val - 3 + 8; omega)]
    exact congrArg (fun v => mul v _ n) (funext (vH_at m c B _))
  · rw [dif_neg hj, (seqR m c B).past_zero _ (by omega)]

theorem vY_at (n : Fin 3072) : vY m c (ix3 B T n) = (seqR m c B).y T n := by
  have e : rConv (vPad m c) (m ((c.tc : Thread nD τ).loc main_arg7)) (ix3 B T n) = (seqR m c B).conv T n := by
    have t (k : Fin 4) hs ht := (rTap_at B T (vPad m c) (m ((c.tc : Thread nD τ).loc main_arg7)) k hs ht n).trans
      (congrArg (· * _) ((vPad_at m c B _ n).trans (congrArg (fun j => (seqR m c B).past j n) (show T.val + k.val + 5 = T.val + (k.val + 5) by omega))))
    exact congrArg₂ (· + ·) (congrArg₂ (· + ·) (congrArg₂ (· + ·) (t 0 _ _) (t 1 _ _)) (t 2 _ _)) (t 3 _ _)
  exact (rSilu_at B T _ n).trans (congrArg (fun v : EReal => v * sigm v) e)

theorem vQ_at (i : Fin 8) (d : Fin 128) : vQ m c (ix3 B T (lane i d)) = (seqR m c B).q T i d := by
  refine (rQ_at B T _ i d).trans ?_
  simp only [vY_at]
  rfl

theorem vK_at (i : Fin 8) (d : Fin 128) : vK m c (ix3 B T (lane i d)) = (seqR m c B).k T i d := by
  refine (rK_at B T _ i d).trans ?_
  simp only [vY_at]
  rfl

theorem vV_at (n : Fin 1024) : vV m c (ix3 B T n) = (seqR m c B).v T n := (rV_at B T _ n).trans (vY_at m c B T _)
theorem vZ_at (n : Fin 1024) : vZ m c (ix3 B T n) = (seqR m c B).z T n :=
  (rZ_at B T _ _ n).trans (congrArg (fun v => mul v _ n) (funext (vH_at m c B T)))
theorem vBa_at (n : Fin 128) : vBa m c (ix3 B T n) = (seqR m c B).ba T n :=
  (rBa_at B T _ _ n).trans (congrArg (fun v => mul v _ n) (funext (vH_at m c B T)))

/-- Two arrays that hold the same at every token and head are one. -/
theorem same_heads {a b : S8x4096x1024.Idx → EReal} {u v : Fin 8 → Seq} (f : Seq → Fin 4096 → Fin 8 → Row 128)
    (ha : ∀ B T i d, a (ix3 B T (lane i d)) = f (u B) T i d) (hb : ∀ B T i d, b (ix3 B T (lane i d)) = f (v B) T i d) (h : u = v) : a = b := by
  subst h
  funext j
  obtain ⟨B, T, n, rfl⟩ : ∃ B T n, j = ix3 B T n := ⟨_, _, _, eq_ix3 j⟩
  obtain ⟨i, d, rfl⟩ : ∃ i d, n = lane i d :=
    ⟨⟨n.val / 128, by omega⟩, ⟨n.val % 128, by omega⟩, Fin.ext (by show n.val = 128 * (n.val / 128) + n.val % 128; omega)⟩
  exact (ha B T i d).trans (hb B T i d).symm

end Rows.InProj

end
-- ==== Proof.Final.lean ====
/-
  The last call of the layer: the output projection of the attention, the gated residual and the final norm. Each grid point
  takes 512 rows; the array that it leaves holds, at every row, what the rows of the arguments say.
-/
module

public import proofs.«01_k».proof.Proof.Rows
public import proofs.«01_k».proof.Proof.Gen.Kernel3Ideal.Value
public import proofs.«01_k».proof.Proof.Gen.Reference3Ideal.Run

@[expose] public section

set_option maxRecDepth 4096

noncomputable section

namespace Rows.Final

open Idealize.ShloMosaic Idealize.ShloMosaic.TcCoe Idealize.ShloMosaic.Pointwise

/-- The call's result at a token, from its arguments. -/
def res (y x1 : Fin 8 → Fin 4096 → Row 1024) (gate : Fin 8 → Row 1024) (wo : Fin 1024 → Row 1024) (fg : Row 1024)
    (B : Fin 8) (t : Fin 4096) : Row 1024 :=
  norm (resid (x1 B t) (gate B) (mul (y B t) wo)) fg

section kernel

open Cert.Kernel3Ideal Cert.Kernel3Ideal.Gen Cert.Kernel3Ideal.Value

/-- What a point writes into its block, from the blocks that it reads. -/
theorem tile (y : Vec Ideal S1x512x1024 .bf16) (x1 : Vec Ideal S1x512x1024 .f32) (gate : Vec Ideal S1x1x1024 .f32)
    (wo : Vec Ideal S1024x1024 .bf16) (fg : Vec Ideal S1x1024 .f32) (r : Fin 512) (n : Fin 1024) :
    out0_5 y x1 gate wo fg (ix3 (0 : Fin 1) r n)
      = norm (resid (fun n => x1 (ix3 0 r n)) (fun n => gate (ix3 0 0 n)) (mul (fun k => y (ix3 0 r k)) fun k n => wo (ix2 k n)))
          (fun n => fg (ix2 0 n)) n := by
  unfold out0_5
  rw [View.canon_cons_unit_zero zero3]
  simp only [View.ld_unit_zero (S := S1x512x1024) zero3, View.ld_unit_zero (S := S1x1x1024) zero3, View.ld_unit_zero (S := S1024x1024) zero2, View.ld_unit_zero (S := S1x1024) zero2]
  pointwise [k0_pay1]
  rfl

variable (m : (ℓ : Loc nD τ sig) → Buf (Elt Ideal) ℓ) (c : Dev nD) (t : Fin cfg0.N)

/-- A point's batch row and block of rows. -/
abbrev row_ (t : Fin cfg0.N) : Fin 8 := ⟨t.val / 8, by have := lt_of_lt_of_eq t.isLt (show cfg0.N = 64 from N_0); omega⟩
abbrev blk_ (t : Fin cfg0.N) : Fin 8 := ⟨t.val % 8, by omega⟩

/-- Where the windows of a point lie. -/
theorem at_ : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = t.val % 8 ∧ win0_1.index t (2 : Fin 3) = 0)
    ∧ (win0_2.index t (0 : Fin 3) = t.val / 8 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val / 8 ∧ win0_5.index t (1 : Fin 3) = t.val % 8 ∧ win0_5.index t (2 : Fin 3) = 0)
    ∧ (cfg0.win 5).flush t = true :=
  (by decide +kernel : ∀ t : Fin grid0.N, _)

theorem blk0 (r : Fin 512) (n : Fin 1024) : iblk m c 0 t (ix3 (0 : Fin 1) r n) = m ((c : Thread nD τ).loc main_arg0) (ix3 (row_ t) (⟨512 * (blk_ t).val + r.val, by omega⟩ : Fin 4096) n) := by
  obtain ⟨h0, h1, h2⟩ := (at_ t).1
  unfold iblk
  rw [View.read_apply]
  refine congrArg (V m c main_arg0) (funext fun a => Fin.ext ?_)
  match a with
  | ⟨0, _⟩ => show win0_0.index t 0 * 1 + 1 * 0 = t.val / 8; rw [h0]; omega
  | ⟨1, _⟩ => show win0_0.index t 1 * 512 + 1 * r.val = 512 * (t.val % 8) + r.val; rw [h1]; omega
  | ⟨2, _⟩ => show win0_0.index t 2 * 1024 + 1 * n.val = n.val; rw [h2]; omega

theorem blk1 (r : Fin 512) (n : Fin 1024) : iblk m c 1 t (ix3 (0 : Fin 1) r n) = m ((c : Thread nD τ).loc main_arg1) (ix3 (row_ t) (⟨512 * (blk_ t).val + r.val, by omega⟩ : Fin 4096) n) := by
  obtain ⟨h0, h1, h2⟩ := (at_ t).2.1
  unfold iblk
  rw [View.read_apply]
  refine congrArg (V m c main_arg1) (funext fun a => Fin.ext ?_)
  match a with
  | ⟨0, _⟩ => show win0_1.index t 0 * 1 + 1 * 0 = t.val / 8; rw [h0]; omega
  | ⟨1, _⟩ => show win0_1.index t 1 * 512 + 1 * r.val = 512 * (t.val % 8) + r.val; rw [h1]; omega
  | ⟨2, _⟩ => show win0_1.index t 2 * 1024 + 1 * n.val = n.val; rw [h2]; omega

theorem blk2 (n : Fin 1024) : iblk m c 2 t (ix3 (0 : Fin 1) (0 : Fin 1) n) = m ((c : Thread nD τ).loc main_arg2) (ix3 (row_ t) (0 : Fin 1) n) := by
  obtain ⟨h0, h1, h2⟩ := (at_ t).2.2.1
  unfold iblk
  rw [View.read_apply]
  refine congrArg (V m c main_arg2) (funext fun a => Fin.ext ?_)
  match a with
  | ⟨0, _⟩ => show win0_2.index t 0 * 1 + 1 * 0 = t.val / 8; rw [h0]; omega
  | ⟨1, _⟩ => show win0_2.index t 1 * 1 + 1 * 0 = 0; rw [h1]
  | ⟨2, _⟩ => show win0_2.index t 2 * 1024 + 1 * n.val = n.val; rw [h2]; omega

theorem blk3 (k n : Fin 1024) : iblk m c 3 t (ix2 k n) = m ((c : Thread nD τ).loc main_arg3) (ix2 k n) := by
  obtain ⟨h0, h1⟩ := (at_ t).2.2.2.1
  unfold iblk
  rw [View.read_apply]
  refine congrArg (V m c main_arg3) (funext fun a => Fin.ext ?_)
  match a with
  | ⟨0, _⟩ => show win0_3.index t 0 * 1024 + 1 * k.val = k.val; rw [h0]; omega
  | ⟨1, _⟩ => show win0_3.index t 1 * 1024 + 1 * n.val = n.val; rw [h1]; omega

theorem blk4 (n : Fin 1024) : iblk m c 4 t (ix2 (0 : Fin 1) n) = m ((c : Thread nD τ).loc main_arg4) (ix2 (0 : Fin 1) n) := by
  obtain ⟨h0, h1⟩ := (at_ t).2.2.2.2.1
  unfold iblk
  rw [View.read_apply]
  refine congrArg (V m c main_arg4) (funext fun a => Fin.ext ?_)
  match a with
  | ⟨0, _⟩ => show win0_4.index t 0 * 1 + 1 * 0 = 0; rw [h0]
  | ⟨1, _⟩ => show win0_4.index t 1 * 1024 + 1 * n.val = n.val; rw [h1]; omega

/-- The result that the arguments in memory say. -/
def want : Fin 8 → Fin 4096 → Row 1024 :=
  res (fun B t n => m ((c : Thread nD τ).loc main_arg0) (ix3 B t n)) (fun B t n => m ((c : Thread nD τ).loc main_arg1) (ix3 B t n))
    (fun B n => m ((c : Thread nD τ).loc main_arg2) (ix3 B 0 n)) (fun k n => m ((c : Thread nD τ).loc main_arg3) (ix2 k n))
    (fun n => m ((c : Thread nD τ).loc main_arg4) (ix2 0 n))

/-- What a point leaves in its block. -/
theorem left (r : Fin 512) (n : Fin 1024) :
    out0_5 (iblk m c 0 t) (iblk m c 1 t) (iblk m c 2 t) (iblk m c 3 t) (iblk m c 4 t) (ix3 (0 : Fin 1) r n)
      = want m c (row_ t) ⟨512 * (blk_ t).val + r.val, by omega⟩ n := by
  refine (tile (iblk m c 0 t) (iblk m c 1 t) (iblk m c 2 t) (iblk m c 3 t) (iblk m c 4 t) r n).trans ?_
  simp only [blk0, blk1, blk2, blk3, blk4]
  rfl

/-- THE KERNEL'S VALUE: every entry of the array. -/
theorem arr_eq (B : Fin 8) (T : Fin 4096) (n : Fin 1024) : (dats m 0 c).arrAt 5 cfg0.N (ix3 B T n) = want m c B T n := by
  have hN : 8 * B.val + T.val / 512 < cfg0.N := lt_of_lt_of_eq (by omega : _ < 64) (show cfg0.N = 64 from N_0).symm
  obtain ⟨h0, h1, h2⟩ := (at_ ⟨_, hN⟩).2.2.2.2.2.1
  have hb := congrFun (blocks5 m c ⟨_, hN⟩ (at_ ⟨_, hN⟩).2.2.2.2.2.2) (ix3 (0 : Fin 1) (⟨T.val % 512, by omega⟩ : Fin 512) n)
  rw [View.read_apply, flushed5] at hb
  refine Eq.trans (congrArg ((dats m 0 c).arrAt 5 cfg0.N) (funext fun a => Fin.ext ?_)) (hb.trans ((left m c ⟨_, hN⟩ ⟨T.val % 512, by omega⟩ n).trans ?_))
  · match a with
    | ⟨0, _⟩ => show B.val = win0_5.index _ 0 * 1 + 1 * 0; rw [h0]; show B.val = (8 * B.val + T.val / 512) / 8 * 1 + 1 * 0; omega
    | ⟨1, _⟩ => show T.val = win0_5.index _ 1 * 512 + 1 * (T.val % 512); rw [h1]; show T.val = (8 * B.val + T.val / 512) % 8 * 512 + 1 * (T.val % 512); omega
    | ⟨2, _⟩ => show n.val = win0_5.index _ 2 * 1024 + 1 * n.val; rw [h2]; omega
  · congr 1
    · exact Fin.ext (by show (8 * B.val + T.val / 512) / 8 = B.val; omega)
    · exact Fin.ext (by show 512 * ((8 * B.val + T.val / 512) % 8) + T.val % 512 = T.val; omega)

end kernel

section reference

open Cert.Reference3Ideal Cert.Reference3Ideal.Gen

/-- The residual, as the reference's operations. -/
def x2 (y : FVec Ideal S8x4096x1024 .bf16) (x1 : FVec Ideal S8x4096x1024 .f32) (gate : FVec Ideal S8x1x1024 .f32) (wo : FVec Ideal S1024x1024 .bf16) :
    FVec Ideal S8x4096x1024 .f32 :=
  addf x1 (mulf (broadcastInDim S8x4096x1024 ![0, 1, 2] bcast_S8x1x1024_S8x4096x1024_0_1_2 gate)
    (Host.dotGeneral dot_S8x4096x1024_S1024x1024_S8x4096x1024_2_0_01_1_n_n none (extf .f32 y bitsLt_bf16_f32) (extf .f32 wo bitsLt_bf16_f32)))

/-- The norm, as the reference's operations. -/
def nrm (x : FVec Ideal S8x4096x1024 .f32) (g : FVec Ideal S1x1024 .f32) : FVec Ideal S8x4096x1024 .f32 :=
  mulf (mulf x (broadcastInDim S8x4096x1024 ![0, 1, 2] bcast_S8x4096x1_S8x4096x1024_0_1_2 (Host.rsqrt (addf (Host.divf
    (broadcastInDim S8x4096x1 ![0, 1] bcast_S8x4096_S8x4096x1_0_1 (Host.reduceAdd (mulf x x) (constant S_ .f32 0x00000000#32) reducesTo_S8x4096x1024_S8x4096_d2 h_S_))
    (broadcastInDim S8x4096x1 ![] bcast_S_S8x4096x1 (constant S_ .f32 0x44800000#32)))
    (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 (shapeCast S1024 g shapeCasts_S1x1024_S1024)))

theorem x2_at (y : FVec Ideal S8x4096x1024 .bf16) (x1 : FVec Ideal S8x4096x1024 .f32) (gate : FVec Ideal S8x1x1024 .f32) (wo : FVec Ideal S1024x1024 .bf16)
    (B : Fin 8) (T : Fin 4096) (n : Fin 1024) :
    x2 y x1 gate wo (ix3 B T n) = resid (fun n => x1 (ix3 B T n)) (fun n => gate (ix3 B 0 n)) (mul (fun k => y (ix3 B T k)) fun k n => wo (ix2 k n)) n := by
  pointwise [x2]
  rfl

theorem nrm_at (x : FVec Ideal S8x4096x1024 .f32) (g : FVec Ideal S1x1024 .f32) (B : Fin 8) (T : Fin 4096) (n : Fin 1024) :
    nrm x g (ix3 B T n) = norm (fun n => x (ix3 B T n)) (fun n => g (ix2 0 n)) n := by
  pointwise [nrm]
  rfl

/-- The result that the arguments in memory say. -/
def wantR (m : (ℓ : Loc nD τ sig) → Buf (Elt Ideal) ℓ) (c : Dev nD) : Fin 8 → Fin 4096 → Row 1024 :=
  res (fun B t n => m ((c.tc : Thread nD τ).loc main_arg0) (ix3 B t n)) (fun B t n => m ((c.tc : Thread nD τ).loc main_arg1) (ix3 B t n))
    (fun B n => m ((c.tc : Thread nD τ).loc main_arg2) (ix3 B 0 n)) (fun k n => m ((c.tc : Thread nD τ).loc main_arg3) (ix2 k n))
    (fun n => m ((c.tc : Thread nD τ).loc main_arg4) (ix2 0 n))

/-- THE REFERENCE'S VALUE: every entry of the array. -/
theorem ref_eq (m : (ℓ : Loc nD τ sig) → Buf (Elt Ideal) ℓ) (c : Dev nD) (B : Fin 8) (T : Fin 4096) (n : Fin 1024) :
    nrm (x2 (m ((c.tc : Thread nD τ).loc main_arg0)) (m ((c.tc : Thread nD τ).loc main_arg1)) (m ((c.tc : Thread nD τ).loc main_arg2)) (m ((c.tc : Thread nD τ).loc main_arg3)))
      (m ((c.tc : Thread nD τ).loc main_arg4)) (ix3 B T n) = wantR m c B T n := by
  refine (nrm_at _ _ B T n).trans ?_
  simp only [x2_at]
  rfl

end reference

section both

open Idealize.SL.Sem

/-- From equal arguments the kernel leaves one array and the reference the same. -/
theorem both (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD) (hargs : wantR m' c = want m c) :
    nrm (x2 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)))
      (m' ((c.tc : Thread Cert.Reference3Ideal.nD Cert.Reference3Ideal.τ).loc Cert.Reference3Ideal.main_arg4))
      = (Cert.Kernel3Ideal.Gen.dats m 0 c).arrAt 5 Cert.Kernel3Ideal.cfg0.N := by
  funext j
  obtain ⟨B, T, n, rfl⟩ : ∃ B T n, j = ix3 B T n := ⟨_, _, _, eq_ix3 j⟩
  exact (ref_eq m' c B T n).trans ((congrFun (congrFun (congrFun hargs B) T) n).trans (arr_eq m c B T n).symm)

end both

end Rows.Final

end
-- ==== Proof.Compress.lean ====
/-
  The call that compresses the keys and the values: each grid point takes one batch row and runs four windowed networks over
  it. The array that it leaves holds, at every window of 32 tokens, what the arguments say.
-/
module

public import Idealize.ShloMosaic.Lib.Pipeline.ValueKit.Tiles
public import proofs.«01_k».proof.Proof.Rows
public import proofs.«01_k».proof.Proof.Gen.Kernel5Ideal.Value

@[expose] public section

set_option maxRecDepth 65536

noncomputable section

namespace Rows.Compress

open Idealize.ShloMosaic Idealize.ShloMosaic.TcCoe Idealize.ShloMosaic.Pointwise Idealize.ShloMosaic.Tactic

/-! ## The result -/

/-- Token `r` of window `w`: the last window ends with the first tokens. -/
def token (w : Fin 256) (r : Fin 32) : Fin 4096 := ⟨(16 * w.val + r.val) % 4096, Nat.mod_lt _ (by omega)⟩

/-- Place `e` of a window's token `r`, and the first or the second half of a window's tokens. -/
abbrev place (r : Fin 32) (e : Fin 64) : Fin 2048 := ⟨64 * r.val + e.val, by omega⟩
abbrev nth (h : Fin 2) (l : Fin 16) : Fin 32 := ⟨16 * h.val + l.val, by omega⟩

/-- The network's first layer at a window. -/
def hid (x : Fin 4096 → Row 64) (pos : Fin 32 → Row 64) (w1 : Fin 2048 → Row 256) (w : Fin 256) : Row 256 := fun n =>
  ∑ r, ∑ e, (x (token w r) e + pos r e) * w1 (place r e) n

/-- The network at a window. -/
def net (x : Fin 4096 → Row 64) (pos : Fin 32 → Row 64) (w1 : Fin 2048 → Row 256) (w2 : Fin 256 → Row 64) (w : Fin 256) : Row 64 := fun d =>
  ∑ n, hid x pos w1 w n * sigm (hid x pos w1 w n) * w2 n d

/-- Which network job `j` runs. -/
abbrev kind (j : Fin 4) : Fin 2 := ⟨j.val / 2, by omega⟩
abbrev group (j : Fin 4) : Fin 2 := ⟨j.val % 2, by omega⟩

/-- The call's result, from its arguments. -/
def res (kv : Fin 8 → Fin 4096 → Row 256) (pos : Fin 2 → Fin 32 → Row 64) (w1 : Fin 2 → Fin 2048 → Row 256) (w2 : Fin 2 → Fin 256 → Row 64)
    (B : Fin 8) (j : Fin 4) : Fin 256 → Row 64 :=
  net (fun t e => kv B t ⟨64 * j.val + e.val, by omega⟩) (pos (kind j)) (w1 (kind j)) (w2 (kind j))

/-- The first layer, the halves of the windows apart. -/
theorem hid_halves (x : Fin 4096 → Row 64) (pos : Fin 32 → Row 64) (w1 : Fin 2048 → Row 256) (w : Fin 256) (n : Fin 256) :
    hid x pos w1 w n = (∑ l, ∑ e, (x (token w (nth 0 l)) e + pos (nth 0 l) e) * w1 (place (nth 0 l) e) n)
      + ∑ l, ∑ e, (x (token w (nth 1 l)) e + pos (nth 1 l) e) * w1 (place (nth 1 l) e) n := by
  unfold hid
  refine (Fin.sum_univ_add (a := 16) (b := 16) _).trans (congrArg₂ (· + ·) ?_ ?_) <;> refine Finset.sum_congr rfl fun l _ => ?_
  · rw [show Fin.castAdd 16 l = nth 0 l from Fin.ext (by simp)]
  · rw [show Fin.natAdd 16 l = nth 1 l from Fin.ext (by simp; omega)]

section kernel

open Cert.Kernel5Ideal Cert.Kernel5Ideal.Gen Cert.Kernel5Ideal.Value

/-! ## The arithmetic of a point -/

section point

variable {F : FTy → Type} [FloatOps F]

theorem sl_group (g : Fin 2) : S256x128.Slices ![0, 64 * g.val] S256x64 :=
  ⟨rfl, fun b => by have := g.isLt; fin_cases b <;> simp [Shape.size] <;> omega⟩

theorem inb_tok (l : Fin 16) : ∀ a, S1x256x128.size a = 0 ∨ (![0, l.val, 0] : Fin 3 → Nat) a + (![1, 16, 1] : Fin 3 → Nat) a * (S1x256x128.size a - 1) < S1x4096x128.size a :=
  fun a => by have := l.isLt; fin_cases a <;> simp [Shape.size] <;> omega

theorem inb_pos (i : Fin 2) (r : Fin 32) : ∀ a, (![i.val, r.val, 0] : Fin 3 → Nat) a + S1x1x64.size a ≤ S2x32x64.size a :=
  fun a => by have := i.isLt; have := r.isLt; fin_cases a <;> simp [Shape.size] <;> omega

theorem inb_w1 (i : Fin 2) (r : Fin 32) : ∀ a, (![i.val, 64 * r.val, 0] : Fin 3 → Nat) a + S1x64x256.size a ≤ S2x2048x256.size a :=
  fun a => by have := i.isLt; have := r.isLt; fin_cases a <;> simp [Shape.size] <;> omega

theorem inb_w2 (i : Fin 2) : ∀ a, (![i.val, 0, 0] : Fin 3 → Nat) a + S1x256x64.size a ≤ S2x256x64.size a :=
  fun a => by have := i.isLt; fin_cases a <;> simp [Shape.size] <;> omega

theorem inb_out (j : Fin 4) : ∀ a, (![0, j.val, 0, 0] : Fin 4 → Nat) a + S1x1x256x64.size a ≤ S1x4x256x64.size a :=
  fun a => by have := j.isLt; fin_cases a <;> simp [Shape.size] <;> omega

variable (a : Memref sig .tc .vmem S1x4096x128 .f32) (ha : a.IsWhole) (x : Vec F S1x4096x128 .f32)
  (a3 : Memref sig .tc .vmem S2x32x64 .f32) (h3 : a3.IsWhole) (pos : Vec F S2x32x64 .f32)
  (a4 : Memref sig .tc .vmem S2x2048x256 .bf16) (h4 : a4.IsWhole) (w1 : Vec F S2x2048x256 .bf16)
  (a5 : Memref sig .tc .vmem S2x256x64 .bf16) (h5 : a5.IsWhole) (w2 : Vec F S2x256x64 .bf16)

/-- Every 16th token from token `l`. -/
def toks (l : Fin 16) : Vec F S1x256x128 .f32 :=
  View.readAt (Elt F) a.view (⟨![0, l.val, 0], S1x256x128.size, ![1, 16, 1], inb_tok l⟩ : LoadRect S1x4096x128) (ha.unread x)

/-- A token's place vector, its weights, and the second layer's. -/
def posRow (i : Fin 2) (r : Fin 32) : Vec F S1x1x64 .f32 :=
  View.readAt (Elt F) a3.view (Rect.unit (s := S2x32x64) ![i.val, r.val, 0] S1x1x64.size (inb_pos i r)).toLoadRect (h3.unread pos)
def w1Rows (i : Fin 2) (r : Fin 32) : Vec F S1x64x256 .bf16 :=
  View.readAt (Elt F) a4.view (Rect.unit (s := S2x2048x256) ![i.val, 64 * r.val, 0] S1x64x256.size (inb_w1 i r)).toLoadRect (h4.unread w1)
def w2All (i : Fin 2) : Vec F S1x256x64 .bf16 :=
  View.readAt (Elt F) a5.view (Rect.unit (s := S2x256x64) ![i.val, 0, 0] S1x256x64.size (inb_w2 i)).toLoadRect (h5.unread w2)

/-- What one token of every window adds to the first layer. -/
def term (g : Fin 2) (v : Vec F S1x256x128 .f32) (p : Vec F S1x1x64 .f32) (w : Vec F S1x64x256 .bf16) : FVec F S256x256 .f32 :=
  matmul dot_S256x64_S64x256_S256x256_1_0_0_1_n_n none
    (truncf .bf16 (addf (extractStridedSlice S256x64 ![0, 64 * g.val] (shapeCast S256x128 v shapeCasts_S1x256x128_S256x128) (sl_group g))
      (broadcastTo S256x64 (shapeCast S1x64 p shapeCasts_S1x1x64_S1x64) broadcasts_S1x64_S256x64)) bitsLt_bf16_f32)
    (shapeCast S64x256 w shapeCasts_S1x64x256_S64x256) (constant S256x256 .f32 0x00000000#32)

/-- The first `n + 1` of them, added one by one. -/
def sumUp (f : Fin 16 → FVec F S256x256 .f32) : ℕ → FVec F S256x256 .f32
  | 0 => f 0
  | n + 1 => addf (sumUp f n) (f (Fin.ofNat 16 (n + 1)))

/-- One half of the windows' tokens. -/
def half (i g h : Fin 2) : FVec F S256x256 .f32 :=
  sumUp (fun l => term g (toks a ha x l) (posRow a3 h3 pos i (nth h l)) (w1Rows a4 h4 w1 i (nth h l))) 15

/-- The network: a window's second half is the next window's first. -/
def job (i g : Fin 2) : FVec F S1x1x256x64 .bf16 :=
  k0_pay1 (addf (half a ha x a3 h3 pos a4 h4 w1 i g 0) (dynamicRotate 0 255#32 none (half a ha x a3 h3 pos a4 h4 w1 i g 1) rotates_S256x256_d0)) (w2All a5 h5 w2 i)

variable (b : Memref sig .tc .vmem S1x4096x128 .f32) (hb : b.IsWhole) (y : Vec F S1x4096x128 .f32)

/-- Job `j` takes keys or values. -/
def jobOf (j : Fin 4) : FVec F S1x1x256x64 .bf16 :=
  match kind j with
  | 0 => job a ha x a3 h3 pos a4 h4 w1 a5 h5 w2 0 (group j)
  | 1 => job b hb y a3 h3 pos a4 h4 w1 a5 h5 w2 1 (group j)

/-- THE PIECES STORED: the four jobs', the last first. -/
theorem pieces (c : Dev nD) (i : grid0.Coords) (a6 : Memref sig .tc .vmem S1x4x256x64 .bf16) (h6 : a6.IsWhole) :
    (kernelRun0_A c i a ha b hb a3 h3 a4 h4 a5 h5 a6 h6 x y pos w1 w2).1
      = List.ofFn fun j : Fin 4 => ⟨Rect.unit (s := S1x4x256x64) ![0, j.rev.val, 0, 0] S1x1x256x64.size (inb_out j.rev), jobOf a ha x a3 h3 pos a4 h4 w1 a5 h5 w2 b hb y j.rev⟩ := by
  sl_kernel_rfl

end point

/-! ## Its entries -/

theorem term_at (g : Fin 2) (v : Vec Ideal S1x256x128 .f32) (p : Vec Ideal S1x1x64 .f32) (w : Vec Ideal S1x64x256 .bf16) (u n : Fin 256) :
    term g v p w (ix2 u n) = ∑ e : Fin 64, (v (ix3 (0 : Fin 1) u (⟨64 * g.val + e.val, by omega⟩ : Fin 128)) + p (ix3 (0 : Fin 1) (0 : Fin 1) e)) * w (ix3 (0 : Fin 1) e n) := by
  pointwise [term]

theorem sumUp_at (f : Fin 16 → FVec Ideal S256x256 .f32) (x : S256x256.Idx) : ∀ n, sumUp f n x = ∑ k ∈ Finset.range (n + 1), f (Fin.ofNat 16 k) x
  | 0 => by rw [Finset.sum_range_one]; rfl
  | n + 1 => by rw [Finset.sum_range_succ, ← sumUp_at f x n]; rfl

theorem sumUp_all (f : Fin 16 → FVec Ideal S256x256 .f32) (x : S256x256.Idx) : sumUp f 15 x = ∑ l, f l x := by
  rw [sumUp_at, Finset.sum_range]
  refine Finset.sum_congr rfl fun l _ => by rw [show Fin.ofNat 16 l.val = l from Fin.ext (Nat.mod_eq_of_lt l.isLt)]

/-- Every window's first half, and the next one's, by the second layer. -/
theorem out_at (a b : FVec Ideal S256x256 .f32) (w : Vec Ideal S1x256x64 .bf16) (u : Fin 256) (d : Fin 64) :
    k0_pay1 (addf a (dynamicRotate 0 255#32 none b rotates_S256x256_d0)) w (ix4 (0 : Fin 1) (0 : Fin 1) u d)
      = ∑ n : Fin 256, (a (ix2 u n) + b (ix2 (⟨(u.val + 1) % 256, by omega⟩ : Fin 256) n)) * sigm (a (ix2 u n) + b (ix2 (⟨(u.val + 1) % 256, by omega⟩ : Fin 256) n))
          * w (ix3 (0 : Fin 1) n d) := by
  have e : u.val + 256 - 255 = u.val + 1 := by omega
  pointwise [k0_pay1]
  simp only [e, zero_sub]
  rfl

section entries

variable (a : Memref sig .tc .vmem S1x4096x128 .f32) (ha : a.IsWhole) (x : Vec Ideal S1x4096x128 .f32)
  (a3 : Memref sig .tc .vmem S2x32x64 .f32) (h3 : a3.IsWhole) (pos : Vec Ideal S2x32x64 .f32)
  (a4 : Memref sig .tc .vmem S2x2048x256 .bf16) (h4 : a4.IsWhole) (w1 : Vec Ideal S2x2048x256 .bf16)
  (a5 : Memref sig .tc .vmem S2x256x64 .bf16) (h5 : a5.IsWhole) (w2 : Vec Ideal S2x256x64 .bf16)

theorem toks_at (l : Fin 16) (u : Fin 256) (n : Fin 128) :
    toks (F := Ideal) a ha x l (ix3 (0 : Fin 1) u n) = x (ix3 (0 : Fin 1) (⟨16 * u.val + l.val, by omega⟩ : Fin 4096) n) := by
  unfold toks
  rw [View.readAt_apply, ha.read_unread]
  refine congrArg x (funext fun b => Fin.ext ?_)
  match b with
  | ⟨0, _⟩ => rfl
  | ⟨1, _⟩ => show l.val + 16 * u.val = 16 * u.val + l.val; omega
  | ⟨2, _⟩ => show 0 + 1 * n.val = n.val; omega

theorem posRow_at (i : Fin 2) (r : Fin 32) (e : Fin 64) :
    posRow (F := Ideal) a3 h3 pos i r (ix3 (0 : Fin 1) (0 : Fin 1) e) = pos (ix3 i r e) := by
  unfold posRow
  rw [View.readAt_apply, h3.read_unread]
  refine congrArg pos (funext fun b => Fin.ext ?_)
  match b with
  | ⟨0, _⟩ => rfl
  | ⟨1, _⟩ => rfl
  | ⟨2, _⟩ => show 0 + 1 * e.val = e.val; omega

theorem w1Rows_at (i : Fin 2) (r : Fin 32) (e : Fin 64) (n : Fin 256) :
    w1Rows (F := Ideal) a4 h4 w1 i r (ix3 (0 : Fin 1) e n) = w1 (ix3 i (place r e) n) := by
  unfold w1Rows
  rw [View.readAt_apply, h4.read_unread]
  refine congrArg w1 (funext fun b => Fin.ext ?_)
  match b with
  | ⟨0, _⟩ => rfl
  | ⟨1, _⟩ => show 64 * r.val + 1 * e.val = 64 * r.val + e.val; omega
  | ⟨2, _⟩ => show 0 + 1 * n.val = n.val; omega

theorem w2All_at (i : Fin 2) (n : Fin 256) (d : Fin 64) :
    w2All (F := Ideal) a5 h5 w2 i (ix3 (0 : Fin 1) n d) = w2 (ix3 i n d) := by
  unfold w2All
  rw [View.readAt_apply, h5.read_unread]
  refine congrArg w2 (funext fun b => Fin.ext ?_)
  match b with
  | ⟨0, _⟩ => rfl
  | ⟨1, _⟩ => show 0 + 1 * n.val = n.val; omega
  | ⟨2, _⟩ => show 0 + 1 * d.val = d.val; omega

theorem half_at (i g h : Fin 2) (u n : Fin 256) :
    half (F := Ideal) a ha x a3 h3 pos a4 h4 w1 i g h (ix2 u n)
      = ∑ l : Fin 16, ∑ e : Fin 64, (x (ix3 (0 : Fin 1) (⟨16 * u.val + l.val, by omega⟩ : Fin 4096) (⟨64 * g.val + e.val, by omega⟩ : Fin 128)) + pos (ix3 i (nth h l) e))
          * w1 (ix3 i (place (nth h l) e) n) := by
  unfold half
  rw [sumUp_all]
  refine Finset.sum_congr rfl fun l _ => ?_
  rw [term_at]
  simp only [toks_at, posRow_at, w1Rows_at]

/-- A job's result. -/
theorem job_at (i g : Fin 2) (u : Fin 256) (d : Fin 64) :
    job (F := Ideal) a ha x a3 h3 pos a4 h4 w1 a5 h5 w2 i g (ix4 (0 : Fin 1) (0 : Fin 1) u d)
      = net (fun t e => x (ix3 (0 : Fin 1) t (⟨64 * g.val + e.val, by omega⟩ : Fin 128))) (fun r e => pos (ix3 i r e)) (fun k n => w1 (ix3 i k n)) (fun n d => w2 (ix3 i n d)) u d := by
  unfold job
  rw [out_at]
  have e0 (l : Fin 16) (h) : (⟨16 * u.val + l.val, h⟩ : Fin 4096) = token u (nth 0 l) :=
    Fin.ext (by show 16 * u.val + l.val = (16 * u.val + (16 * 0 + l.val)) % 4096; omega)
  have e1 (l : Fin 16) (h) : (⟨16 * ((u.val + 1) % 256) + l.val, h⟩ : Fin 4096) = token u (nth 1 l) :=
    Fin.ext (by show 16 * ((u.val + 1) % 256) + l.val = (16 * u.val + (16 * 1 + l.val)) % 4096; omega)
  simp only [half_at, e0, e1, w2All_at]
  unfold net
  simp only [hid_halves]

variable (b : Memref sig .tc .vmem S1x4096x128 .f32) (hb : b.IsWhole) (y : Vec Ideal S1x4096x128 .f32)

/-- Job `j` takes lanes `64 j` and on of the row whose first half of the lanes are the keys and whose second the values. -/
theorem jobOf_at (kv : Fin 4096 → Row 256) (hx : ∀ t (n : Fin 128), x (ix3 (0 : Fin 1) t n) = kv t ⟨n.val, by omega⟩)
    (hy : ∀ t (n : Fin 128), y (ix3 (0 : Fin 1) t n) = kv t ⟨128 + n.val, by omega⟩) (j : Fin 4) (u : Fin 256) (d : Fin 64) :
    jobOf (F := Ideal) a ha x a3 h3 pos a4 h4 w1 a5 h5 w2 b hb y j (ix4 (0 : Fin 1) (0 : Fin 1) u d)
      = net (fun t e => kv t ⟨64 * j.val + e.val, by omega⟩) (fun r e => pos (ix3 (kind j) r e)) (fun k n => w1 (ix3 (kind j) k n))
          (fun n d => w2 (ix3 (kind j) n d)) u d := by
  have hj := j.isLt
  unfold jobOf
  obtain h | h : j.val / 2 = 0 ∨ j.val / 2 = 1 := by omega
  · rw [show kind j = 0 from Fin.ext h]
    refine (job_at a ha x a3 h3 pos a4 h4 w1 a5 h5 w2 0 (group j) u d).trans ?_
    refine congrArg (fun f => net f _ _ _ u d) (funext fun t => funext fun e => (hx t _).trans (congrArg (kv t) (Fin.ext ?_)))
    show 64 * (j.val % 2) + e.val = 64 * j.val + e.val
    omega
  · rw [show kind j = 1 from Fin.ext h]
    refine (job_at b hb y a3 h3 pos a4 h4 w1 a5 h5 w2 1 (group j) u d).trans ?_
    refine congrArg (fun f => net f _ _ _ u d) (funext fun t => funext fun e => (hy t _).trans (congrArg (kv t) (Fin.ext ?_)))
    show 128 + (64 * (j.val % 2) + e.val) = 64 * j.val + e.val
    omega

end entries

/-- Pieces that tile the block job by job, read back. -/
theorem canon_jobs (P : Fin 4 → FVec Ideal S1x1x256x64 .bf16) (j : Fin 4) (u : Fin 256) (d : Fin 64) :
    View.canon (List.ofFn fun j : Fin 4 => (⟨Rect.unit (s := S1x4x256x64) ![0, j.rev.val, 0, 0] S1x1x256x64.size (inb_out j.rev), P j.rev⟩ : View.Piece (Elt Ideal) S1x4x256x64 .bf16))
      (ix4 (0 : Fin 1) j u d) = P j (ix4 (0 : Fin 1) (0 : Fin 1) u d) := by
  refine View.canon_ofFn_unit_eq_of_forall (S := S1x4x256x64) (Val := Elt Ideal) (e := .bf16) (fun j : Fin 4 => ![0, j.rev.val, 0, 0]) S1x1x256x64.size
    (fun j => inb_out j.rev) (fun j => P j.rev) _ _ ⟨j.rev, fun b => ?_⟩ fun k x hx => ?_
  · rw [Fin.rev_rev]
    match b with
    | ⟨0, _⟩ => show 0 ≤ 0 ∧ 0 < 0 + 1; omega
    | ⟨1, _⟩ => show j.val ≤ j.val ∧ j.val < j.val + 1; omega
    | ⟨2, _⟩ => show 0 ≤ u.val ∧ u.val < 0 + 256; omega
    | ⟨3, _⟩ => show 0 ≤ d.val ∧ d.val < 0 + 64; omega
  · have e0 : (x 0).val < 1 := (x 0).isLt
    have e1 : (x 1).val < 1 := (x 1).isLt
    have h1 : j.val = k.rev.val + (x 1).val := hx 1
    have h2 : u.val = 0 + (x 2).val := hx 2
    have h3 : d.val = 0 + (x 3).val := hx 3
    rw [show k.rev = j from Fin.ext (by omega)]
    refine congrArg (P j) (funext fun b => Fin.ext ?_)
    match b with
    | ⟨0, _⟩ => show (x 0).val = 0; omega
    | ⟨1, _⟩ => show (x 1).val = 0; omega
    | ⟨2, _⟩ => show (x 2).val = u.val; omega
    | ⟨3, _⟩ => show (x 3).val = d.val; omega

/-! ## The array -/

variable (m : (ℓ : Loc nD τ sig) → Buf (Elt Ideal) ℓ) (c : Dev nD) (t : Fin cfg0.N)

/-- A point's batch row. -/
abbrev row_ (t : Fin cfg0.N) : Fin 8 := ⟨t.val, lt_of_lt_of_eq t.isLt (show cfg0.N = 8 from N_0)⟩

/-- Where the windows of a point lie. -/
theorem at_ : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 1)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 3) = 0 ∧ win0_4.index t (1 : Fin 3) = 0 ∧ win0_4.index t (2 : Fin 3) = 0)
    ∧ (win0_5.index t (0 : Fin 4) = t.val ∧ win0_5.index t (1 : Fin 4) = 0 ∧ win0_5.index t (2 : Fin 4) = 0 ∧ win0_5.index t (3 : Fin 4) = 0)
    ∧ (cfg0.win 5).flush t = true :=
  (by decide +kernel : ∀ t : Fin grid0.N, _)

theorem blk0 (r : Fin 4096) (n : Fin 128) :
    iblk m c 0 t (ix3 (0 : Fin 1) r n) = m ((c : Thread nD τ).loc main_arg0) (ix3 (row_ t) r (⟨n.val, by omega⟩ : Fin 256)) := by
  obtain ⟨h0, h1, h2⟩ := (at_ t).1
  unfold iblk
  rw [View.read_apply]
  refine congrArg (V m c main_arg0) (funext fun a => Fin.ext ?_)
  match a with
  | ⟨0, _⟩ => show win0_0.index t 0 * 1 + 1 * 0 = t.val; rw [h0]; omega
  | ⟨1, _⟩ => show win0_0.index t 1 * 4096 + 1 * r.val = r.val; rw [h1]; omega
  | ⟨2, _⟩ => show win0_0.index t 2 * 128 + 1 * n.val = n.val; rw [h2]; omega

theorem blk1 (r : Fin 4096) (n : Fin 128) :
    iblk m c 1 t (ix3 (0 : Fin 1) r n) = m ((c : Thread nD τ).loc main_arg0) (ix3 (row_ t) r (⟨128 + n.val, by omega⟩ : Fin 256)) := by
  obtain ⟨h0, h1, h2⟩ := (at_ t).2.1
  unfold iblk
  rw [View.read_apply]
  refine congrArg (V m c main_arg0) (funext fun a => Fin.ext ?_)
  match a with
  | ⟨0, _⟩ => show win0_1.index t 0 * 1 + 1 * 0 = t.val; rw [h0]; omega
  | ⟨1, _⟩ => show win0_1.index t 1 * 4096 + 1 * r.val = r.val; rw [h1]; omega
  | ⟨2, _⟩ => show win0_1.index t 2 * 128 + 1 * n.val = 128 + n.val; rw [h2]; omega

theorem blk2 (i : Fin 2) (r : Fin 32) (e : Fin 64) : iblk m c 2 t (ix3 i r e) = m ((c : Thread nD τ).loc main_arg1) (ix3 i r e) := by
  obtain ⟨h0, h1, h2⟩ := (at_ t).2.2.1
  unfold iblk
  rw [View.read_apply]
  refine congrArg (V m c main_arg1) (funext fun a => Fin.ext ?_)
  match a with
  | ⟨0, _⟩ => show win0_2.index t 0 * 2 + 1 * i.val = i.val; rw [h0]; omega
  | ⟨1, _⟩ => show win0_2.index t 1 * 32 + 1 * r.val = r.val; rw [h1]; omega
  | ⟨2, _⟩ => show win0_2.index t 2 * 64 + 1 * e.val = e.val; rw [h2]; omega

theorem blk3 (i : Fin 2) (k : Fin 2048) (n : Fin 256) : iblk m c 3 t (ix3 i k n) = m ((c : Thread nD τ).loc main_arg2) (ix3 i k n) := by
  obtain ⟨h0, h1, h2⟩ := (at_ t).2.2.2.1
  unfold iblk
  rw [View.read_apply]
  refine congrArg (V m c main_arg2) (funext fun a => Fin.ext ?_)
  match a with
  | ⟨0, _⟩ => show win0_3.index t 0 * 2 + 1 * i.val = i.val; rw [h0]; omega
  | ⟨1, _⟩ => show win0_3.index t 1 * 2048 + 1 * k.val = k.val; rw [h1]; omega
  | ⟨2, _⟩ => show win0_3.index t 2 * 256 + 1 * n.val = n.val; rw [h2]; omega

theorem blk4 (i : Fin 2) (n : Fin 256) (d : Fin 64) : iblk m c 4 t (ix3 i n d) = m ((c : Thread nD τ).loc main_arg3) (ix3 i n d) := by
  obtain ⟨h0, h1, h2⟩ := (at_ t).2.2.2.2.1
  unfold iblk
  rw [View.read_apply]
  refine congrArg (V m c main_arg3) (funext fun a => Fin.ext ?_)
  match a with
  | ⟨0, _⟩ => show win0_4.index t 0 * 2 + 1 * i.val = i.val; rw [h0]; omega
  | ⟨1, _⟩ => show win0_4.index t 1 * 256 + 1 * n.val = n.val; rw [h1]; omega
  | ⟨2, _⟩ => show win0_4.index t 2 * 64 + 1 * d.val = d.val; rw [h2]; omega

/-- The result that the arguments in memory say. -/
def want : Fin 8 → Fin 4 → Fin 256 → Row 64 :=
  res (fun B t n => m ((c : Thread nD τ).loc main_arg0) (ix3 B t n)) (fun i r e => m ((c : Thread nD τ).loc main_arg1) (ix3 i r e))
    (fun i k n => m ((c : Thread nD τ).loc main_arg2) (ix3 i k n)) (fun i n d => m ((c : Thread nD τ).loc main_arg3) (ix3 i n d))

/-- What a point leaves in its block. -/
theorem left (j : Fin 4) (u : Fin 256) (d : Fin 64) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t)
      (iblk m c 0 t) (iblk m c 1 t) (iblk m c 2 t) (iblk m c 3 t) (iblk m c 4 t) (ix4 (0 : Fin 1) j u d) = want m c (row_ t) j u d := by
  simp only [out0_A_5, View.read_writes_junk_apply_eq_canon]
  rw [pieces, canon_jobs, jobOf_at _ _ _ _ _ _ _ _ _ _ _ _ _ _ _ (fun r n => m ((c : Thread nD τ).loc main_arg0) (ix3 (row_ t) r n)) (blk0 m c t) (blk1 m c t)]
  simp only [blk2, blk3, blk4]
  rfl

/-- THE KERNEL'S VALUE: every entry of the array. -/
theorem arr_eq (B : Fin 8) (j : Fin 4) (u : Fin 256) (d : Fin 64) : (dats m 0 c).arrAt 5 cfg0.N (ix4 B j u d) = want m c B j u d := by
  have hN : B.val < cfg0.N := lt_of_lt_of_eq B.isLt (show cfg0.N = 8 from N_0).symm
  obtain ⟨h0, h1, h2, h3⟩ := (at_ ⟨_, hN⟩).2.2.2.2.2.1
  have hb := congrFun (blocks5 m c ⟨_, hN⟩ (at_ ⟨_, hN⟩).2.2.2.2.2.2) (ix4 (0 : Fin 1) j u d)
  rw [View.read_apply, flushed5_A] at hb
  refine Eq.trans (congrArg ((dats m 0 c).arrAt 5 cfg0.N) (funext fun a => Fin.ext ?_)) (hb.trans (left m c ⟨_, hN⟩ j u d))
  match a with
  | ⟨0, _⟩ => show B.val = win0_5.index _ 0 * 1 + 1 * 0; rw [h0]; show B.val = B.val * 1 + 1 * 0; omega
  | ⟨1, _⟩ => show j.val = win0_5.index _ 1 * 4 + 1 * j.val; rw [h1]; omega
  | ⟨2, _⟩ => show u.val = win0_5.index _ 2 * 256 + 1 * u.val; rw [h2]; omega
  | ⟨3, _⟩ => show d.val = win0_5.index _ 3 * 64 + 1 * d.val; rw [h3]; omega

end kernel

end Rows.Compress

end
-- ==== Proof.CompressRef.lean ====
/-
  The compression call's reference: the windows gathered, the network on each, read at an index; its array is the kernel's.
-/
module

public import proofs.«01_k».proof.Proof.Compress
public import proofs.«01_k».proof.Proof.Gen.Reference5Ideal.Run

@[expose] public section

set_option maxRecDepth 65536

noncomputable section

namespace Rows.Compress

open Idealize.ShloMosaic Idealize.ShloMosaic.TcCoe Idealize.ShloMosaic.Pointwise
open Cert.Reference5Ideal Cert.Reference5Ideal.Gen

/-- The words `16 w + r`. -/
def sums : IVec S256x32 32 :=
  addi (broadcastInDim S256x32 ![0, 1] bcast_S256x1_S256x32_0_1 (muli (broadcastInDim S256x1 ![0] bcast_S256_S256x1_0 (iotaInDim S256 32 0))
      (broadcastInDim S256x1 ![] bcast_S_S256x1 (constantI S_ 32 16#32))))
    (broadcastInDim S256x32 ![0, 1] bcast_S1x32_S256x32_0_1 (broadcastInDim S1x32 ![1] bcast_S32_S1x32_1 (iotaInDim S32 32 0)))

/-- The index words: a negative one would count from the end. -/
def words : IVec S256x32x1 32 :=
  broadcastInDim S256x32x1 ![0, 1] bcast_S256x32_S256x32x1_0_1 (select (cmpi .slt sums (broadcastInDim S256x32 ![] bcast_S_S256x32 (constantI S_ 32 0#32)))
    (addi sums (broadcastInDim S256x32 ![] bcast_S_S256x32 (constantI S_ 32 4112#32))) sums)

theorem sums_at (w : Fin 256) (r : Fin 32) : sums (ix2 w r) = BitVec.ofNat 32 (16 * w.val + r.val) := by
  pointwise [sums]
  show BitVec.ofNat 32 w.val * 16#32 + BitVec.ofNat 32 r.val = _
  refine BitVec.eq_of_toNat_eq ?_
  simp only [BitVec.toNat_add, BitVec.toNat_mul, BitVec.toNat_ofNat]
  omega

theorem not_neg : ∀ k : Fin 4112, IntOp.cmpi .slt (BitVec.ofNat 32 k.val) 0#32 = 0#1 := by decide +kernel
theorem read_word : ∀ k : Fin 4112, (BitVec.ofNat 32 k.val).toInt.toNat = k.val := by decide +kernel

theorem words_at (w : Fin 256) (r : Fin 32) : words (ix3 w r (0 : Fin 1)) = BitVec.ofNat 32 (16 * w.val + r.val) := by
  pointwise [words]
  rw [sums_at, not_neg ⟨16 * w.val + r.val, by omega⟩]
  rfl

/-- A gather of whole rows, read at an index. -/
theorem gather_at (x : S8x4112x256.Idx → EReal) (idx : IVec S256x32x1 32) (B : Fin 8) (w : Fin 256) (r : Fin 32) (n : Fin 256) (k : Fin 4112)
    (hk : (idx (ix3 w r (0 : Fin 1))).toInt.toNat = k.val) :
    Host.gather gather_S8x4112x256_S256x32x1_S8x256x32x256_03_1_n_n_1_2_81256 x idx (ix4 B w r n) = x (ix3 B k n) := by
  unfold Host.gather
  refine congrArg x (funext fun a => Fin.ext ?_)
  match a with
  | ⟨0, _⟩ =>
    show GatherDims.start _ _ idx 0 + GatherDims.batchCoord _ _ 0 + GatherDims.offCoord _ _ 0 = B.val
    rw [GatherDims.batchCoord_eq_zero _ _ _ List.not_mem_nil]
    unfold GatherDims.start GatherDims.offCoord
    rw [dif_neg (by decide), dif_pos (by decide)]
    show 0 + 0 + B.val = B.val
    omega
  | ⟨1, _⟩ =>
    show GatherDims.start _ _ idx 1 + GatherDims.batchCoord _ _ 1 + GatherDims.offCoord _ _ 1 = k.val
    rw [GatherDims.batchCoord_eq_zero _ _ _ List.not_mem_nil]
    unfold GatherDims.start GatherDims.offCoord
    rw [dif_pos (by decide), dif_neg (by decide)]
    refine Eq.trans (b := min (idx (ix3 w r (0 : Fin 1))).toInt.toNat 4111) ?_ (by rw [hk]; omega)
    refine congrArg (fun y => min (idx y).toInt.toNat 4111) (funext fun b => Fin.ext ?_)
    match b with
    | ⟨0, _⟩ => rfl
    | ⟨1, _⟩ => rfl
    | ⟨2, _⟩ => rfl
  | ⟨2, _⟩ =>
    show GatherDims.start _ _ idx 2 + GatherDims.batchCoord _ _ 2 + GatherDims.offCoord _ _ 2 = n.val
    rw [GatherDims.batchCoord_eq_zero _ _ _ List.not_mem_nil]
    unfold GatherDims.start GatherDims.offCoord
    rw [dif_neg (by decide), dif_pos (by decide)]
    show 0 + 0 + n.val = n.val
    omega

/-- The tokens of every window. -/
def windows (kv : FVec Ideal S8x4096x256 .f32) : FVec Ideal S8x256x32x256 .f32 :=
  Host.gather gather_S8x4112x256_S256x32x1_S8x256x32x256_03_1_n_n_1_2_81256
    (concatenate S8x4112x256 1 [⟨S8x4096x256, kv⟩, ⟨S8x16x256, extractStridedSlice S8x16x256 ![0, 0, 0] kv slices_S8x4096x256_S8x16x256_0_0_0⟩]
      concatenates_S8x4096x256_S8x16x256_S8x4112x256_d1) words

theorem windows_at (kv : FVec Ideal S8x4096x256 .f32) (B : Fin 8) (w : Fin 256) (r : Fin 32) (n : Fin 256) :
    windows kv (ix4 B w r n) = kv (ix3 B (token w r) n) := by
  unfold windows
  rw [gather_at _ _ B w r n ⟨16 * w.val + r.val, by omega⟩ (by rw [words_at]; exact read_word ⟨16 * w.val + r.val, by omega⟩)]
  pointwise
  split
  · exact congrArg (fun t => kv (ix3 B t n)) (Fin.ext (by show 16 * w.val + r.val = (16 * w.val + r.val) % 4096; omega))
  · exact congrArg (fun t => kv (ix3 B t n)) (Fin.ext (by show 16 * w.val + r.val - 4096 = (16 * w.val + r.val) % 4096; omega))

theorem sl_win (j : Fin 4) : S8x256x32x256.Slices ![0, 0, 0, 64 * j.val] S8x256x32x64 :=
  ⟨rfl, fun b => by have := j.isLt; fin_cases b <;> simp [Shape.size] <;> omega⟩
theorem sl_pos (i : Fin 2) : S2x32x64.Slices ![i.val, 0, 0] S1x32x64 :=
  ⟨rfl, fun b => by have := i.isLt; fin_cases b <;> simp [Shape.size] <;> omega⟩
theorem sl_w1 (i : Fin 2) : S2x2048x256.Slices ![i.val, 0, 0] S1x2048x256 :=
  ⟨rfl, fun b => by have := i.isLt; fin_cases b <;> simp [Shape.size] <;> omega⟩
theorem sl_w2 (i : Fin 2) : S2x256x64.Slices ![i.val, 0, 0] S1x256x64 :=
  ⟨rfl, fun b => by have := i.isLt; fin_cases b <;> simp [Shape.size] <;> omega⟩

/-- Job `j`'s windows with the tokens' place vectors, each window one row. -/
def rows (blk : FVec Ideal S8x256x32x256 .f32) (pos : FVec Ideal S2x32x64 .f32) (j : Fin 4) : FVec Ideal S8x256x2048 .f32 :=
  shapeCast S8x256x2048 (addf (extractStridedSlice S8x256x32x64 ![0, 0, 0, 64 * j.val] blk (sl_win j))
    (broadcastInDim S8x256x32x64 ![0, 1, 2, 3] bcast_S1x1x32x64_S8x256x32x64_0_1_2_3 (broadcastInDim S1x1x32x64 ![2, 3] bcast_S32x64_S1x1x32x64_2_3
      (shapeCast S32x64 (extractStridedSlice S1x32x64 ![(kind j).val, 0, 0] pos (sl_pos (kind j))) shapeCasts_S1x32x64_S32x64)))) shapeCasts_S8x256x32x64_S8x256x2048

/-- Its first layer. -/
def layer (blk : FVec Ideal S8x256x32x256 .f32) (pos : FVec Ideal S2x32x64 .f32) (w1 : FVec Ideal S2x2048x256 .bf16) (j : Fin 4) : FVec Ideal S8x256x256 .f32 :=
  Host.dotGeneral dot_S8x256x2048_S2048x256_S8x256x256_2_0_01_1_n_n none (rows blk pos j)
    (shapeCast S2048x256 (extractStridedSlice S1x2048x256 ![(kind j).val, 0, 0] (extf .f32 w1 bitsLt_bf16_f32) (sl_w1 (kind j))) shapeCasts_S1x2048x256_S2048x256)

/-- Its silu and second layer. -/
def second (h : FVec Ideal S8x256x256 .f32) (w2 : FVec Ideal S2x256x64 .bf16) (j : Fin 4) : FVec Ideal S8x1x256x64 .f32 :=
  broadcastInDim S8x1x256x64 ![0, 2, 3] bcast_S8x256x64_S8x1x256x64_0_2_3 (Host.dotGeneral dot_S8x256x256_S256x64_S8x256x64_2_0_01_1_n_n none
    (mulf h (Host.divf (broadcastInDim S8x256x256 ![] bcast_S_S8x256x256 (constant S_ .f32 0x3F800000#32))
      (addf (broadcastInDim S8x256x256 ![] bcast_S_S8x256x256 (constant S_ .f32 0x3F800000#32)) (Host.exp (Host.negf h)))))
    (shapeCast S256x64 (extractStridedSlice S1x256x64 ![(kind j).val, 0, 0] (extf .f32 w2 bitsLt_bf16_f32) (sl_w2 (kind j))) shapeCasts_S1x256x64_S256x64))

/-- The four jobs' results, one after another. -/
def stack (f : Fin 4 → FVec Ideal S8x1x256x64 .f32) : FVec Ideal S8x4x256x64 .bf16 :=
  truncf .bf16 (concatenate S8x4x256x64 1 [⟨S8x1x256x64, f 0⟩, ⟨S8x1x256x64, f 1⟩, ⟨S8x1x256x64, f 2⟩, ⟨S8x1x256x64, f 3⟩]
    concatenates_S8x1x256x64_S8x1x256x64_S8x1x256x64_S8x1x256x64_S8x4x256x64_d1) bitsLt_bf16_f32

theorem rows_at (blk : FVec Ideal S8x256x32x256 .f32) (pos : FVec Ideal S2x32x64 .f32) (j : Fin 4) (B : Fin 8) (w : Fin 256) (r : Fin 32) (e : Fin 64) :
    rows blk pos j (ix3 B w (place r e)) = blk (ix4 B w r (⟨64 * j.val + e.val, by omega⟩ : Fin 256)) + pos (ix3 (kind j) r e) := by
  have e1 : (64 * r.val + e.val) / 64 = r.val := by omega
  have e2 : (64 * r.val + e.val) % 64 = e.val := by omega
  pointwise [rows]
  simp only [e1, e2]

theorem sum_places (f : Fin 2048 → EReal) : ∑ k, f k = ∑ r, ∑ e, f (place r e) := by
  rw [← Fintype.sum_prod_type' (fun r e => f (place r e)), ← (finProdFinEquiv (m := 32) (n := 64)).sum_comp]
  exact Finset.sum_congr rfl fun k _ => congrArg f (Fin.ext (Nat.add_comm _ _))

theorem layer_at (blk : FVec Ideal S8x256x32x256 .f32) (pos : FVec Ideal S2x32x64 .f32) (w1 : FVec Ideal S2x2048x256 .bf16) (j : Fin 4) (B : Fin 8) (w n : Fin 256) :
    layer blk pos w1 j (ix3 B w n) = ∑ r, ∑ e, (blk (ix4 B w r (⟨64 * j.val + e.val, by omega⟩ : Fin 256)) + pos (ix3 (kind j) r e)) * w1 (ix3 (kind j) (place r e) n) := by
  simp only [← rows_at]
  rw [← sum_places fun k => rows blk pos j (ix3 B w k) * w1 (ix3 (kind j) k n)]
  pointwise [layer]

theorem second_at (h : FVec Ideal S8x256x256 .f32) (w2 : FVec Ideal S2x256x64 .bf16) (j : Fin 4) (B : Fin 8) (w : Fin 256) (d : Fin 64) :
    second h w2 j (ix4 B (0 : Fin 1) w d) = ∑ n, h (ix3 B w n) * sigm (h (ix3 B w n)) * w2 (ix3 (kind j) n d) := by
  pointwise [second]
  rfl

theorem stack_at (f : Fin 4 → FVec Ideal S8x1x256x64 .f32) (B : Fin 8) (j : Fin 4) (w : Fin 256) (d : Fin 64) :
    stack f (ix4 B j w d) = f j (ix4 B (0 : Fin 1) w d) := by
  fin_cases j <;> pointwise [stack]

/-- The reference's result, as these operations. -/
def out (m : (ℓ : Loc nD τ sig) → Buf (Elt Ideal) ℓ) (c : Dev nD) : FVec Ideal S8x4x256x64 .bf16 :=
  stack fun j => second (layer (windows (m ((c.tc : Thread nD τ).loc main_arg0))) (m ((c.tc : Thread nD τ).loc main_arg1)) (m ((c.tc : Thread nD τ).loc main_arg2)) j)
    (m ((c.tc : Thread nD τ).loc main_arg3)) j

theorem res_eq (m : (ℓ : Loc nD τ sig) → Buf (Elt Ideal) ℓ) (c : Dev nD) : Value.res_out0 m c = out m c := by
  unfold Value.res_out0 Value.res_main_v81 out
  rfl

/-- The result that the arguments in memory say. -/
def wantR (m : (ℓ : Loc nD τ sig) → Buf (Elt Ideal) ℓ) (c : Dev nD) : Fin 8 → Fin 4 → Fin 256 → Row 64 :=
  res (fun B t n => m ((c.tc : Thread nD τ).loc main_arg0) (ix3 B t n)) (fun i r e => m ((c.tc : Thread nD τ).loc main_arg1) (ix3 i r e))
    (fun i k n => m ((c.tc : Thread nD τ).loc main_arg2) (ix3 i k n)) (fun i n d => m ((c.tc : Thread nD τ).loc main_arg3) (ix3 i n d))

/-- THE REFERENCE'S VALUE: every entry of the array. -/
theorem out_eq (m : (ℓ : Loc nD τ sig) → Buf (Elt Ideal) ℓ) (c : Dev nD) (B : Fin 8) (j : Fin 4) (w : Fin 256) (d : Fin 64) :
    out m c (ix4 B j w d) = wantR m c B j w d := by
  unfold out
  refine (stack_at _ B j w d).trans ((second_at _ _ j B w d).trans ?_)
  simp only [layer_at, windows_at]
  rfl

/-- From equal arguments the kernel leaves one array and the reference the same. -/
theorem both (m : (ℓ : Loc Cert.Kernel5Ideal.nD Cert.Kernel5Ideal.τ Cert.Kernel5Ideal.sig) → Buf (Elt Ideal) ℓ) (m' : (ℓ : Loc nD τ sig) → Buf (Elt Ideal) ℓ)
    (c : Dev nD) (hargs : wantR m' c = want m c) :
    Value.res_out0 m' c = (Cert.Kernel5Ideal.Gen.dats m 0 c).arrAt 5 Cert.Kernel5Ideal.cfg0.N := by
  rw [res_eq]
  funext i
  obtain ⟨B, j, w, d, rfl⟩ : ∃ B j w d, i = ix4 B j w d := ⟨_, _, _, _, eq_ix4 i⟩
  exact (out_eq m' c B j w d).trans ((congrFun (congrFun (congrFun (congrFun hargs B) j) w) d).trans (arr_eq m c B j w d).symm)

end Rows.Compress

end
-- ==== Proof.Ada.lean ====
/-
  The call that makes the modulation's vectors: each grid point takes one layer and a third of its columns. The array that it
  leaves holds silu(c) W + b at every layer, and so does the reference's.
-/
module

public import proofs.«01_k».proof.Proof.Rows
public import proofs.«01_k».proof.Proof.Gen.Kernel6Ideal.Value
public import proofs.«01_k».proof.Proof.Gen.Reference6Ideal.Run

@[expose] public section

set_option maxRecDepth 4096

noncomputable section

namespace Rows.Ada

open Idealize.ShloMosaic Idealize.ShloMosaic.TcCoe Idealize.ShloMosaic.Pointwise

/-- The result of a layer at a batch row, from the arguments. -/
def res (c : Fin 8 → Row 1024) (w : Fin 2 → Fin 1024 → Row 3072) (b : Fin 2 → Row 3072) (l : Fin 2) (B : Fin 8) : Row 3072 := fun n =>
  mul (fun k => c B k * sigm (c B k)) (w l) n + b l n

section kernel

open Cert.Kernel6Ideal Cert.Kernel6Ideal.Gen Cert.Kernel6Ideal.Value

/-- What a point writes into its block, from the blocks that it reads. -/
theorem tile (x : Vec Ideal S8x1024 .f32) (w : Vec Ideal S1x1024x1024 .f32) (b : Vec Ideal S1x1x1024 .f32) (B : Fin 8) (n : Fin 1024) :
    out0_3 x w b (ix3 (0 : Fin 1) B n)
      = mul (fun k => x (ix2 B k) * sigm (x (ix2 B k))) (fun (k : Fin 1024) (n : Fin 1024) => w (ix3 0 k n)) n + b (ix3 0 0 n) := by
  unfold out0_3
  rw [View.canon_cons_unit_zero zero3]
  simp only [View.ld_unit_zero (S := S8x1024) zero2, View.ld_unit_zero (S := S1x1024x1024) zero3, View.ld_unit_zero (S := S1x1x1024) zero3]
  pointwise [k0_pay1]
  simp only [zero_sub]
  rfl

variable (m : (ℓ : Loc nD τ sig) → Buf (Elt Ideal) ℓ) (c : Dev nD) (t : Fin cfg0.N)

/-- A point's layer and columns. -/
abbrev layer_ (t : Fin cfg0.N) : Fin 2 := ⟨t.val / 3, by have := lt_of_lt_of_eq t.isLt (show cfg0.N = 6 from N_0); omega⟩
abbrev col_ (t : Fin cfg0.N) (n : Fin 1024) : Fin 3072 := ⟨1024 * (t.val % 3) + n.val, by omega⟩

/-- Where the windows of a point lie. -/
theorem at_ : ∀ t : Fin cfg0.N,
    (win0_0.index t (0 : Fin 2) = 0 ∧ win0_0.index t (1 : Fin 2) = 0)
    ∧ (win0_1.index t (0 : Fin 3) = t.val / 3 ∧ win0_1.index t (1 : Fin 3) = 0 ∧ win0_1.index t (2 : Fin 3) = t.val % 3)
    ∧ (win0_2.index t (0 : Fin 3) = t.val / 3 ∧ win0_2.index t (1 : Fin 3) = 0 ∧ win0_2.index t (2 : Fin 3) = t.val % 3)
    ∧ (win0_3.index t (0 : Fin 3) = t.val / 3 ∧ win0_3.index t (1 : Fin 3) = 0 ∧ win0_3.index t (2 : Fin 3) = t.val % 3)
    ∧ (cfg0.win 3).flush t = true :=
  (by decide +kernel : ∀ t : Fin grid0.N, _)

/-- The bias, reshaped before the call. -/
theorem V_bias : V m c main_v0 = shapeCast S2x1x3072 (m ((c : Thread nD τ).loc main_arg2)) shapeCasts_S2x3072_S2x1x3072 := by
  simp only [V, hostOps0]
  after_results_simp
  rfl

omit m c t in
theorem unrow (b : FVec Ideal S2x3072 .f32) (l : Fin 2) (n : Fin 3072) :
    shapeCast S2x1x3072 b shapeCasts_S2x3072_S2x1x3072 (ix3 l (0 : Fin 1) n) = b (ix2 l n) := by
  pointwise

theorem blk0 (B : Fin 8) (k : Fin 1024) : iblk m c 0 t (ix2 B k) = m ((c : Thread nD τ).loc main_arg0) (ix2 B k) := by
  obtain ⟨h0, h1⟩ := (at_ t).1
  unfold iblk
  rw [View.read_apply]
  refine (congrArg (V m c main_arg0) (funext fun a => Fin.ext ?_)).trans (congrFun (V_main_arg0 m c) _)
  match a with
  | ⟨0, _⟩ => show win0_0.index t 0 * 8 + 1 * B.val = B.val; rw [h0]; omega
  | ⟨1, _⟩ => show win0_0.index t 1 * 1024 + 1 * k.val = k.val; rw [h1]; omega

theorem blk1 (k n : Fin 1024) : iblk m c 1 t (ix3 (0 : Fin 1) k n) = m ((c : Thread nD τ).loc main_arg1) (ix3 (layer_ t) k (col_ t n)) := by
  obtain ⟨h0, h1, h2⟩ := (at_ t).2.1
  unfold iblk
  rw [View.read_apply]
  refine (congrArg (V m c main_arg1) (funext fun a => Fin.ext ?_)).trans (congrFun (V_main_arg1 m c) _)
  match a with
  | ⟨0, _⟩ => show win0_1.index t 0 * 1 + 1 * 0 = t.val / 3; rw [h0]; omega
  | ⟨1, _⟩ => show win0_1.index t 1 * 1024 + 1 * k.val = k.val; rw [h1]; omega
  | ⟨2, _⟩ => show win0_1.index t 2 * 1024 + 1 * n.val = 1024 * (t.val % 3) + n.val; rw [h2]; omega

theorem blk2 (n : Fin 1024) : iblk m c 2 t (ix3 (0 : Fin 1) (0 : Fin 1) n) = m ((c : Thread nD τ).loc main_arg2) (ix2 (layer_ t) (col_ t n)) := by
  obtain ⟨h0, h1, h2⟩ := (at_ t).2.2.1
  unfold iblk
  rw [View.read_apply]
  refine (congrArg (V m c main_v0) (a₂ := ix3 (layer_ t) (0 : Fin 1) (col_ t n)) (funext fun a => Fin.ext ?_)).trans ((congrFun (V_bias m c) _).trans ?_)
  · match a with
    | ⟨0, _⟩ => show win0_2.index t 0 * 1 + 1 * 0 = t.val / 3; rw [h0]; omega
    | ⟨1, _⟩ => show win0_2.index t 1 * 1 + 1 * 0 = 0; rw [h1]
    | ⟨2, _⟩ => show win0_2.index t 2 * 1024 + 1 * n.val = 1024 * (t.val % 3) + n.val; rw [h2]; omega
  · exact unrow _ (layer_ t) (col_ t n)

/-- The result that the arguments in memory say. -/
def want : Fin 2 → Fin 8 → Row 3072 :=
  res (fun B k => m ((c : Thread nD τ).loc main_arg0) (ix2 B k)) (fun l k n => m ((c : Thread nD τ).loc main_arg1) (ix3 l k n))
    (fun l n => m ((c : Thread nD τ).loc main_arg2) (ix2 l n))

/-- THE KERNEL'S VALUE: every entry of the array. -/
theorem arr_eq (l : Fin 2) (B : Fin 8) (n : Fin 3072) : (dats m 0 c).arrAt 3 cfg0.N (ix3 l B n) = want m c l B n := by
  have hN : 3 * l.val + n.val / 1024 < cfg0.N := lt_of_lt_of_eq (by omega : _ < 6) (show cfg0.N = 6 from N_0).symm
  obtain ⟨h0, h1, h2⟩ := (at_ ⟨_, hN⟩).2.2.2.1
  have hb := congrFun (blocks3 m c ⟨_, hN⟩ (at_ ⟨_, hN⟩).2.2.2.2) (ix3 (0 : Fin 1) B (⟨n.val % 1024, by omega⟩ : Fin 1024))
  rw [View.read_apply, flushed3] at hb
  refine Eq.trans (congrArg ((dats m 0 c).arrAt 3 cfg0.N) (funext fun a => Fin.ext ?_))
    (hb.trans ((tile (iblk m c 0 ⟨_, hN⟩) (iblk m c 1 ⟨_, hN⟩) (iblk m c 2 ⟨_, hN⟩) B ⟨n.val % 1024, by omega⟩).trans ?_))
  · match a with
    | ⟨0, _⟩ => show l.val = win0_3.index _ 0 * 1 + 1 * 0; rw [h0]; show l.val = (3 * l.val + n.val / 1024) / 3 * 1 + 1 * 0; omega
    | ⟨1, _⟩ => show B.val = win0_3.index _ 1 * 8 + 1 * B.val; rw [h1]; omega
    | ⟨2, _⟩ => show n.val = win0_3.index _ 2 * 1024 + 1 * (n.val % 1024); rw [h2]; show n.val = (3 * l.val + n.val / 1024) % 3 * 1024 + 1 * (n.val % 1024); omega
  · have el : layer_ ⟨_, hN⟩ = l := Fin.ext (by show (3 * l.val + n.val / 1024) / 3 = l.val; omega)
    have en : col_ ⟨_, hN⟩ ⟨n.val % 1024, by omega⟩ = n := Fin.ext (by show 1024 * ((3 * l.val + n.val / 1024) % 3) + n.val % 1024 = n.val; omega)
    unfold mul
    simp only [blk0, blk1, blk2, el, en]
    rfl

end kernel

section reference

open Cert.Reference6Ideal Cert.Reference6Ideal.Gen

theorem sl_w (l : Fin 2) : S2x1024x3072.Slices ![l.val, 0, 0] S1x1024x3072 :=
  ⟨rfl, fun b => by have := l.isLt; fin_cases b <;> simp [Shape.size] <;> omega⟩
theorem sl_b (l : Fin 2) : S2x3072.Slices ![l.val, 0] S1x3072 :=
  ⟨rfl, fun b => by have := l.isLt; fin_cases b <;> simp [Shape.size] <;> omega⟩

/-- A layer's vectors, as the reference's operations. -/
def layer (x : FVec Ideal S8x1024 .f32) (w : FVec Ideal S2x1024x3072 .f32) (b : FVec Ideal S2x3072 .f32) (l : Fin 2) : FVec Ideal S1x8x3072 .f32 :=
  broadcastInDim S1x8x3072 ![1, 2] bcast_S8x3072_S1x8x3072_1_2 (addf (Host.dotGeneral dot_S8x1024_S1024x3072_S8x3072_1_0_0_1_n_n none
      (mulf x (Host.divf (broadcastInDim S8x1024 ![] bcast_S_S8x1024 (constant S_ .f32 0x3F800000#32))
        (addf (broadcastInDim S8x1024 ![] bcast_S_S8x1024 (constant S_ .f32 0x3F800000#32)) (Host.exp (Host.negf x)))))
      (shapeCast S1024x3072 (extractStridedSlice S1x1024x3072 ![l.val, 0, 0] w (sl_w l)) shapeCasts_S1x1024x3072_S1024x3072))
    (broadcastInDim S8x3072 ![0, 1] bcast_S1x3072_S8x3072_0_1 (broadcastInDim S1x3072 ![1] bcast_S3072_S1x3072_1
      (shapeCast S3072 (extractStridedSlice S1x3072 ![l.val, 0] b (sl_b l)) shapeCasts_S1x3072_S3072))))

/-- Both layers'. -/
def stack (f : Fin 2 → FVec Ideal S1x8x3072 .f32) : FVec Ideal S2x8x3072 .f32 :=
  concatenate S2x8x3072 0 [⟨S1x8x3072, f 0⟩, ⟨S1x8x3072, f 1⟩] concatenates_S1x8x3072_S1x8x3072_S2x8x3072_d0

theorem layer_at (x : FVec Ideal S8x1024 .f32) (w : FVec Ideal S2x1024x3072 .f32) (b : FVec Ideal S2x3072 .f32) (l : Fin 2) (B : Fin 8) (n : Fin 3072) :
    layer x w b l (ix3 (0 : Fin 1) B n) = res (fun B k => x (ix2 B k)) (fun l k n => w (ix3 l k n)) (fun l n => b (ix2 l n)) l B n := by
  pointwise [layer]
  rfl

theorem stack_at (f : Fin 2 → FVec Ideal S1x8x3072 .f32) (l : Fin 2) (B : Fin 8) (n : Fin 3072) : stack f (ix3 l B n) = f l (ix3 (0 : Fin 1) B n) := by
  fin_cases l <;> pointwise [stack]

/-- The result that the arguments in memory say. -/
def wantR (m : (ℓ : Loc nD τ sig) → Buf (Elt Ideal) ℓ) (c : Dev nD) : Fin 2 → Fin 8 → Row 3072 :=
  res (fun B k => m ((c.tc : Thread nD τ).loc main_arg0) (ix2 B k)) (fun l k n => m ((c.tc : Thread nD τ).loc main_arg1) (ix3 l k n))
    (fun l n => m ((c.tc : Thread nD τ).loc main_arg2) (ix2 l n))

/-- From equal arguments the kernel leaves one array and the reference the same. -/
theorem both (m : (ℓ : Loc Cert.Kernel6Ideal.nD Cert.Kernel6Ideal.τ Cert.Kernel6Ideal.sig) → Buf (Elt Ideal) ℓ) (m' : (ℓ : Loc nD τ sig) → Buf (Elt Ideal) ℓ)
    (c : Dev nD) (hargs : wantR m' c = want m c) :
    stack (layer (m' ((c.tc : Thread nD τ).loc main_arg0)) (m' ((c.tc : Thread nD τ).loc main_arg1)) (m' ((c.tc : Thread nD τ).loc main_arg2)))
      = (Cert.Kernel6Ideal.Gen.dats m 0 c).arrAt 3 Cert.Kernel6Ideal.cfg0.N := by
  funext i
  obtain ⟨l, B, n, rfl⟩ : ∃ l B n, i = ix3 l B n := ⟨_, _, _, eq_ix3 i⟩
  exact (stack_at _ l B n).trans ((layer_at _ _ _ l B n).trans ((congrFun (congrFun (congrFun hargs l) B) n).trans (arr_eq m c l B n).symm))

end reference

end Rows.Ada

end
-- ==== Proof.Job.lean ====
/-
  The kernel's arithmetic on one block of 256 steps, as functions of what it reads: the gates of the block, then for a
  chunk of 64 steps and a head the chunk's matrices, the inverse of its triangular system, the new state and the gated
  output; and the run's stored pieces as these functions over the four chunks and eight heads.
-/
module

public import proofs.«01_k».proof.Proof.Gen.KernelIdeal

@[expose] public section

set_option maxRecDepth 16384

noncomputable section

namespace Gdn.Job

open Cert.KernelIdeal Cert.KernelIdeal.Gen Idealize.ShloMosaic

variable {F : FTy → Type} [FloatOps F]

/-- What one grid point reads: the block's queries, keys, values, gates' inputs, the heads' decay and bias rows, the
    output gain, and the gate of each chunk and head. -/
structure Blk (F : FTy → Type) [FloatOps F] where
  q : Vec F S1x256x1024 .bf16
  k : Vec F S1x256x1024 .bf16
  v : Vec F S1x256x1024 .bf16
  ba : Vec F S1x256x128 .f32
  al : Vec F S1x1x128 .f32
  dt : Vec F S1x1x128 .f32
  on : Vec F S1x128 .f32
  z : Fin 4 → Fin 8 → Vec F S1x64x128 .bf16

theorem sl_head (ci : Fin 4) (i : Fin 8) : S256x1024.Slices ![64 * ci.val, 128 * i.val] S64x128 :=
  ⟨rfl, fun a => by have := ci.isLt; have := i.isLt; fin_cases a <;> simp [Shape.size] <;> omega⟩
theorem sl_beta (ci : Fin 4) (i : Fin 8) : S256x128.Slices ![64 * ci.val, i.val] S64x1 :=
  ⟨rfl, fun a => by have := ci.isLt; have := i.isLt; fin_cases a <;> simp [Shape.size] <;> omega⟩
theorem sl_g (ci : Fin 4) : S256x128.Slices ![64 * ci.val, 0] S64x128 :=
  ⟨rfl, fun a => by have := ci.isLt; fin_cases a <;> simp [Shape.size] <;> omega⟩
theorem sl_lane (i : Fin 8) : S64x128.Slices ![0, 64 + i.val] S64x1 :=
  ⟨rfl, fun a => by have := i.isLt; fin_cases a <;> simp [Shape.size] <;> omega⟩
theorem sl_row (i : Fin 8) : S128x64.Slices ![64 + i.val, 0] S1x64 :=
  ⟨rfl, fun a => by have := i.isLt; fin_cases a <;> simp [Shape.size] <;> omega⟩
theorem sl_end (i : Fin 8) : S1x128.Slices ![0, 64 + i.val] S1x1 :=
  ⟨rfl, fun a => by have := i.isLt; fin_cases a <;> simp [Shape.size] <;> omega⟩

/-- The float zero and one. -/
def f0 : F .f32 := Scalar.ofBits .f32 0x00000000#32
def f1 : F .f32 := Scalar.ofBits .f32 0x3F800000#32

variable (b : Blk F) (ci : Fin 4) (i : Fin 8)

def ba2 : FVec F S256x128 .f32 := shapeCast S256x128 b.ba shapeCasts_S1x256x128_S256x128

/-- The write strengths, a sigmoid. -/
def beta : FVec F S256x128 .f32 :=
  divf (broadcast S256x128 f1) (addf (broadcast S256x128 f1) (exp (subf (broadcast S256x128 f0) (ba2 b))))

def xa : FVec F S256x128 .f32 :=
  addf (ba2 b) (broadcastTo S256x128 (shapeCast S1x128 b.dt shapeCasts_S1x1x128_S1x128) broadcasts_S1x128_S256x128)

/-- The softplus of a vector, in its stable form. -/
def softplus (x : FVec F S256x128 .f32) : FVec F S256x128 .f32 :=
  addf (maximumf x (broadcast S256x128 f0))
    (log (addf (broadcast S256x128 f1) (exp (subf (broadcast S256x128 f0) (absf x)))))

/-- The log-decays. -/
def g : FVec F S256x128 .f32 :=
  mulf (broadcastTo S256x128 (subf (broadcast S1x128 f0) (exp (shapeCast S1x128 b.al shapeCasts_S1x1x128_S1x128))) broadcasts_S1x128_S256x128)
    (softplus (xa b))

/-- One doubling step of the running sum down the rows. -/
def scan (s : BitVec 32) (x : FVec F S64x128 .f32) : FVec F S64x128 .f32 :=
  addf x (select (cmpi .sge (iota .tc S64x128 32 [0] iota_S64x128_d0_w32) (broadcast S64x128 s))
    (dynamicRotate 0 s none x rotates_S64x128_d0) (broadcast S64x128 f0))

/-- The chunk's running sums of log-decays. -/
def gc : FVec F S64x128 .f32 :=
  scan 32#32 (scan 16#32 (scan 8#32 (scan 4#32 (scan 2#32 (scan 1#32
    (extractStridedSlice S64x128 ![64 * ci.val, 0] (g b) (sl_g ci)))))))

def gcT : FVec F S128x64 .f32 := transpose S128x64 [1, 0] (gc b ci) transposes_S64x128_p1_0_S128x64
def egc : FVec F S64x128 .f32 := exp (gc b ci)
def glast : FVec F S1x128 .f32 := extractStridedSlice S1x128 ![63, 0] (gc b ci) slices_S64x128_o63_0_S1x128
def ekd : FVec F S64x128 .f32 := exp (subf (broadcastTo S64x128 (glast b ci) broadcasts_S1x128_S64x128) (gc b ci))
def egl : FVec F S1x128 .f32 := exp (glast b ci)

def row : IVec S64x64 32 := iota .tc S64x64 32 [0] iota_S64x64_d0_w32
def col : IVec S64x64 32 := iota .tc S64x64 32 [1] iota_S64x64_d1_w32
def incl : IVec S64x64 1 := cmpi .sge row col
def strict : IVec S64x64 1 := cmpi .sgt row col
def sameBlk : IVec S64x64 1 :=
  cmpi .eq (andi row (broadcast S64x64 4294967280#32)) (andi col (broadcast S64x64 4294967280#32))
def eye : FVec F S64x64 .f32 := sitofp .f32 (extui 32 (cmpi .eq row col) natLt_1_32)

/-- A head's 64 by 128 block of a 256 by 1024 block. -/
def head (x : Vec F S1x256x1024 .bf16) : FVec F S64x128 .bf16 :=
  extractStridedSlice S64x128 ![64 * ci.val, 128 * i.val] (shapeCast S256x1024 x shapeCasts_S1x256x1024_S256x1024) (sl_head ci i)
def up (x : FVec F S64x128 .bf16) : FVec F S64x128 .f32 := extf .f32 x bitsLt_bf16_f32
/-- A head's column, along the rows. -/
def lane (x : FVec F S64x128 .f32) : FVec F S64x1 .f32 := extractStridedSlice S64x1 ![0, 64 + i.val] x (sl_lane i)
def wide (x : FVec F S64x1 .f32) : FVec F S64x128 .f32 := broadcastTo S64x128 x broadcasts_S64x1_S64x128

def betaj : FVec F S64x128 .f32 := wide (extractStridedSlice S64x1 ![64 * ci.val, i.val] (beta b) (sl_beta ci i))
def kb : FVec F S64x128 .f32 := mulf (up (head ci i b.k)) (betaj b ci i)

/-- The decay from one step to a later one within the chunk. -/
def decay : FVec F S64x64 .f32 :=
  select incl (exp (select incl (subf (broadcastTo S64x64 (lane i (gc b ci)) broadcasts_S64x1_S64x64)
    (broadcastTo S64x64 (extractStridedSlice S1x64 ![64 + i.val, 0] (gcT b ci) (sl_row i)) broadcasts_S1x64_S64x64))
    (broadcast S64x64 f0))) (broadcast S64x64 f0)

def kq : FVec F S128x64 .f32 :=
  matmul dot_S128x128_S64x128_S128x64_1_1_0_0_n_n none
    (concatenate S128x128 0 [⟨S64x128, truncf .bf16 (kb b ci i) bitsLt_bf16_f32⟩, ⟨S64x128, head ci i b.q⟩] concatenates_S64x128_S64x128_S128x128_d0)
    (head ci i b.k) (constant S128x64 .f32 0x00000000#32)

def upper (x : FVec F S128x64 .f32) : FVec F S64x64 .f32 := extractStridedSlice S64x64 ![0, 0] x slices_S128x64_o0_0_S64x64
def lower (x : FVec F S128x64 .f32) : FVec F S64x64 .f32 := extractStridedSlice S64x64 ![64, 0] x slices_S128x64_o64_0_S64x64

/-- The strictly lower triangle of the system the chunk solves. -/
def mm : FVec F S64x64 .f32 := select strict (mulf (upper (kq b ci i)) (decay b ci i)) (broadcast S64x64 f0)
def attn : FVec F S64x64 .bf16 := truncf .bf16 (mulf (lower (kq b ci i)) (decay b ci i)) bitsLt_bf16_f32

def rhs : FVec F S64x256 .bf16 :=
  truncf .bf16 (concatenate S64x256 1 [⟨S64x128, mulf (up (head ci i b.v)) (betaj b ci i)⟩,
    ⟨S64x128, mulf (kb b ci i) (wide (lane i (egc b ci)))⟩] concatenates_S64x128_S64x128_S64x256_d1) bitsLt_bf16_f32
def qdec : FVec F S64x128 .bf16 := truncf .bf16 (mulf (up (head ci i b.q)) (wide (lane i (egc b ci)))) bitsLt_bf16_f32
def kdecT : FVec F S128x64 .bf16 :=
  truncf .bf16 (transpose S128x64 [1, 0] (mulf (up (head ci i b.k)) (wide (lane i (ekd b ci)))) transposes_S64x128_p1_0_S128x64) bitsLt_bf16_f32

/-- A product of two square matrices, its factors rounded. -/
def mul (x y : FVec F S64x64 .f32) : FVec F S64x64 .f32 :=
  matmul dot_S64x64_S64x64_S64x64_1_0_0_1_n_n none (truncf .bf16 x bitsLt_bf16_f32) (truncf .bf16 y bitsLt_bf16_f32) (constant S64x64 .f32 0x00000000#32)

/-- Two square matrices, one above the other, times the second. -/
def mulPair (t x : FVec F S64x64 .f32) : FVec F S128x64 .f32 :=
  matmul dot_S128x64_S64x64_S128x64_1_0_0_1_n_n none
    (truncf .bf16 (concatenate S128x64 0 [⟨S64x64, t⟩, ⟨S64x64, x⟩] concatenates_S64x64_S64x64_S128x64_d0) bitsLt_bf16_f32)
    (truncf .bf16 x bitsLt_bf16_f32) (constant S128x64 .f32 0x00000000#32)

def blkDiag (x : FVec F S64x64 .f32) : FVec F S64x64 .f32 := select sameBlk x (broadcast S64x64 f0)

/-- The inverse of the unit lower triangular matrix whose blocks on the diagonal are `d`. -/
def blkInv (d : FVec F S64x64 .f32) : FVec F S64x64 .f32 :=
  addf (addf (addf (subf eye d) (upper (mulPair (subf eye d) (mul d d))))
      (upper (mulPair (addf (subf eye d) (upper (mulPair (subf eye d) (mul d d)))) (lower (mulPair (subf eye d) (mul d d))))))
    (mul (addf (addf (subf eye d) (upper (mulPair (subf eye d) (mul d d))))
        (upper (mulPair (addf (subf eye d) (upper (mulPair (subf eye d) (mul d d)))) (lower (mulPair (subf eye d) (mul d d))))))
      (lower (mulPair (addf (subf eye d) (upper (mulPair (subf eye d) (mul d d)))) (lower (mulPair (subf eye d) (mul d d))))))

/-- From the blocks' inverse `t` and the part `n` off the blocks, the inverse of the whole. -/
def offInv (t n : FVec F S64x64 .f32) : FVec F S64x64 .f32 :=
  mul (addf (subf eye n) (mul (subf eye n) (mul n n))) t

def tinv (x : FVec F S64x64 .f32) : FVec F S64x64 .f32 :=
  offInv (blkInv (blkDiag x)) (mul (blkInv (blkDiag x)) (subf x (blkDiag x)))

def uw : FVec F S64x256 .f32 :=
  matmul dot_S64x64_S64x256_S64x256_1_0_0_1_n_n none (truncf .bf16 (tinv (mm b ci i)) bitsLt_bf16_f32) (rhs b ci i) (constant S64x256 .f32 0x00000000#32)

variable (s : FVec F S128x128 .f32)

/-- The state read by the corrected keys and by the decayed queries. -/
def ws : FVec F S128x128 .f32 :=
  matmul dot_S128x128_S128x128_S128x128_1_0_0_1_n_n none
    (concatenate S128x128 0 [⟨S64x128, truncf .bf16 (extractStridedSlice S64x128 ![0, 128] (uw b ci i) slices_S64x256_o0_128_S64x128) bitsLt_bf16_f32⟩,
      ⟨S64x128, qdec b ci i⟩] concatenates_S64x128_S64x128_S128x128_d0)
    (truncf .bf16 s bitsLt_bf16_f32) (constant S128x128 .f32 0x00000000#32)

/-- The chunk's new values. -/
def vnew : FVec F S64x128 .f32 :=
  subf (extractStridedSlice S64x128 ![0, 0] (uw b ci i) slices_S64x256_o0_0_S64x128)
    (extractStridedSlice S64x128 ![0, 0] (ws b ci i s) slices_S128x128_o0_0_S64x128)

def av : FVec F S192x128 .f32 :=
  matmul dot_S192x64_S64x128_S192x128_1_0_0_1_n_n none
    (concatenate S192x64 0 [⟨S64x64, attn b ci i⟩, ⟨S128x64, kdecT b ci i⟩] concatenates_S64x64_S128x64_S192x64_d0)
    (truncf .bf16 (vnew b ci i s) bitsLt_bf16_f32) (constant S192x128 .f32 0x00000000#32)

/-- The state after the chunk. -/
def next : FVec F S128x128 .f32 :=
  addf (mulf s (broadcastTo S128x128 (extractStridedSlice S1x1 ![0, 64 + i.val] (egl b ci) (sl_end i)) broadcasts_S1x1_S128x128))
    (extractStridedSlice S128x128 ![64, 0] (av b ci i s) slices_S192x128_o64_0_S128x128)

/-- The chunk's outputs before the norm. -/
def o : FVec F S64x128 .f32 :=
  addf (extractStridedSlice S64x128 ![64, 0] (ws b ci i s) slices_S128x128_o64_0_S64x128)
    (extractStridedSlice S64x128 ![0, 0] (av b ci i s) slices_S192x128_o0_0_S64x128)

/-- The norm over a head's lanes and its gain. -/
def normed (x : FVec F S64x128 .f32) : FVec F S64x128 .f32 :=
  mulf (mulf x (wide (rsqrt (addf (divf (shapeCast S64x1 (multiReduction .add [1] S64 (mulf x x) 0x00000000#32 reduces_S64x128_S64 (.inl rfl) rfl) shapeCasts_S64_S64x1)
      (broadcast S64x1 (Scalar.ofBits .f32 0x43000000#32))) (broadcast S64x1 (Scalar.ofBits .f32 0x358637BD#32))))))
    (broadcastTo S64x128 b.on broadcasts_S1x128_S64x128)

def silu (x : FVec F S64x128 .f32) : FVec F S64x128 .f32 :=
  mulf x (divf (broadcast S64x128 f1) (addf (broadcast S64x128 f1) (exp (subf (broadcast S64x128 f0) x))))

/-- The chunk's stored output. -/
def out : FVec F S1x64x128 .bf16 :=
  shapeCast S1x64x128 (truncf .bf16 (mulf (normed b (o b ci i s))
    (silu (up (shapeCast S64x128 (b.z ci i) shapeCasts_S1x64x128_S64x128)))) bitsLt_bf16_f32) shapeCasts_S64x128_S1x64x128

/-- A head's state before chunk `n`, from the state `s` before the block. -/
def pre (n : ℕ) : FVec F S128x128 .f32 :=
  n.rec s fun n s => if h : n < 4 then next b ⟨n, h⟩ i s else s

theorem inb_out (ci : Fin 4) (i : Fin 8) : ∀ a, (![0, 64 * ci.val, 128 * i.val] : Fin 3 → Nat) a + S1x64x128.size a ≤ S1x256x1024.size a :=
  fun a => by have := ci.isLt; have := i.isLt; fin_cases a <;> simp [Shape.size] <;> omega
theorem inb_st (i : Fin 8) : ∀ a, (![i.val, 0, 0] : Fin 3 → Nat) a + S1x128x128.size a ≤ S8x128x128.size a :=
  fun a => by have := i.isLt; fin_cases a <;> simp [Shape.size] <;> omega

/-- The heads from the last to the first, and the chunks. -/
def heads : List (Fin 8) := [7, 6, 5, 4, 3, 2, 1, 0]

/-- The output's pieces, last first, from the states before the block. -/
def outPieces (S : Fin 8 → Vec F S1x128x128 .f32) : List (View.Piece (Elt F) S1x256x1024 .bf16) :=
  [(3 : Fin 4), 2, 1, 0].flatMap fun ci => heads.map fun i =>
    ⟨Rect.unit ![0, 64 * ci.val, 128 * i.val] S1x64x128.size (inb_out ci i),
      out b ci i (pre b i (shapeCast S128x128 (S i) shapeCasts_S1x128x128_S128x128) ci.val)⟩

/-- The state's pieces, last first. -/
def stPieces (S : Fin 8 → Vec F S1x128x128 .f32) : List (View.Piece (Elt F) S8x128x128 .f32) :=
  heads.map fun i => ⟨Rect.unit ![i.val, 0, 0] S1x128x128.size (inb_st i),
    shapeCast S1x128x128 (pre b i (shapeCast S128x128 (S i) shapeCasts_S1x128x128_S128x128) 4) shapeCasts_S128x128_S1x128x128⟩

end Gdn.Job

end
-- ==== Proof.Pieces.lean ====
/-
  The pieces that one run of the kernel's body stores, at a batch row's first grid point and at a later one, are the
  job functions at what the run reads.
-/
module

public import proofs.«01_k».proof.Proof.Gen.KernelIdeal.Frame
public import proofs.«01_k».proof.Proof.Job

@[expose] public section

set_option maxRecDepth 65536

noncomputable section

namespace Gdn.Job

open Cert.KernelIdeal Cert.KernelIdeal.Gen Idealize.ShloMosaic Idealize.ShloMosaic.TcCoe Idealize.ShloMosaic.Tactic

variable {F : FTy → Type} [FloatOps F]
variable (c : Dev nD) (i : grid0.Coords)
  (arg3 : Memref sig .tc .vmem S1x256x1024 .bf16) (harg3 : arg3.IsWhole)
  (arg4 : Memref sig .tc .vmem S1x256x1024 .bf16) (harg4 : arg4.IsWhole)
  (arg5 : Memref sig .tc .vmem S1x256x1024 .bf16) (harg5 : arg5.IsWhole)
  (arg6 : Memref sig .tc .vmem S1x256x1024 .bf16) (harg6 : arg6.IsWhole)
  (arg7 : Memref sig .tc .vmem S1x256x128 .f32) (harg7 : arg7.IsWhole)
  (arg8 : Memref sig .tc .vmem S1x1x128 .f32) (harg8 : arg8.IsWhole)
  (arg9 : Memref sig .tc .vmem S1x1x128 .f32) (harg9 : arg9.IsWhole)
  (arg10 : Memref sig .tc .vmem S1x128 .f32) (harg10 : arg10.IsWhole)
  (arg11 : Memref sig .tc .vmem S1x256x1024 .bf16) (harg11 : arg11.IsWhole)
  (arg12 : Memref sig .tc .vmem S8x128x128 .f32) (harg12 : arg12.IsWhole)
  (x0 x1 x2 x3 : Vec F S1x256x1024 .bf16) (x4 : Vec F S1x256x128 .f32) (x5 x6 : Vec F S1x1x128 .f32) (x7 : Vec F S1x128 .f32)
  (xs0 : Vec F S8x128x128 .f32)

/-- What the run reads, from the staged blocks. -/
def rdBlk : Blk F :=
  {q := View.readAt (Elt F) arg3.view (Rect.unit (s := S1x256x1024) ![0, 0, 0] S1x256x1024.size inb_S1x256x1024_S1x256x1024_0_0_0).toLoadRect (harg3.unread x0),
   k := View.readAt (Elt F) arg4.view (Rect.unit (s := S1x256x1024) ![0, 0, 0] S1x256x1024.size inb_S1x256x1024_S1x256x1024_0_0_0).toLoadRect (harg4.unread x1),
   v := View.readAt (Elt F) arg5.view (Rect.unit (s := S1x256x1024) ![0, 0, 0] S1x256x1024.size inb_S1x256x1024_S1x256x1024_0_0_0).toLoadRect (harg5.unread x2),
   ba := View.readAt (Elt F) arg7.view (Rect.unit (s := S1x256x128) ![0, 0, 0] S1x256x128.size inb_S1x256x128_S1x256x128_0_0_0).toLoadRect (harg7.unread x4),
   al := View.readAt (Elt F) arg8.view (Rect.unit (s := S1x1x128) ![0, 0, 0] S1x1x128.size inb_S1x1x128_S1x1x128_0_0_0).toLoadRect (harg8.unread x5),
   dt := View.readAt (Elt F) arg9.view (Rect.unit (s := S1x1x128) ![0, 0, 0] S1x1x128.size inb_S1x1x128_S1x1x128_0_0_0).toLoadRect (harg9.unread x6),
   on := View.readAt (Elt F) arg10.view (Rect.unit (s := S1x128) ![0, 0] S1x128.size inb_S1x128_S1x128_0_0).toLoadRect (harg10.unread x7),
   z := fun ci i => View.readAt (Elt F) arg6.view (Rect.unit (s := S1x256x1024) ![0, 64 * ci.val, 128 * i.val] S1x64x128.size (inb_out ci i)).toLoadRect (harg6.unread x3)}

/-- The states that a later grid point reads. -/
def rdSt (i : Fin 8) : Vec F S1x128x128 .f32 :=
  View.readAt (Elt F) arg12.view (Rect.unit (s := S8x128x128) ![i.val, 0, 0] S1x128x128.size (inb_st i)).toLoadRect (harg12.unread xs0)

/-- The whole state at zero, as one piece. -/
def zeroPieces : List (View.Piece (Elt F) S8x128x128 .f32) :=
  [⟨Rect.unit ![0, 0, 0] S8x128x128.size inb_S8x128x128_S8x128x128_0_0_0,
    shapeCast S8x128x128 (broadcast S8x128x128 f0) shapeCasts_S8x128x128_S8x128x128⟩]

/-- The states that a first grid point reads: of the zeros it has just stored. -/
def rdZero (i : Fin 8) : Vec F S1x128x128 .f32 :=
  View.readCov (Val := Elt F) arg12.view zeroPieces (Rect.unit (s := S8x128x128) ![i.val, 0, 0] S1x128x128.size (inb_st i)).toLoadRect

/-- The output pieces of a first grid point. -/
theorem outA (hc0 : cond0_0 i) : (kernelRun0_A c i arg3 harg3 arg4 harg4 arg5 harg5 arg6 harg6 arg7 harg7 arg8 harg8 arg9 harg9 arg10 harg10 arg11 harg11 arg12 harg12 hc0 x0 x1 x2 x3 x4 x5 x6 x7).1
    = outPieces (rdBlk arg3 harg3 arg4 harg4 arg5 harg5 arg6 harg6 arg7 harg7 arg8 harg8 arg9 harg9 arg10 harg10 x0 x1 x2 x3 x4 x5 x6 x7) (rdZero arg12) := by
  sl_kernel_rfl

/-- The state's pieces of a first grid point, over the zeros. -/
theorem stA (hc0 : cond0_0 i) : (kernelRun0_A c i arg3 harg3 arg4 harg4 arg5 harg5 arg6 harg6 arg7 harg7 arg8 harg8 arg9 harg9 arg10 harg10 arg11 harg11 arg12 harg12 hc0 x0 x1 x2 x3 x4 x5 x6 x7).2.1
    = stPieces (rdBlk arg3 harg3 arg4 harg4 arg5 harg5 arg6 harg6 arg7 harg7 arg8 harg8 arg9 harg9 arg10 harg10 x0 x1 x2 x3 x4 x5 x6 x7) (rdZero arg12) ++ zeroPieces := by
  sl_kernel_rfl

/-- The output pieces of a later grid point. -/
theorem outB (hc0 : ¬cond0_0 i) : (kernelRun0_B c i arg3 harg3 arg4 harg4 arg5 harg5 arg6 harg6 arg7 harg7 arg8 harg8 arg9 harg9 arg10 harg10 arg11 harg11 arg12 harg12 hc0 x0 x1 x2 x3 x4 x5 x6 x7 xs0).1
    = outPieces (rdBlk arg3 harg3 arg4 harg4 arg5 harg5 arg6 harg6 arg7 harg7 arg8 harg8 arg9 harg9 arg10 harg10 x0 x1 x2 x3 x4 x5 x6 x7) (rdSt arg12 harg12 xs0) := by
  sl_kernel_rfl

/-- The state's pieces of a later grid point. -/
theorem stB (hc0 : ¬cond0_0 i) : (kernelRun0_B c i arg3 harg3 arg4 harg4 arg5 harg5 arg6 harg6 arg7 harg7 arg8 harg8 arg9 harg9 arg10 harg10 arg11 harg11 arg12 harg12 hc0 x0 x1 x2 x3 x4 x5 x6 x7 xs0).2.1
    = stPieces (rdBlk arg3 harg3 arg4 harg4 arg5 harg5 arg6 harg6 arg7 harg7 arg8 harg8 arg9 harg9 arg10 harg10 x0 x1 x2 x3 x4 x5 x6 x7) (rdSt arg12 harg12 xs0) := by
  sl_kernel_rfl

end Gdn.Job

end
-- ==== Proof.Chunk.lean ====
/-
  One chunk of the gated delta rule over the real numbers: the triangular system a chunk solves, its inverse by
  sixteen-row blocks, and the recurrence unrolled over sixty-four steps. Nothing here mentions a program.
-/
module

public import Mathlib.Data.Matrix.Mul
public import Mathlib.Analysis.SpecialFunctions.Exp
public import Mathlib.Tactic.NoncommRing
public import Mathlib.Tactic.Ring
public import Mathlib.Tactic.FinCases

@[expose] public section

noncomputable section

namespace Gdn

open Matrix

/-- A square matrix of the chunk's size. -/
abbrev Sq := Matrix (Fin 64) (Fin 64) ℝ

/-! ## Matrices that lower a rank -/

/-- Every nonzero entry goes from a row to a column whose rank `f` is at least `k` smaller. -/
def Low (f : Fin 64 → ℕ) (k : ℕ) (A : Sq) : Prop := ∀ i j, A i j ≠ 0 → f j + k ≤ f i

/-- Products add the amounts by which they lower. -/
theorem Low.mul {f : Fin 64 → ℕ} {k l : ℕ} {A B : Sq} (hA : Low f k A) (hB : Low f l B) : Low f (k + l) (A * B) := by
  intro i j h
  rw [Matrix.mul_apply] at h
  obtain ⟨x, -, hx⟩ := Finset.exists_ne_zero_of_sum_ne_zero h
  have h1 := hA i x (left_ne_zero_of_mul hx)
  have h2 := hB x j (right_ne_zero_of_mul hx)
  omega

/-- Sums keep the smaller amount. -/
theorem Low.add {f : Fin 64 → ℕ} {k : ℕ} {A B : Sq} (hA : Low f k A) (hB : Low f k B) : Low f k (A + B) := by
  intro i j h
  by_cases h0 : A i j = 0
  · exact hB i j (fun h' => h (by rw [Matrix.add_apply, h0, h', add_zero]))
  · exact hA i j h0

/-- So do differences. -/
theorem Low.sub {f : Fin 64 → ℕ} {k : ℕ} {A B : Sq} (hA : Low f k A) (hB : Low f k B) : Low f k (A - B) := by
  intro i j h
  by_cases h0 : A i j = 0
  · exact hB i j (fun h' => h (by rw [Matrix.sub_apply, h0, h', sub_zero]))
  · exact hA i j h0

/-- The unit matrix lowers by nothing. -/
theorem Low.one (f : Fin 64 → ℕ) : Low f 0 1 := by
  intro i j h
  by_cases e : i = j
  · subst e; omega
  · exact absurd (Matrix.one_apply_ne e) h

/-! ## The inverse of a unit lower triangular matrix by blocks of sixteen -/

/-- The entries inside the diagonal blocks of sixteen rows. -/
def diagBlk (M : Sq) : Sq := fun i j => if i.val / 16 = j.val / 16 then M i j else 0

/-- The block diagonal's inverse, by doubling: (1 − D)(1 + D²)(1 + D⁴)(1 + D⁸). -/
def blkInv (D : Sq) : Sq :=
  let t1 := 1 - D
  let d2 := D * D
  let t2 := t1 + t1 * d2
  let d4 := d2 * d2
  let t3 := t2 + t2 * d4
  let d8 := d4 * d4
  t3 + t3 * d8

/-- The inverse of `1 + M`: with `N` the part below the blocks taken through the blocks' inverse, (1 − N)(1 + N²) times
    the blocks' inverse. -/
def triInv (M : Sq) : Sq :=
  let T := blkInv (diagBlk M)
  let N := T * (M - diagBlk M)
  let r := 1 - N
  (r + r * (N * N)) * T

/-- The doubling is a geometric sum: it inverts `1 + D` up to `D`'s sixteenth power. -/
theorem blkInv_mul (D : Sq) : blkInv D * (1 + D) = 1 - (((D * D) * (D * D)) * ((D * D) * (D * D))) * (((D * D) * (D * D)) * ((D * D) * (D * D))) := by
  unfold blkInv
  noncomm_ring

/-- The block inverse lowers as little as the blocks do. -/
theorem Low.blkInv {f : Fin 64 → ℕ} {D : Sq} (h : Low f 0 D) : Low f 0 (blkInv D) := by
  have d2 : Low f 0 (D * D) := h.mul h
  have d4 : Low f 0 ((D * D) * (D * D)) := d2.mul d2
  have d8 : Low f 0 (((D * D) * (D * D)) * ((D * D) * (D * D))) := d4.mul d4
  have t1 := (Low.one f).sub h
  have t2 := t1.add (t1.mul d2)
  have t3 := t2.add (t2.mul d4)
  exact t3.add (t3.mul d8)

/-- **The block procedure inverts `1 + M`** for a strictly lower triangular `M`. -/
theorem triInv_mul (M : Sq) (hM : ∀ i j : Fin 64, i ≤ j → M i j = 0) : triInv M * (1 + M) = 1 := by
  have hlow : Low (fun i => i.val) 1 (diagBlk M) := by
    intro i j h
    by_contra hc
    beta_reduce at hc
    apply h
    unfold diagBlk
    rw [hM i j (by rw [Fin.le_def]; omega)]; simp
  have hb : Low (fun i => i.val / 16) 0 (diagBlk M) := by
    intro i j h
    by_contra hc
    beta_reduce at hc
    apply h; unfold diagBlk; rw [if_neg (by omega)]
  have hb' : Low (fun i => 3 - i.val / 16) 0 (diagBlk M) := by
    intro i j h
    by_contra hc
    beta_reduce at hc
    apply h; unfold diagBlk; rw [if_neg (by omega)]
  have hD : (((diagBlk M * diagBlk M) * (diagBlk M * diagBlk M)) * ((diagBlk M * diagBlk M) * (diagBlk M * diagBlk M))) * (((diagBlk M * diagBlk M) * (diagBlk M * diagBlk M)) * ((diagBlk M * diagBlk M) * (diagBlk M * diagBlk M))) = 0 := by
    have up : ∀ {f : Fin 64 → ℕ} {k : ℕ}, Low f k (diagBlk M) → Low f (k + k + (k + k) + (k + k + (k + k)) + (k + k + (k + k) + (k + k + (k + k)))) ((((diagBlk M * diagBlk M) * (diagBlk M * diagBlk M)) * ((diagBlk M * diagBlk M) * (diagBlk M * diagBlk M))) * (((diagBlk M * diagBlk M) * (diagBlk M * diagBlk M)) * ((diagBlk M * diagBlk M) * (diagBlk M * diagBlk M)))) := by
      intro f k h
      have d2 := h.mul h
      have d4 := d2.mul d2
      have d8 := d4.mul d4
      exact d8.mul d8
    ext i j
    by_contra hne
    have h1 := up hlow i j hne
    have h2 := up hb i j hne
    have h3 := up hb' i j hne
    have := i.isLt; have := j.isLt
    omega
  have hT : blkInv (diagBlk M) * (1 + diagBlk M) = 1 := by rw [blkInv_mul, hD, sub_zero]
  have hMo : Low (fun i => i.val / 16) 1 (M - diagBlk M) := by
    intro i j h
    by_contra hc
    apply h
    rw [Matrix.sub_apply]; unfold diagBlk
    by_cases e : i.val / 16 = j.val / 16
    · rw [if_pos e, sub_self]
    · rw [if_neg e, hM i j (by rw [Fin.le_def]; beta_reduce at hc; omega), sub_zero]
  have hN : Low (fun i => i.val / 16) (0 + 1) (blkInv (diagBlk M) * (M - diagBlk M)) := hb.blkInv.mul hMo
  have hTM : blkInv (diagBlk M) * (1 + M) = 1 + blkInv (diagBlk M) * (M - diagBlk M) := by
    have : (1 + M : Sq) = (1 + diagBlk M) + (M - diagBlk M) := by abel
    rw [this, mul_add, hT]
  have hN4 : ((blkInv (diagBlk M) * (M - diagBlk M)) * (blkInv (diagBlk M) * (M - diagBlk M))) * ((blkInv (diagBlk M) * (M - diagBlk M)) * (blkInv (diagBlk M) * (M - diagBlk M))) = 0 := by
    have n2 := hN.mul hN
    have n4 := n2.mul n2
    ext i j
    by_contra hne
    have h1 := n4 i j hne
    have := i.isLt
    beta_reduce at h1
    omega
  unfold triInv
  rw [mul_assoc, hTM]
  generalize blkInv (diagBlk M) * (M - diagBlk M) = N at *
  have e : (1 - N + (1 - N) * (N * N)) * (1 + N) = 1 - (N * N) * (N * N) := by noncomm_ring
  rw [e, hN4, sub_zero]

/-! ## The recurrence -/

/-- What one head of one batch entry reads over time: queries, keys, values, log-decays, write strengths. -/
structure Seqs where
  q : ℕ → Fin 128 → ℝ
  k : ℕ → Fin 128 → ℝ
  v : ℕ → Fin 128 → ℝ
  g : ℕ → ℝ
  b : ℕ → ℝ

variable (X : Seqs)

/-- The state before step `t`: decayed, the key's direction erased at strength `b`, and the new pair written. -/
def Seqs.St : ℕ → Matrix (Fin 128) (Fin 128) ℝ
  | 0 => 0
  | t + 1 => fun d e => Real.exp (X.g t) * (Seqs.St t d e - X.b t * X.k t d * ∑ d', X.k t d' * Seqs.St t d' e) + X.b t * X.k t d * X.v t e

/-- The output of step `t`: the query read through the new state. -/
def Seqs.out (t : ℕ) (e : Fin 128) : ℝ := ∑ d, X.q t d * X.St (t + 1) d e

/-- The log-decay accumulated over the first `r` steps from `n`. -/
def Seqs.G (n r : ℕ) : ℝ := ∑ l ∈ Finset.range r, X.g (n + l)

theorem Seqs.G_succ (n r : ℕ) : X.G n (r + 1) = X.G n r + X.g (n + r) := Finset.sum_range_succ _ _

/-- The value a step really writes: what is asked for less what the decayed state already answers. -/
def Seqs.vn (n r : ℕ) (e : Fin 128) : ℝ :=
  X.b (n + r) * X.v (n + r) e - X.b (n + r) * (Real.exp (X.g (n + r)) * ∑ d, X.k (n + r) d * X.St (n + r) d e)

/-- A step writes its key times that value. -/
theorem Seqs.St_succ (n r : ℕ) (d e : Fin 128) :
    X.St (n + r + 1) d e = Real.exp (X.g (n + r)) * X.St (n + r) d e + X.k (n + r) d * X.vn n r e := by
  show Real.exp (X.g (n + r)) * (X.St (n + r) d e - X.b (n + r) * X.k (n + r) d * ∑ d', X.k (n + r) d' * X.St (n + r) d' e) + X.b (n + r) * X.k (n + r) d * X.v (n + r) e = _
  unfold Seqs.vn
  ring

/-- The state `r` steps after `n`: the state at `n` decayed, and each written pair decayed since. -/
theorem Seqs.St_unroll (n r : ℕ) (d e : Fin 128) :
    X.St (n + r) d e = Real.exp (X.G n r) * X.St n d e
      + ∑ j ∈ Finset.range r, Real.exp (X.G n r - X.G n (j + 1)) * X.k (n + j) d * X.vn n j e := by
  induction r with
  | zero => simp [Seqs.G]
  | succ r ih =>
    rw [← Nat.add_assoc, X.St_succ, ih, Finset.sum_range_succ, X.G_succ, Real.exp_add, mul_add, Finset.mul_sum]
    have : ∀ j, Real.exp (X.G n r + X.g (n + r) - X.G n (j + 1)) = Real.exp (X.g (n + r)) * Real.exp (X.G n r - X.G n (j + 1)) := by
      intro j; rw [← Real.exp_add]; congr 1; ring
    simp only [this]
    rw [sub_self, Real.exp_zero]
    have : ∀ j, Real.exp (X.g (n + r)) * (Real.exp (X.G n r - X.G n (j + 1)) * X.k (n + j) d * X.vn n j e) = Real.exp (X.g (n + r)) * Real.exp (X.G n r - X.G n (j + 1)) * X.k (n + j) d * X.vn n j e := by intro j; ring
    simp only [this]
    ring

/-! ## The chunk's matrices -/

/-- Rows of a chunk's queries, keys and values, starting at step `n`. -/
def Seqs.Q (n : ℕ) : Matrix (Fin 64) (Fin 128) ℝ := fun r d => X.q (n + r) d
def Seqs.K (n : ℕ) : Matrix (Fin 64) (Fin 128) ℝ := fun r d => X.k (n + r) d
def Seqs.V (n : ℕ) : Matrix (Fin 64) (Fin 128) ℝ := fun r d => X.v (n + r) d

/-- The decay between two rows of a chunk, zero above the diagonal. -/
def Seqs.dec (n : ℕ) : Sq := fun r j => if j ≤ r then Real.exp (X.G n (r + 1) - X.G n (j + 1)) else 0

/-- The chunk's strictly lower triangular matrix. -/
def Seqs.M (n : ℕ) : Sq := fun r j => if j < r then (∑ d, X.K n r d * X.b (n + r) * X.K n j d) * X.dec n r j else 0

/-- The chunk's attention matrix. -/
def Seqs.A (n : ℕ) : Sq := fun r j => (∑ d, X.Q n r d * X.K n j d) * X.dec n r j

/-- The two right-hand sides of the chunk's system. -/
def Seqs.RV (n : ℕ) : Matrix (Fin 64) (Fin 128) ℝ := fun r d => X.V n r d * X.b (n + r)
def Seqs.RW (n : ℕ) : Matrix (Fin 64) (Fin 128) ℝ := fun r d => X.K n r d * X.b (n + r) * Real.exp (X.G n (r + 1))

/-- The queries decayed from the chunk's start, and the keys decayed to its end. -/
def Seqs.QD (n : ℕ) : Matrix (Fin 64) (Fin 128) ℝ := fun r d => X.Q n r d * Real.exp (X.G n (r + 1))
def Seqs.KD (n : ℕ) : Matrix (Fin 128) (Fin 64) ℝ := fun d j => X.K n j d * Real.exp (X.G n 64 - X.G n (j + 1))

/-- The values the chunk writes, as a matrix. -/
def Seqs.VN (n : ℕ) : Matrix (Fin 64) (Fin 128) ℝ := fun r e => X.vn n r e

/-- A sum over the steps before `r` as a sum over the chunk's rows. -/
theorem sum_below (r : ℕ) (hr : r ≤ 64) (f : ℕ → ℝ) : ∑ j ∈ Finset.range r, f j = ∑ j : Fin 64, if j.val < r then f j.val else 0 := by
  rw [Fin.sum_univ_eq_sum_range (fun j => if j < r then f j else 0) 64, ← Finset.sum_filter]
  congr 1
  ext x; simp only [Finset.mem_range, Finset.mem_filter]; omega

/-- The written values solve the chunk's triangular system. -/
theorem Seqs.system (n : ℕ) : (1 + X.M n) * X.VN n = X.RV n - X.RW n * X.St n := by
  ext r e
  rw [Matrix.add_mul, Matrix.one_mul, Matrix.add_apply, Matrix.sub_apply, Matrix.mul_apply, Matrix.mul_apply]
  have hu : ∀ d, X.St (n + r.val) d e = _ := fun d => X.St_unroll n r.val d e
  have hv : X.vn n r e = X.b (n + r) * X.v (n + r) e - X.b (n + r) * (Real.exp (X.g (n + r)) * ∑ d, X.k (n + r) d * X.St (n + r) d e) := rfl
  simp only [hu] at hv
  show X.vn n r e + _ = _
  rw [hv]
  simp only [sum_below r.val (le_of_lt r.isLt), mul_add, Finset.sum_add_distrib, Finset.mul_sum]
  rw [Finset.sum_comm (s := (Finset.univ : Finset (Fin 128)))]
  have h1 : ∀ d : Fin 128, X.b (n + ↑r) * (Real.exp (X.g (n + ↑r)) * (X.k (n + ↑r) d * (Real.exp (X.G n ↑r) * X.St n d e))) = X.RW n r d * X.St n d e := by
    intro d; unfold Seqs.RW Seqs.K; rw [X.G_succ, Real.exp_add]; ring
  have h2 : ∀ j : Fin 64, (∑ d : Fin 128, X.b (n + ↑r) * (Real.exp (X.g (n + ↑r)) * (X.k (n + ↑r) d * if j.val < r.val then Real.exp (X.G n ↑r - X.G n (↑j + 1)) * X.k (n + ↑j) d * X.vn n (↑j) e else 0))) = X.M n r j * X.VN n j e := by
    intro j
    unfold Seqs.M Seqs.dec Seqs.VN Seqs.K
    by_cases hj : j.val < r.val
    · rw [if_pos (Fin.lt_def.mpr hj), if_pos (le_of_lt (Fin.lt_def.mpr hj)), X.G_succ n r, Finset.sum_mul, Finset.sum_mul]
      refine Finset.sum_congr rfl fun d _ => ?_
      rw [if_pos hj]
      have : Real.exp (X.G n ↑r + X.g (n + ↑r) - X.G n (↑j + 1)) = Real.exp (X.g (n + r)) * Real.exp (X.G n r - X.G n (j + 1)) := by
        rw [← Real.exp_add]; congr 1; ring
      rw [this]; ring
    · rw [if_neg (fun h => hj (Fin.lt_def.mp h)), zero_mul]
      refine Finset.sum_eq_zero fun d _ => ?_
      rw [if_neg hj]; ring
  simp only [h1, h2]
  unfold Seqs.RV Seqs.V
  ring

/-- **The chunk's written values**: the inverse applied to the two right-hand sides. -/
theorem Seqs.VN_eq (n : ℕ) : X.VN n = triInv (X.M n) * X.RV n - triInv (X.M n) * X.RW n * X.St n := by
  have h := triInv_mul (X.M n) (fun i j hij => if_neg (not_lt.mpr hij))
  calc X.VN n = (triInv (X.M n) * (1 + X.M n)) * X.VN n := by rw [h, Matrix.one_mul]
    _ = triInv (X.M n) * (X.RV n - X.RW n * X.St n) := by rw [Matrix.mul_assoc, X.system]
    _ = _ := by rw [Matrix.mul_sub, Matrix.mul_assoc]

/-- **The chunk's outputs**: the decayed queries through the state at its start, and the attention matrix applied to
    the written values. -/
theorem Seqs.out_eq (n : ℕ) (r : Fin 64) (e : Fin 128) : X.out (n + r) e = (X.QD n * X.St n) r e + (X.A n * X.VN n) r e := by
  unfold Seqs.out
  rw [Matrix.mul_apply, Matrix.mul_apply]
  have hu : ∀ d, X.St (n + r.val + 1) d e = _ := fun d => X.St_unroll n (r.val + 1) d e
  simp only [hu, sum_below (r.val + 1) r.isLt, mul_add, Finset.sum_add_distrib, Finset.mul_sum]
  rw [Finset.sum_comm (s := (Finset.univ : Finset (Fin 128)))]
  congr 1
  · refine Finset.sum_congr rfl fun d _ => ?_
    unfold Seqs.QD Seqs.Q; ring
  · refine Finset.sum_congr rfl fun j _ => ?_
    unfold Seqs.A Seqs.dec Seqs.VN Seqs.Q Seqs.K
    by_cases hj : j ≤ r
    · rw [if_pos hj, Finset.sum_mul, Finset.sum_mul]
      refine Finset.sum_congr rfl fun d _ => ?_
      rw [if_pos (Nat.lt_succ_of_le (Fin.le_def.mp hj))]; ring
    · rw [if_neg hj, mul_zero, zero_mul]
      refine Finset.sum_eq_zero fun d _ => ?_
      rw [if_neg (fun h => hj (Fin.le_def.mpr (Nat.lt_succ_iff.mp h))), mul_zero]

/-- **The state at the chunk's end**. -/
theorem Seqs.St_end (n : ℕ) (d e : Fin 128) : X.St (n + 64) d e = X.St n d e * Real.exp (X.G n 64) + (X.KD n * X.VN n) d e := by
  rw [X.St_unroll, sum_below 64 le_rfl, Matrix.mul_apply, mul_comm]
  congr 1
  refine Finset.sum_congr rfl fun j _ => ?_
  rw [if_pos j.isLt]
  unfold Seqs.KD Seqs.K Seqs.VN; ring

end Gdn

end
-- ==== Proof.Sem.lean ====
/-
  The job functions over the extended reals: where what a chunk reads is real, each of its matrices is the matrix of the
  same name of the recurrence, so that its new state and its outputs are the recurrence's after 64 more steps.
-/
module

public import proofs.«01_k».proof.Proof.Job
public import proofs.«01_k».proof.Proof.Chunk
public import Idealize.ShloMosaic.Lib.Pointwise
public import Idealize.ShloMosaic.Lib.WordCmp

@[expose] public section

set_option maxRecDepth 16384

noncomputable section

namespace Gdn.Job

open Cert.KernelIdeal Cert.KernelIdeal.Gen Idealize.ShloMosaic
open Idealize.ShloMosaic.Pointwise

/-- A vector holds the entries of a real matrix. -/
def Is {m n : ℕ} {φ : FTy} (x : FVec Ideal ⟨2, ![m, n]⟩ φ) (X : Matrix (Fin m) (Fin n) ℝ) : Prop :=
  ∀ r c, x (ix2 r c) = ((X r c : ℝ) : EReal)

/-- A sum of real products, each taken among the extended reals. -/
theorem sum_mul_coe {n : ℕ} (f h : Fin n → ℝ) : ∑ k, ((f k : ℝ) : EReal) * ((h k : ℝ) : EReal) = ((∑ k, f k * h k : ℝ) : EReal) := by
  simp only [← EReal.coe_mul]
  exact (map_sum (⟨⟨(Real.toEReal), EReal.coe_zero⟩, EReal.coe_add⟩ : ℝ →+ EReal) _ _).symm

/-! ## Masks -/

theorem pick {p : Prop} [Decidable p] (x y : EReal) : Scalar.select (BitVec.ofBool (decide p)) x y = if p then x else y := by
  by_cases h : p <;> simp [h] <;> rfl

theorem sge_ix {n : ℕ} (hn : n ≤ 64) (r c : Fin n) :
    IntOp.cmpi .sge (BitVec.ofNat 32 r.val) (BitVec.ofNat 32 c.val) = BitVec.ofBool (decide (c ≤ r)) := by
  rw [WordCmp.cmpi_sge_ofNat (by omega) (by omega)]; rfl

theorem sgt_ix {n : ℕ} (hn : n ≤ 64) (r c : Fin n) :
    IntOp.cmpi .sgt (BitVec.ofNat 32 r.val) (BitVec.ofNat 32 c.val) = BitVec.ofBool (decide (c < r)) := by
  rw [WordCmp.cmpi_sgt_ofNat (by omega) (by omega)]; rfl

theorem f0_eq : (f0 : Ideal .f32) = (0 : EReal) := by simp [f0]
theorem f1_eq : (f1 : Ideal .f32) = (1 : EReal) := by
  show Ideal.ofBits .f32 0x3F800000#32 = 1
  simp [Ideal.ofBits, Ideal.ieee, -EReal.coe_mul]; norm_num

theorem blk_word : ∀ r : Fin 64, IntOp.andi (BitVec.ofNat 32 r.val) 4294967280#32 = BitVec.ofNat 32 (16 * (r.val / 16)) := by decide

/-! ## The inverse -/

variable {t x y d : FVec Ideal S64x64 .f32} {T X Y D : Sq}

theorem Is.add (hx : Is x X) (hy : Is y Y) : Is (addf x y) (X + Y) := by
  intro r c; pointwise; rw [hx, hy]; rfl
theorem Is.sub (hx : Is x X) (hy : Is y Y) : Is (subf x y) (X - Y) := by
  intro r c; pointwise; rw [hx, hy]; rfl
theorem Is.prod (hx : Is x X) (hy : Is y Y) : Is (mul x y) (X * Y) := by
  intro r c; pointwise [Job.mul]; simp only [hx _ _, hy _ _, sum_mul_coe, Matrix.mul_apply]
theorem Is.pairU (hx : Is x X) (hy : Is y Y) : Is (upper (mulPair x y)) (X * Y) := by
  intro r c; pointwise [upper, mulPair]; simp only [hx _ _, hy _ _, sum_mul_coe, Matrix.mul_apply]
theorem Is.pairL (hy : Is y Y) : Is (lower (mulPair x y)) (Y * Y) := by
  intro r c; pointwise [lower, mulPair]; simp only [hy _ _, sum_mul_coe, Matrix.mul_apply]

theorem sitofp_one : (FloatOps.sitofp (F := Ideal) .f32 1#32 : EReal) = 1 := by
  show (((1#32 : BitVec 32).toInt : ℝ) : EReal) = 1
  simp
theorem sitofp_zero : (FloatOps.sitofp (F := Ideal) .f32 0#32 : EReal) = 0 := by
  show (((0#32 : BitVec 32).toInt : ℝ) : EReal) = 0
  simp

theorem is_eye : Is (eye : FVec Ideal S64x64 .f32) 1 := by
  intro r c
  pointwise [eye, row, col]
  rw [WordCmp.cmpi_eq_ofNat (by omega) (by omega)]
  by_cases h : r = c
  · subst h; simp [sitofp_one]
  · have h' : r.val ≠ c.val := fun e => h (Fin.ext e)
    rw [Matrix.one_apply_ne h]; simp [h', sitofp_zero]

theorem Is.diag (hx : Is x X) : Is (blkDiag x) (diagBlk X) := by
  intro r c
  pointwise [blkDiag, sameBlk, row, col, f0]
  rw [blk_word, blk_word, WordCmp.cmpi_eq_ofNat (by omega) (by omega), pick, hx]
  unfold diagBlk
  by_cases h : r.val / 16 = c.val / 16
  · rw [if_pos (by omega), if_pos h]
  · rw [if_neg (by omega), if_neg h]; rfl

theorem Is.blkInv (hd : Is d D) : Is (Job.blkInv d) (Gdn.blkInv D) := by
  have h1 := is_eye.sub hd
  have h2 := hd.prod hd
  have t2 := h1.add (h1.pairU h2)
  have h4 : Is (lower (mulPair (subf eye d) (Job.mul d d))) _ := h2.pairL
  have t3 := t2.add (t2.pairU h4)
  have h8 : Is (lower (mulPair (addf (subf eye d) (upper (mulPair (subf eye d) (Job.mul d d)))) (lower (mulPair (subf eye d) (Job.mul d d))))) _ := h4.pairL
  exact t3.add (t3.prod h8)

theorem Is.tinv (hx : Is x X) : Is (Job.tinv x) (triInv X) := by
  have hT := hx.diag.blkInv
  have hN := hT.prod (hx.sub hx.diag)
  have hr := is_eye.sub hN
  exact (hr.add (hr.prod (hN.prod hN))).prod hT

/-! ## What a chunk reads -/

variable (b : Blk Ideal) (ci : Fin 4) (i : Fin 8) (X : Seqs) (n : ℕ)

/-- The head's lane of the decays. -/
abbrev ln (i : Fin 8) : Fin 128 := ⟨64 + i.val, by omega⟩

/-- The chunk's reads are the sequences' values from step `n` on. -/
structure Reads : Prop where
  q : Is (head ci i b.q) (X.Q n)
  k : Is (head ci i b.k) (X.K n)
  v : Is (head ci i b.v) (X.V n)
  bt : Is (betaj b ci i) (fun r _ => X.b (n + r))
  g : ∀ r : Fin 64, g b (ix2 ⟨64 * ci.val + r.val, by omega⟩ (ln i)) = ((X.g (n + r) : ℝ) : EReal)

/-- The column holds, at row `r`, the sum of the `w` log-decays that end there. -/
def Sums (w : ℕ) (x : FVec Ideal S64x128 .f32) : Prop :=
  ∀ r : Fin 64, x (ix2 r (ln i)) = ((X.G n (r.val + 1) - X.G n (r.val + 1 - w) : ℝ) : EReal)

variable {b ci i X n}

theorem scan_at {w : ℕ} (hw : w = 1 ∨ w = 2 ∨ w = 4 ∨ w = 8 ∨ w = 16 ∨ w = 32) (x : FVec Ideal S64x128 .f32) (r : Fin 64) (c : Fin 128) :
    scan (BitVec.ofNat 32 w) x (ix2 r c) = x (ix2 r c) + if h : w ≤ r.val then x (ix2 ⟨r.val - w, by omega⟩ c) else 0 := by
  have key : ∀ (r' : Fin 64) (z : EReal), (w ≤ r.val → r'.val = r.val - w) → z = 0 →
      Scalar.select (IntOp.cmpi .sge (BitVec.ofNat 32 r.val) (BitVec.ofNat 32 w)) (x (ix2 r' c)) z
        = if h : w ≤ r.val then x (ix2 ⟨r.val - w, by omega⟩ c) else 0 := by
    intro r' z h hz
    rw [WordCmp.cmpi_sge_ofNat (by omega) (by omega), pick]
    by_cases hwr : w ≤ r.val
    · rw [if_pos hwr, dif_pos hwr]; exact congrArg (fun a => x (ix2 a c)) (Fin.ext (h hwr))
    · rw [if_neg hwr, dif_neg hwr, hz]
  rcases hw with rfl | rfl | rfl | rfl | rfl | rfl <;> pointwise [scan] <;>
    exact congrArg _ (key _ _ (fun h => by dsimp only; omega) f0_eq)

theorem Sums.step {w : ℕ} (hw : w = 1 ∨ w = 2 ∨ w = 4 ∨ w = 8 ∨ w = 16 ∨ w = 32) {x : FVec Ideal S64x128 .f32} (h : Sums i X n w x) :
    Sums i X n (w + w) (scan (BitVec.ofNat 32 w) x) := by
  intro r
  rw [scan_at hw, h]
  by_cases hwr : w ≤ r.val
  · rw [dif_pos hwr, h, ← EReal.coe_add]
    congr 1
    dsimp only
    rw [show r.val - w + 1 = r.val + 1 - w by omega, show r.val + 1 - w - w = r.val + 1 - (w + w) by omega]
    ring
  · rw [dif_neg hwr, add_zero, show r.val + 1 - w = 0 by omega, show r.val + 1 - (w + w) = 0 by omega]

variable (H : Reads b ci i X n)
include H

/-- The running sums of the log-decays. -/
theorem Reads.gc (r : Fin 64) : gc b ci (ix2 r (ln i)) = ((X.G n (r.val + 1) : ℝ) : EReal) := by
  have h1 : Sums i X n 1 (extractStridedSlice S64x128 ![64 * ci.val, 0] (Job.g b) (sl_g ci)) := by
    intro r
    have := H.g r
    pointwise
    rw [show r.val + 1 - 1 = r.val by omega, X.G_succ, add_sub_cancel_left, ← this]
  have h64 := (((((h1.step (by omega)).step (by omega)).step (by omega)).step (by omega)).step (by omega)).step (by omega)
  have := h64 r
  rw [show r.val + 1 - (1 + 1 + (1 + 1) + (1 + 1 + (1 + 1)) + (1 + 1 + (1 + 1) + (1 + 1 + (1 + 1))) + (1 + 1 + (1 + 1) + (1 + 1 + (1 + 1)) + (1 + 1 + (1 + 1) + (1 + 1 + (1 + 1))))
    + (1 + 1 + (1 + 1) + (1 + 1 + (1 + 1)) + (1 + 1 + (1 + 1) + (1 + 1 + (1 + 1))) + (1 + 1 + (1 + 1) + (1 + 1 + (1 + 1)) + (1 + 1 + (1 + 1) + (1 + 1 + (1 + 1)))))) = 0 by omega] at this
  rw [show X.G n 0 = 0 from Finset.sum_range_zero _, sub_zero] at this
  exact this

theorem Reads.egc : Is (wide (lane i (egc b ci))) (fun r _ => Real.exp (X.G n (r.val + 1))) := by
  intro r c
  pointwise [wide, lane, Job.egc]
  rw [H.gc]; rfl

theorem Reads.glast : glast b ci (ix2 0 (ln i)) = ((X.G n 64 : ℝ) : EReal) := by
  have := H.gc 63
  pointwise [Job.glast]
  exact this

theorem Reads.ekd : Is (wide (lane i (ekd b ci))) (fun r _ => Real.exp (X.G n 64 - X.G n (r.val + 1))) := by
  intro r c
  have := H.glast
  pointwise [wide, lane, Job.ekd]
  rw [H.gc, this]; rfl

theorem Reads.decay : Is (decay b ci i) (X.dec n) := by
  intro r c
  pointwise [Job.decay, lane, gcT, incl, row, col, f0]
  rw [sge_ix le_rfl, pick, pick, H.gc, H.gc]
  unfold Seqs.dec
  by_cases h : c ≤ r
  · simp only [if_pos h]; rfl
  · simp only [if_neg h]; rfl

theorem Reads.kb : Is (kb b ci i) (fun r d => X.K n r d * X.b (n + r)) := by
  intro r c
  have hk := H.k r c
  pointwise [Job.kb, up]
  rw [hk, H.bt]; rfl

theorem Reads.mm : Is (mm b ci i) (X.M n) := by
  intro r c
  have hd := H.decay r c
  pointwise [Job.mm, upper, kq, strict, row, col, f0]
  rw [sgt_ix le_rfl, pick, hd]
  simp only [H.kb _ _, H.k _ _, sum_mul_coe]
  unfold Seqs.M
  by_cases h : c < r
  · simp only [if_pos h]; rfl
  · simp only [if_neg h]; rfl

theorem Reads.attn : Is (attn b ci i) (X.A n) := by
  intro r c
  have hd := H.decay r c
  pointwise [Job.attn, lower, kq]
  rw [hd]
  simp only [H.q _ _, H.k _ _, sum_mul_coe]
  rfl

theorem Reads.qdec : Is (qdec b ci i) (X.QD n) := by
  intro r c
  have h := H.egc r c
  pointwise [Job.qdec, up]
  rw [h, H.q]; rfl

theorem Reads.kdecT : Is (kdecT b ci i) (X.KD n) := by
  intro r c
  have h := H.ekd c r
  pointwise [Job.kdecT, up]
  rw [h, H.k]; rfl

/-- The solved system's two halves. -/
theorem Reads.u : Is (extractStridedSlice S64x128 ![0, 0] (uw b ci i) slices_S64x256_o0_0_S64x128) (triInv (X.M n) * X.RV n) := by
  intro r c
  have hv := fun k => H.v k c
  have hb := fun k => H.bt k c
  pointwise [uw, rhs, up]
  simp only [hv, hb, H.mm.tinv _ _, Matrix.mul_apply, ← sum_mul_coe]
  rfl

theorem Reads.w : Is (extractStridedSlice S64x128 ![0, 128] (uw b ci i) slices_S64x256_o0_128_S64x128) (triInv (X.M n) * X.RW n) := by
  intro r c
  have hk := fun k => H.kb k c
  have hb := fun k => H.egc k c
  pointwise [uw, rhs]
  simp only [hk, hb, H.mm.tinv _ _, Matrix.mul_apply, ← sum_mul_coe]
  rfl

variable {s : FVec Ideal S128x128 .f32} (hs : Is s (X.St n))
include hs

theorem Reads.vnew : Is (vnew b ci i s) (X.VN n) := by
  intro r c
  have hu := H.u r c
  have hw := fun k => H.w r k
  rw [X.VN_eq]
  pointwise [Job.vnew, ws] at hu hw ⊢
  rw [hu]
  simp only [hw, hs _ _, sum_mul_coe]
  rfl

/-- The outputs before the norm. -/
theorem Reads.o : Is (o b ci i s) (fun r e => X.out (n + r) e) := by
  intro r c
  show _ = ((X.out (n + r.val) c : ℝ) : EReal)
  rw [X.out_eq]
  pointwise [Job.o, ws, av]
  simp only [H.qdec _ _, H.attn _ _, H.vnew hs _ _, hs _ _, sum_mul_coe]
  rfl

/-- The state after the chunk. -/
theorem Reads.next : Is (next b ci i s) (X.St (n + 64)) := by
  intro r c
  have hg := H.glast
  rw [X.St_end]
  pointwise [Job.next, av, egl]
  simp only [hg, H.kdecT _ _, H.vnew hs _ _, hs _ _, sum_mul_coe]
  rfl

/-- The gated output at a lane: the lane normed over its head and scaled by the gain, times the gate's silu. -/
def gated (o : Fin 128 → EReal) (gn z : EReal) (c : Fin 128) : EReal :=
  o c * Ideal.rsqrt (Ideal.div (∑ e, o e * o e) (Ideal.ofBits .f32 0x43000000#32) + Ideal.ofBits .f32 0x358637BD#32) * gn
    * (z * Ideal.div 1 (1 + Ideal.exp (0 - z)))

theorem Reads.out (r : Fin 64) (c : Fin 128) : out b ci i s (ix3 0 r c)
    = gated (fun e => ((X.out (n + r.val) e : ℝ) : EReal)) (b.on (ix2 0 c)) (b.z ci i (ix3 0 r c)) c := by
  have ho := fun e => H.o hs r e
  pointwise [Job.out, normed, wide, silu, up]
  simp only [ho, f0_eq, f1_eq]
  rfl

omit H hs

/-- The state before each chunk is the recurrence's. -/
theorem pre_is (H : ∀ ci : Fin 4, Reads b ci i X (n + 64 * ci.val)) (hs : Is s (X.St n)) :
    ∀ k ≤ 4, Is (pre b i s k) (X.St (n + 64 * k)) := by
  intro k
  induction k with
  | zero => intro _; exact hs
  | succ k ih =>
    intro hk
    have h := (H ⟨k, by omega⟩).next (ih (by omega))
    show Is (if h : k < 4 then Job.next b ⟨k, h⟩ i (pre b i s k) else pre b i s k) _
    rw [dif_pos (by omega : k < 4), show n + 64 * (k + 1) = n + 64 * k + 64 by ring]
    exact h

end Gdn.Job

end
-- ==== Proof.Args.lean ====
/-
  The gated delta rule of a batch row and a head as real sequences, read off the argument arrays, and the value that the
  output holds at an index; and that a block which reads the arrays at its own rows reads these sequences.
-/
module

public import proofs.«01_k».proof.Proof.Sem

@[expose] public section

set_option maxRecDepth 16384

noncomputable section

namespace Gdn.Job

open Cert.KernelIdeal Cert.KernelIdeal.Gen Idealize.ShloMosaic Idealize.ShloMosaic.Pointwise

/-- The arguments' entries: queries, keys, values and gates by batch row, step and lane; the inputs of the write strengths
    and decays; the heads' decay and bias rows; the output gain. -/
structure Args where
  q : Fin 8 → Fin 4096 → Fin 1024 → EReal
  k : Fin 8 → Fin 4096 → Fin 1024 → EReal
  v : Fin 8 → Fin 4096 → Fin 1024 → EReal
  z : Fin 8 → Fin 4096 → Fin 1024 → EReal
  ba : Fin 8 → Fin 4096 → Fin 128 → EReal
  al : Fin 128 → EReal
  dt : Fin 128 → EReal
  on : Fin 128 → EReal

/-- A real number's place in the extended reals. -/
def Fi (x : EReal) : Prop := x ≠ ⊤ ∧ x ≠ ⊥

theorem Fi.coe {x : EReal} (h : Fi x) : ((x.toReal : ℝ) : EReal) = x := EReal.coe_toReal h.1 h.2
theorem Fi.ex {x : EReal} (h : Fi x) : ∃ r : ℝ, x = r := ⟨x.toReal, h.coe.symm⟩
theorem fi_coe (r : ℝ) : Fi (r : EReal) := ⟨EReal.coe_ne_top r, EReal.coe_ne_bot r⟩

theorem Fi.add {x y : EReal} (hx : Fi x) (hy : Fi y) : Fi (x + y) := by
  obtain ⟨a, rfl⟩ := hx.ex
  obtain ⟨b, rfl⟩ := hy.ex
  exact EReal.coe_add a b ▸ fi_coe _

/-- The arguments that the recurrence takes are real numbers. -/
structure Args.Real (A : Args) : Prop where
  q : ∀ B t l, Fi (A.q B t l)
  k : ∀ B t l, Fi (A.k B t l)
  v : ∀ B t l, Fi (A.v B t l)
  ba : ∀ B t i, Fi (A.ba B t (ln i))
  al : ∀ i, Fi (A.al (ln i))
  dt : ∀ i, Fi (A.dt (ln i))

/-- The logistic function, the softplus, and the log-decay. -/
def sigm (x : EReal) : EReal := Ideal.div 1 (1 + Ideal.exp (-x))
def softp (x : EReal) : EReal := max x 0 + Ideal.log (1 + Ideal.exp (-(max x (-x))))
def logdec (al x : EReal) : EReal := -Ideal.exp al * softp x

theorem sigm_fi (x : EReal) : Fi (sigm x) := by
  unfold sigm
  induction x with
  | bot =>
    show Fi (Ideal.div 1 (1 + Ideal.exp (-⊥)))
    rw [EReal.neg_bot, show Ideal.exp ⊤ = ⊤ from rfl, show (1 : EReal) + ⊤ = ⊤ from rfl]
    simp [Ideal.div, Fi]
  | top =>
    rw [EReal.neg_top, show Ideal.exp ⊥ = 0 from rfl, add_zero, show Ideal.div 1 1 = ((1 : ℝ) : EReal) by simp [Ideal.div]]
    exact fi_coe _
  | coe r =>
    rw [← EReal.coe_neg, show Ideal.exp ((-r : ℝ) : EReal) = ((Real.exp (-r) : ℝ) : EReal) from rfl, ← EReal.coe_one, ← EReal.coe_add]
    have h : (1 + Real.exp (-r)) ≠ 0 := by positivity
    unfold Ideal.div
    rw [if_neg (by exact_mod_cast h), ← EReal.coe_inv, ← EReal.coe_mul]
    exact fi_coe _

theorem logdec_fi {al x : EReal} (ha : Fi al) (hx : Fi x) : Fi (logdec al x) := by
  obtain ⟨a, rfl⟩ := ha.ex
  obtain ⟨r, rfl⟩ := hx.ex
  unfold logdec softp
  rw [show Ideal.exp (a : EReal) = ((Real.exp a : ℝ) : EReal) from rfl, ← EReal.coe_neg r, ← EReal.coe_zero,
    ← EReal.coe_strictMono.monotone.map_max, ← EReal.coe_strictMono.monotone.map_max, ← EReal.coe_neg, ← EReal.coe_neg,
    show ∀ s : ℝ, Ideal.exp (s : EReal) = ((Real.exp s : ℝ) : EReal) from fun _ => rfl, ← EReal.coe_one, ← EReal.coe_add]
  rw [show ∀ s : ℝ, Ideal.log (s : EReal) = if s ≤ 0 then ⊥ else (Real.log s : EReal) from fun _ => rfl, if_neg (by push Not; positivity),
    ← EReal.coe_add, ← EReal.coe_mul]
  exact fi_coe _

/-- The lane `d` of head `i`. -/
abbrev hl (i : Fin 8) (d : Fin 128) : Fin 1024 := ⟨128 * i.val + d.val, by omega⟩

/-- The sequences of batch row `B` and head `i`: zero past the last step. -/
def Args.seqs (A : Args) (B i : Fin 8) : Seqs where
  q t d := if h : t < 4096 then (A.q B ⟨t, h⟩ (hl i d)).toReal else 0
  k t d := if h : t < 4096 then (A.k B ⟨t, h⟩ (hl i d)).toReal else 0
  v t d := if h : t < 4096 then (A.v B ⟨t, h⟩ (hl i d)).toReal else 0
  b t := if h : t < 4096 then (sigm (A.ba B ⟨t, h⟩ ⟨i.val, by omega⟩)).toReal else 0
  g t := if h : t < 4096 then (logdec (A.al (ln i)) (A.ba B ⟨t, h⟩ (ln i) + A.dt (ln i))).toReal else 0

/-- The output at batch row `B`, step `t`, head `i` and the head's lane `d`. -/
def Args.res (A : Args) (B : Fin 8) (t : Fin 4096) (i : Fin 8) (d : Fin 128) : EReal :=
  gated (fun e => (((A.seqs B i).out t e : ℝ) : EReal)) (A.on d) (A.z B t (hl i d)) d

/-- A block reads the arguments at batch row `B` and the steps of the row's block `p`. -/
structure Holds (A : Args) (B : Fin 8) (p : Fin 16) (b : Blk Ideal) : Prop where
  q : ∀ (r : Fin 256) l, b.q (ix3 0 r l) = A.q B ⟨256 * p.val + r.val, by omega⟩ l
  k : ∀ (r : Fin 256) l, b.k (ix3 0 r l) = A.k B ⟨256 * p.val + r.val, by omega⟩ l
  v : ∀ (r : Fin 256) l, b.v (ix3 0 r l) = A.v B ⟨256 * p.val + r.val, by omega⟩ l
  z : ∀ ci i (r : Fin 64) (d : Fin 128), b.z ci i (ix3 0 r d) = A.z B ⟨256 * p.val + 64 * ci.val + r.val, by omega⟩ (hl i d)
  ba : ∀ (r : Fin 256) l, b.ba (ix3 0 r l) = A.ba B ⟨256 * p.val + r.val, by omega⟩ l
  al : ∀ l, b.al (ix3 0 0 l) = A.al l
  dt : ∀ l, b.dt (ix3 0 0 l) = A.dt l
  on : ∀ l, b.on (ix2 0 l) = A.on l

/-- Such a block reads the sequences. -/
theorem Holds.reads {A : Args} {B : Fin 8} {p : Fin 16} {b : Blk Ideal} (hA : A.Real) (H : Holds A B p b) (ci : Fin 4) (i : Fin 8) :
    Reads b ci i (A.seqs B i) (256 * p.val + 64 * ci.val) where
  q r d := by
    have := H.q ⟨64 * ci.val + r.val, by omega⟩ (hl i d)
    pointwise [head]
    rw [this]
    unfold Seqs.Q Args.seqs
    dsimp only
    rw [dif_pos (by omega), (hA.q _ _ _).coe]
    congr 2; omega
  k r d := by
    have := H.k ⟨64 * ci.val + r.val, by omega⟩ (hl i d)
    pointwise [head]
    rw [this]
    unfold Seqs.K Args.seqs
    dsimp only
    rw [dif_pos (by omega), (hA.k _ _ _).coe]
    congr 2; omega
  v r d := by
    have := H.v ⟨64 * ci.val + r.val, by omega⟩ (hl i d)
    pointwise [head]
    rw [this]
    unfold Seqs.V Args.seqs
    dsimp only
    rw [dif_pos (by omega), (hA.v _ _ _).coe]
    congr 2; omega
  bt r d := by
    have := H.ba ⟨64 * ci.val + r.val, by omega⟩ ⟨i.val, by omega⟩
    pointwise [betaj, beta, ba2, wide]
    rw [this]
    simp only [f0_eq, f1_eq]
    unfold Args.seqs
    dsimp only
    rw [dif_pos (by omega), (sigm_fi _).coe]
    unfold sigm
    rw [sub_eq_add_neg, zero_add]
    congr 6; omega
  g r := by
    have h1 := H.ba ⟨64 * ci.val + r.val, by omega⟩ (ln i)
    have h2 := H.al (ln i)
    have h3 := H.dt (ln i)
    pointwise [Job.g, Job.softplus, xa, ba2]
    rw [h1, h2, h3]
    simp only [f0_eq, f1_eq]
    unfold Args.seqs
    dsimp only
    rw [dif_pos (by omega), (logdec_fi (hA.al i) _).coe]
    · rw [sub_eq_add_neg, zero_add, sub_eq_add_neg, zero_add]
      unfold logdec softp
      simp only [add_assoc]
      rfl
    · exact (hA.ba _ _ _).add (hA.dt _)

end Gdn.Job

end
-- ==== Proof.Block.lean ====
/-
  What the stored pieces of one grid point hold: the output block's entries and the states after the block.
-/
module

public import proofs.«01_k».proof.Proof.Args
public import Idealize.ShloMosaic.Lib.Pipeline.CanonAppend

@[expose] public section

set_option maxRecDepth 1000

noncomputable section

namespace Gdn.Job

open Cert.KernelIdeal Cert.KernelIdeal.Gen Idealize.ShloMosaic Idealize.ShloMosaic.Pointwise

/-- Every head is in the list. -/
theorem mem_heads (i : Fin 8) : i ∈ heads := by revert i; decide
theorem mem_chunks (ci : Fin 4) : ci ∈ [(3 : Fin 4), 2, 1, 0] := by revert ci; decide

variable {A : Args} {B : Fin 8} {p : Fin 16} {b : Blk Ideal} {S : Fin 8 → Vec Ideal S1x128x128 .f32}
  (hA : A.Real) (H : Holds A B p b)
  (hS : ∀ i, Is (φ := .f32) (shapeCast S128x128 (S i) shapeCasts_S1x128x128_S128x128) ((A.seqs B i).St (256 * p.val)))
include hA H hS

theorem states (i : Fin 8) (k : ℕ) (hk : k ≤ 4) :
    Is (pre b i (shapeCast S128x128 (S i) shapeCasts_S1x128x128_S128x128) k) ((A.seqs B i).St (256 * p.val + 64 * k)) :=
  pre_is (fun ci => H.reads hA ci i) (hS i) k hk

/-- The piece of a chunk and a head. -/
def outPiece (b : Blk Ideal) (S : Fin 8 → Vec Ideal S1x128x128 .f32) (ci : Fin 4) (i : Fin 8) : View.Piece (Elt Ideal) S1x256x1024 .bf16 :=
  ⟨Rect.unit ![0, 64 * ci.val, 128 * i.val] S1x64x128.size (inb_out ci i),
      out b ci i (pre b i (shapeCast S128x128 (S i) shapeCasts_S1x128x128_S128x128) ci.val)⟩

omit hA H hS in
theorem mem_outPieces (pc : View.Piece (Elt Ideal) S1x256x1024 .bf16) : pc ∈ outPieces b S ↔ ∃ ci i, pc = outPiece b S ci i := by
  constructor
  · intro h
    obtain ⟨ci, -, h⟩ := List.mem_flatMap.mp h
    obtain ⟨i, -, rfl⟩ := List.mem_map.mp h
    exact ⟨ci, i, rfl⟩
  · rintro ⟨ci, i, rfl⟩
    exact List.mem_flatMap.mpr ⟨ci, mem_chunks ci, List.mem_map.mpr ⟨i, mem_heads i, rfl⟩⟩

/-- The output block. -/
theorem canon_out (y : Fin 256) (i : Fin 8) (d : Fin 128) :
    View.canon (outPieces b S) (ix3 (0 : Fin 1) y (hl i d)) = A.res B ⟨256 * p.val + y.val, by omega⟩ i d := by
  let G : S1x256x1024.Idx → Elt Ideal .bf16 := fun x => A.res B ⟨256 * p.val + (x 1).val, by have : (x 1).val < 256 := (x 1).isLt; omega⟩
    ⟨(x 2).val / 128, by have : (x 2).val < 1024 := (x 2).isLt; omega⟩ ⟨(x 2).val % 128, by omega⟩
  have hG : G (ix3 (0 : Fin 1) y (hl i d)) = A.res B ⟨256 * p.val + y.val, by omega⟩ i d := by
    show A.res B ⟨256 * p.val + y.val, by omega⟩ ⟨(128 * i.val + d.val) / 128, by omega⟩ ⟨(128 * i.val + d.val) % 128, by omega⟩ = _
    congr 1 <;> apply Fin.ext <;> dsimp only <;> omega
  rw [← hG]
  refine View.canon_apply_of_pieces G (outPieces b S) ?_ (ix3 (0 : Fin 1) y (hl i d)) ?_
  · intro pc hpc
    obtain ⟨ci, i, rfl⟩ := (mem_outPieces pc).mp hpc
    intro (x : S1x64x128.Idx)
    have hx : x = ix3 (0 : Fin 1) (⟨(x 1).val, (x 1).isLt⟩ : Fin 64) (⟨(x 2).val, (x 2).isLt⟩ : Fin 128) := by
      refine (eq_ix3 x).trans ?_
      congr 1
      exact Fin.ext (by have : (x 0).val < 1 := (x 0).isLt; show (x 0).val = 0; omega)
    generalize (⟨(x 1).val, (x 1).isLt⟩ : Fin 64) = r at hx
    generalize (⟨(x 2).val, (x 2).isLt⟩ : Fin 128) = d at hx
    subst hx
    refine ((H.reads hA ci i).out (states hA H hS i ci.val (by omega)) r d).trans ?_
    show _ = A.res B ⟨256 * p.val + (64 * ci.val + 1 * r.val), by omega⟩ ⟨(128 * i.val + 1 * d.val) / 128, by omega⟩ ⟨(128 * i.val + 1 * d.val) % 128, by omega⟩
    rw [H.on, H.z]
    have e1 : (⟨(128 * i.val + 1 * d.val) / 128, by omega⟩ : Fin 8) = i := Fin.ext (by dsimp only; omega)
    have e2 : (⟨(128 * i.val + 1 * d.val) % 128, by omega⟩ : Fin 128) = d := Fin.ext (by dsimp only; omega)
    rw [e1, e2]
    unfold Args.res
    dsimp only
    simp only [one_mul, add_assoc]
  · refine ⟨outPiece b S ⟨y.val / 64, by omega⟩ i, (mem_outPieces _).mpr ⟨_, _, rfl⟩, ?_⟩
    show _ ∈ (Rect.unit (s := S1x256x1024) ![0, 64 * (y.val / 64), 128 * i.val] S1x64x128.size (inb_out ⟨y.val / 64, by omega⟩ i)).set
    rw [Rect.mem_set_unit]
    intro a
    match a with
    | ⟨0, _⟩ => show 0 ≤ 0 ∧ 0 < 0 + 1; omega
    | ⟨1, _⟩ => show 64 * (y.val / 64) ≤ y.val ∧ y.val < 64 * (y.val / 64) + 64; omega
    | ⟨2, _⟩ => show 128 * i.val ≤ 128 * i.val + d.val ∧ 128 * i.val + d.val < 128 * i.val + 128; omega

/-- The states after the block, whatever was stored before them. -/
theorem canon_st (L : List (View.Piece (Elt Ideal) S8x128x128 .f32)) (i : Fin 8) (r d : Fin 128) :
    View.canon (stPieces b S ++ L) (ix3 i r d) = (((A.seqs B i).St (256 * p.val + 256) r d : ℝ) : EReal) := by
  let G : S8x128x128.Idx → Elt Ideal .f32 := fun x =>
    (((A.seqs B ⟨(x 0).val, (x 0).isLt⟩).St (256 * p.val + 256) ⟨(x 1).val, (x 1).isLt⟩ ⟨(x 2).val, (x 2).isLt⟩ : ℝ) : EReal)
  refine View.canon_append_of_pieces G L (stPieces b S) ?_ (ix3 i r d) ?_
  · intro pc hpc
    obtain ⟨i, -, rfl⟩ := List.mem_map.mp hpc
    intro (x : S1x128x128.Idx)
    have hx : x = ix3 (0 : Fin 1) (⟨(x 1).val, (x 1).isLt⟩ : Fin 128) (⟨(x 2).val, (x 2).isLt⟩ : Fin 128) := by
      refine (eq_ix3 x).trans ?_
      congr 1
      exact Fin.ext (by have : (x 0).val < 1 := (x 0).isLt; show (x 0).val = 0; omega)
    generalize (⟨(x 1).val, (x 1).isLt⟩ : Fin 128) = r at hx
    generalize (⟨(x 2).val, (x 2).isLt⟩ : Fin 128) = d at hx
    subst hx
    have h := states hA H hS i 4 le_rfl r d
    have hG : G ((Rect.unit (s := S8x128x128) ![i.val, 0, 0] S1x128x128.size (inb_st i)).emb (ix3 (0 : Fin 1) r d)) = (((A.seqs B i).St (256 * p.val + 256) r d : ℝ) : EReal) := by
      have e0 : (⟨((Rect.unit (s := S8x128x128) ![i.val, 0, 0] S1x128x128.size (inb_st i)).emb (ix3 (0 : Fin 1) r d) 0).val, Fin.isLt _⟩ : Fin 8) = i := Fin.ext (by show i.val + 1 * 0 = i.val; omega)
      have e1 : (⟨((Rect.unit (s := S8x128x128) ![i.val, 0, 0] S1x128x128.size (inb_st i)).emb (ix3 (0 : Fin 1) r d) 1).val, Fin.isLt _⟩ : Fin 128) = r := Fin.ext (by show 0 + 1 * r.val = r.val; omega)
      have e2 : (⟨((Rect.unit (s := S8x128x128) ![i.val, 0, 0] S1x128x128.size (inb_st i)).emb (ix3 (0 : Fin 1) r d) 2).val, Fin.isLt _⟩ : Fin 128) = d := Fin.ext (by show 0 + 1 * d.val = d.val; omega)
      dsimp only [G]
      rw [e0, e1, e2]
    refine Eq.trans ?_ hG.symm
    dsimp only
    refine Eq.trans ?_ h
    pointwise
  · refine ⟨_, List.mem_map.mpr ⟨i, mem_heads i, rfl⟩, ?_⟩
    show _ ∈ (Rect.unit (s := S8x128x128) ![i.val, 0, 0] S1x128x128.size (inb_st i)).set
    rw [Rect.mem_set_unit]
    intro a
    match a with
    | ⟨0, _⟩ => show i.val ≤ i.val ∧ i.val < i.val + 1; omega
    | ⟨1, _⟩ => show 0 ≤ r.val ∧ r.val < 0 + 128; omega
    | ⟨2, _⟩ => show 0 ≤ d.val ∧ d.val < 0 + 128; omega

end Gdn.Job

end
-- ==== Proof.Points.lean ====
/-
  What the kernel's array holds after the run: point by point, the states carried between the points are the recurrence's,
  and each entry of the result is the gated output of its step.
-/
module

public import proofs.«01_k».proof.Proof.Pieces
public import proofs.«01_k».proof.Proof.Block
public import proofs.«01_k».proof.Proof.Gen.KernelIdeal.Value
public import Idealize.ShloMosaic.Lib.Pipeline.ValueKit.Tiles

@[expose] public section

set_option maxRecDepth 4096

noncomputable section

namespace Gdn.Job

open Cert.KernelIdeal Cert.KernelIdeal.Gen Idealize.ShloMosaic Idealize.ShloMosaic.TcCoe Idealize.ShloMosaic.Pointwise Cert.KernelIdeal.Value

variable (m : (ℓ : Loc nD τ sig) → Buf (Elt Ideal) ℓ) (c : Dev nD)

/-- The arguments in memory. -/
def args : Args where
  q B t l := m ((c : Thread nD τ).loc main_arg0) (ix3 B t l)
  k B t l := m ((c : Thread nD τ).loc main_arg1) (ix3 B t l)
  v B t l := m ((c : Thread nD τ).loc main_arg2) (ix3 B t l)
  z B t l := m ((c : Thread nD τ).loc main_arg3) (ix3 B t l)
  ba B t l := m ((c : Thread nD τ).loc main_arg4) (ix3 B t l)
  al l := m ((c : Thread nD τ).loc main_arg5) (ix3 0 0 l)
  dt l := m ((c : Thread nD τ).loc main_arg6) (ix3 0 0 l)
  on l := m ((c : Thread nD τ).loc main_arg7) (ix2 0 l)

/-- A point's batch row and block of steps. -/
abbrev row_ (t : Fin cfg0.N) : Fin 8 := ⟨t.val / 16, by have := lt_of_lt_of_eq t.isLt (show cfg0.N = 128 from N_0); omega⟩
abbrev blk_ (t : Fin cfg0.N) : Fin 16 := ⟨t.val % 16, by omega⟩

theorem at0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, win0_0.index t (0 : Fin 3) = t.val / 16 ∧ win0_0.index t (1 : Fin 3) = t.val % 16 ∧ win0_0.index t (2 : Fin 3) = 0)
theorem at1 : ∀ t : Fin cfg0.N, win0_1.index t (0 : Fin 3) = t.val / 16 ∧ win0_1.index t (1 : Fin 3) = t.val % 16 ∧ win0_1.index t (2 : Fin 3) = 0 :=
  (by decide +kernel : ∀ t : Fin grid0.N, win0_1.index t (0 : Fin 3) = t.val / 16 ∧ win0_1.index t (1 : Fin 3) = t.val % 16 ∧ win0_1.index t (2 : Fin 3) = 0)
theorem at2 : ∀ t : Fin cfg0.N, win0_2.index t (0 : Fin 3) = t.val / 16 ∧ win0_2.index t (1 : Fin 3) = t.val % 16 ∧ win0_2.index t (2 : Fin 3) = 0 :=
  (by decide +kernel : ∀ t : Fin grid0.N, win0_2.index t (0 : Fin 3) = t.val / 16 ∧ win0_2.index t (1 : Fin 3) = t.val % 16 ∧ win0_2.index t (2 : Fin 3) = 0)
theorem at3 : ∀ t : Fin cfg0.N, win0_3.index t (0 : Fin 3) = t.val / 16 ∧ win0_3.index t (1 : Fin 3) = t.val % 16 ∧ win0_3.index t (2 : Fin 3) = 0 :=
  (by decide +kernel : ∀ t : Fin grid0.N, win0_3.index t (0 : Fin 3) = t.val / 16 ∧ win0_3.index t (1 : Fin 3) = t.val % 16 ∧ win0_3.index t (2 : Fin 3) = 0)
theorem at4 : ∀ t : Fin cfg0.N, win0_4.index t (0 : Fin 3) = t.val / 16 ∧ win0_4.index t (1 : Fin 3) = t.val % 16 ∧ win0_4.index t (2 : Fin 3) = 0 :=
  (by decide +kernel : ∀ t : Fin grid0.N, win0_4.index t (0 : Fin 3) = t.val / 16 ∧ win0_4.index t (1 : Fin 3) = t.val % 16 ∧ win0_4.index t (2 : Fin 3) = 0)
theorem at5 : ∀ t : Fin cfg0.N, win0_5.index t (0 : Fin 3) = 0 ∧ win0_5.index t (1 : Fin 3) = 0 ∧ win0_5.index t (2 : Fin 3) = 0 :=
  (by decide +kernel : ∀ t : Fin grid0.N, win0_5.index t (0 : Fin 3) = 0 ∧ win0_5.index t (1 : Fin 3) = 0 ∧ win0_5.index t (2 : Fin 3) = 0)
theorem at6 : ∀ t : Fin cfg0.N, win0_6.index t (0 : Fin 3) = 0 ∧ win0_6.index t (1 : Fin 3) = 0 ∧ win0_6.index t (2 : Fin 3) = 0 :=
  (by decide +kernel : ∀ t : Fin grid0.N, win0_6.index t (0 : Fin 3) = 0 ∧ win0_6.index t (1 : Fin 3) = 0 ∧ win0_6.index t (2 : Fin 3) = 0)
theorem at7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

variable (t : Fin cfg0.N)

theorem iblk0 (r : Fin 256) (l : Fin 1024) : iblk m c 0 t (ix3 (0 : Fin 1) r l) = (args m c).q (row_ t) ⟨256 * (blk_ t).val + r.val, by omega⟩ l := by
  obtain ⟨h0, h1, h2⟩ := at0 t
  unfold iblk
  rw [View.read_apply]
  show V m c main_arg0 _ = V m c main_arg0 _
  refine congrArg _ (funext fun a => Fin.ext ?_)
  match a with
  | ⟨0, _⟩ => show win0_0.index t 0 * 1 + 1 * 0 = t.val / 16; rw [h0]; omega
  | ⟨1, _⟩ => show win0_0.index t 1 * 256 + 1 * r.val = 256 * (t.val % 16) + r.val; rw [h1]; omega
  | ⟨2, _⟩ => show win0_0.index t 2 * 1024 + 1 * l.val = l.val; rw [h2]; omega

theorem iblk1 (r : Fin 256) (l : Fin 1024) : iblk m c 1 t (ix3 (0 : Fin 1) r l) = (args m c).k (row_ t) ⟨256 * (blk_ t).val + r.val, by omega⟩ l := by
  obtain ⟨h0, h1, h2⟩ := at1 t
  unfold iblk
  rw [View.read_apply]
  show V m c main_arg1 _ = V m c main_arg1 _
  refine congrArg _ (funext fun a => Fin.ext ?_)
  match a with
  | ⟨0, _⟩ => show win0_1.index t 0 * 1 + 1 * 0 = t.val / 16; rw [h0]; omega
  | ⟨1, _⟩ => show win0_1.index t 1 * 256 + 1 * r.val = 256 * (t.val % 16) + r.val; rw [h1]; omega
  | ⟨2, _⟩ => show win0_1.index t 2 * 1024 + 1 * l.val = l.val; rw [h2]; omega

theorem iblk2 (r : Fin 256) (l : Fin 1024) : iblk m c 2 t (ix3 (0 : Fin 1) r l) = (args m c).v (row_ t) ⟨256 * (blk_ t).val + r.val, by omega⟩ l := by
  obtain ⟨h0, h1, h2⟩ := at2 t
  unfold iblk
  rw [View.read_apply]
  show V m c main_arg2 _ = V m c main_arg2 _
  refine congrArg _ (funext fun a => Fin.ext ?_)
  match a with
  | ⟨0, _⟩ => show win0_2.index t 0 * 1 + 1 * 0 = t.val / 16; rw [h0]; omega
  | ⟨1, _⟩ => show win0_2.index t 1 * 256 + 1 * r.val = 256 * (t.val % 16) + r.val; rw [h1]; omega
  | ⟨2, _⟩ => show win0_2.index t 2 * 1024 + 1 * l.val = l.val; rw [h2]; omega

theorem iblk3 (r : Fin 256) (l : Fin 1024) : iblk m c 3 t (ix3 (0 : Fin 1) r l) = (args m c).z (row_ t) ⟨256 * (blk_ t).val + r.val, by omega⟩ l := by
  obtain ⟨h0, h1, h2⟩ := at3 t
  unfold iblk
  rw [View.read_apply]
  show V m c main_arg3 _ = V m c main_arg3 _
  refine congrArg _ (funext fun a => Fin.ext ?_)
  match a with
  | ⟨0, _⟩ => show win0_3.index t 0 * 1 + 1 * 0 = t.val / 16; rw [h0]; omega
  | ⟨1, _⟩ => show win0_3.index t 1 * 256 + 1 * r.val = 256 * (t.val % 16) + r.val; rw [h1]; omega
  | ⟨2, _⟩ => show win0_3.index t 2 * 1024 + 1 * l.val = l.val; rw [h2]; omega

theorem iblk4 (r : Fin 256) (l : Fin 128) : iblk m c 4 t (ix3 (0 : Fin 1) r l) = (args m c).ba (row_ t) ⟨256 * (blk_ t).val + r.val, by omega⟩ l := by
  obtain ⟨h0, h1, h2⟩ := at4 t
  unfold iblk
  rw [View.read_apply]
  show V m c main_arg4 _ = V m c main_arg4 _
  refine congrArg _ (funext fun a => Fin.ext ?_)
  match a with
  | ⟨0, _⟩ => show win0_4.index t 0 * 1 + 1 * 0 = t.val / 16; rw [h0]; omega
  | ⟨1, _⟩ => show win0_4.index t 1 * 256 + 1 * r.val = 256 * (t.val % 16) + r.val; rw [h1]; omega
  | ⟨2, _⟩ => show win0_4.index t 2 * 128 + 1 * l.val = l.val; rw [h2]; omega

theorem iblk5 (l : Fin 128) : iblk m c 5 t (ix3 (0 : Fin 1) (0 : Fin 1) l) = (args m c).al l := by
  obtain ⟨h0, h1, h2⟩ := at5 t
  unfold iblk
  rw [View.read_apply]
  show V m c main_arg5 _ = V m c main_arg5 _
  refine congrArg _ (funext fun a => Fin.ext ?_)
  match a with
  | ⟨0, _⟩ => show win0_5.index t 0 * 1 + 1 * 0 = 0; rw [h0]
  | ⟨1, _⟩ => show win0_5.index t 1 * 1 + 1 * 0 = 0; rw [h1]
  | ⟨2, _⟩ => show win0_5.index t 2 * 128 + 1 * l.val = l.val; rw [h2]; omega

theorem iblk6 (l : Fin 128) : iblk m c 6 t (ix3 (0 : Fin 1) (0 : Fin 1) l) = (args m c).dt l := by
  obtain ⟨h0, h1, h2⟩ := at6 t
  unfold iblk
  rw [View.read_apply]
  show V m c main_arg6 _ = V m c main_arg6 _
  refine congrArg _ (funext fun a => Fin.ext ?_)
  match a with
  | ⟨0, _⟩ => show win0_6.index t 0 * 1 + 1 * 0 = 0; rw [h0]
  | ⟨1, _⟩ => show win0_6.index t 1 * 1 + 1 * 0 = 0; rw [h1]
  | ⟨2, _⟩ => show win0_6.index t 2 * 128 + 1 * l.val = l.val; rw [h2]; omega

theorem iblk7 (l : Fin 128) : iblk m c 7 t (ix2 (0 : Fin 1) l) = (args m c).on l := by
  obtain ⟨h0, h1⟩ := at7 t
  unfold iblk
  rw [View.read_apply]
  show V m c main_arg7 _ = V m c main_arg7 _
  refine congrArg _ (funext fun a => Fin.ext ?_)
  match a with
  | ⟨0, _⟩ => show win0_7.index t 0 * 1 + 1 * 0 = 0; rw [h0]
  | ⟨1, _⟩ => show win0_7.index t 1 * 128 + 1 * l.val = l.val; rw [h1]; omega

/-- What point `t` reads. -/
abbrev blkAt : Blk Ideal := rdBlk (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t) (iblk m c 7 t)

theorem zero3 : (![0, 0, 0] : Fin 3 → Nat) = fun _ => 0 := by funext a; fin_cases a <;> rfl
theorem zero2 : (![0, 0] : Fin 2 → Nat) = fun _ => 0 := by funext a; fin_cases a <;> rfl

/-- A load of the whole block reads the staged block. -/
theorem load_whole {S : Shape} {e : EltTy} (a : Memref sig .tc .vmem S e) (h : a.IsWhole) (x : Vec Ideal S e) (off : Fin S.rank → Nat)
    (ho : off = fun _ => 0) (inb : ∀ a, off a + S.size a ≤ S.size a) :
    View.readAt (Elt Ideal) a.view (Rect.unit off S.size inb).toLoadRect (h.unread x) = x := by
  rw [View.readAt_eq_ld, h.read_unread, View.ld_unit_zero ho]

/-- The point reads the arguments at its batch row and block. -/
theorem blkAt_holds : Holds (args m c) (row_ t) (blk_ t) (blkAt m c t) where
  q r l := (congrFun (load_whole (ms0_0 t) (hs0_0 t) (iblk m c 0 t) _ zero3 _) _).trans (iblk0 m c t r l)
  k r l := (congrFun (load_whole (ms0_1 t) (hs0_1 t) (iblk m c 1 t) _ zero3 _) _).trans (iblk1 m c t r l)
  v r l := (congrFun (load_whole (ms0_2 t) (hs0_2 t) (iblk m c 2 t) _ zero3 _) _).trans (iblk2 m c t r l)
  ba r l := (congrFun (load_whole (ms0_4 t) (hs0_4 t) (iblk m c 4 t) _ zero3 _) _).trans (iblk4 m c t r l)
  al l := (congrFun (load_whole (ms0_5 t) (hs0_5 t) (iblk m c 5 t) _ zero3 _) _).trans (iblk5 m c t l)
  dt l := (congrFun (load_whole (ms0_6 t) (hs0_6 t) (iblk m c 6 t) _ zero3 _) _).trans (iblk6 m c t l)
  on l := (congrFun (load_whole (ms0_7 t) (hs0_7 t) (iblk m c 7 t) _ zero2 _) _).trans (iblk7 m c t l)
  z ci i r d := by
    have h := iblk3 m c t ⟨64 * ci.val + r.val, by omega⟩ (hl i d)
    refine Eq.trans ?_ (h.trans ?_)
    · show View.readAt (Elt Ideal) (ms0_3 t).view (Rect.unit (s := S1x256x1024) ![0, 64 * ci.val, 128 * i.val] S1x64x128.size (inb_out ci i)).toLoadRect ((hs0_3 t).unread (iblk m c 3 t)) (ix3 (0 : Fin 1) r d) = _
      rw [View.readAt_eq_ld, (hs0_3 t).read_unread]
      refine View.ld_unit_apply_of _ _ _ _ _ _ fun a => ?_
      match a with
      | ⟨0, _⟩ => rfl
      | ⟨1, _⟩ => rfl
      | ⟨2, _⟩ => rfl
    · congr 1
      exact Fin.ext (by show 256 * (t.val % 16) + (64 * ci.val + r.val) = 256 * (t.val % 16) + 64 * ci.val + r.val; omega)

/-- The zeros that a first point reads. -/
theorem rdZero_is (a : Memref sig .tc .vmem S8x128x128 .f32) (X : Seqs) (i : Fin 8) :
    Is (φ := .f32) (shapeCast S128x128 (rdZero (F := Ideal) a i) shapeCasts_S1x128x128_S128x128) (X.St 0) := by
  intro r d
  have h : rdZero (F := Ideal) a i (ix3 (0 : Fin 1) r d) = (0 : EReal) := by
    unfold rdZero
    rw [View.readCov_eq_canon']
    unfold zeroPieces
    rw [View.canon_cons_unit_zero zero3]
    pointwise
    exact f0_eq
  pointwise
  exact h.trans rfl

/-- The states that a later point reads. -/
theorem rdSt_is (a : Memref sig .tc .vmem S8x128x128 .f32) (ha : a.IsWhole) (xs : Vec Ideal S8x128x128 .f32) (i : Fin 8)
    (M : Matrix (Fin 128) (Fin 128) ℝ) (h : ∀ r d, xs (ix3 i r d) = ((M r d : ℝ) : EReal)) :
    Is (φ := .f32) (shapeCast S128x128 (rdSt a ha xs i) shapeCasts_S1x128x128_S128x128) M := by
  intro r d
  have h' : rdSt a ha xs i (ix3 (0 : Fin 1) r d) = ((M r d : ℝ) : EReal) := by
    unfold rdSt
    rw [View.readAt_eq_ld, ha.read_unread, ← h r d]
    refine View.ld_unit_apply_of _ _ _ _ _ _ fun a => ?_
    match a with
    | ⟨0, _⟩ => rfl
    | ⟨1, _⟩ => show r.val = 0 + r.val; omega
    | ⟨2, _⟩ => show d.val = 0 + d.val; omega
  pointwise
  exact h'

/-- What a point leaves: the gated outputs of its block, and the states after it. -/
structure Left (t : Fin cfg0.N) (x : Vec Ideal S1x256x1024 .bf16 × Vec Ideal S8x128x128 .f32) : Prop where
  out : ∀ (y : Fin 256) i d, x.1 (ix3 (0 : Fin 1) y (hl i d)) = (args m c).res (row_ t) ⟨256 * (blk_ t).val + y.val, by omega⟩ i d
  st : ∀ i r d, x.2 (ix3 i r d) = ((((args m c).seqs (row_ t) i).St (256 * (blk_ t).val + 256) r d : ℝ) : EReal)

variable (hA : (args m c).Real)
include hA

theorem left_A (h0 : t.val % 16 = 0) : Left m c t (outsAt0 m c t.val t.isLt) := by
  have hS : ∀ i, Is (φ := .f32) (shapeCast S128x128 (rdZero (F := Ideal) scM0_0 i) shapeCasts_S1x128x128_S128x128)
      (((args m c).seqs (row_ t) i).St (256 * (blk_ t).val)) := fun i => by
    rw [show 256 * (blk_ t).val = 0 by show 256 * (t.val % 16) = 0; omega]
    exact rdZero_is _ _ i
  rw [outsAt0_A m c t h0]
  constructor
  · intro y i d
    refine Eq.trans ?_ (canon_out hA (blkAt_holds m c t) hS y i d)
    rw [← outA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t) ((hcond0_0 t).mpr h0)]
    dsimp only
    unfold out0_A_8
    rw [View.read_writes_junk_apply_eq_canon]
  · intro i r d
    refine Eq.trans ?_ (canon_st hA (blkAt_holds m c t) hS zeroPieces i r d)
    rw [← stA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t) ((hcond0_0 t).mpr h0)]
    dsimp only
    unfold sout0_A_0
    rw [View.read_writes_junk_apply_eq_canon]

theorem left_B (h0 : ¬t.val % 16 = 0) (hp : t.val - 1 < cfg0.N) (ih : Left m c ⟨t.val - 1, hp⟩ (outsAt0 m c (t.val - 1) hp)) :
    Left m c t (outsAt0 m c t.val t.isLt) := by
  have hS : ∀ i, Is (φ := .f32) (shapeCast S128x128 (rdSt scM0_0 (Memref.isWhole_whole _) (outsAt0 m c (t.val - 1) hp).2 i) shapeCasts_S1x128x128_S128x128)
      (((args m c).seqs (row_ t) i).St (256 * (blk_ t).val)) := fun i => by
    refine rdSt_is _ _ _ i _ fun r d => (ih.st i r d).trans ?_
    have e1 : row_ ⟨t.val - 1, hp⟩ = row_ t := Fin.ext (by show (t.val - 1) / 16 = t.val / 16; omega)
    have e2 : 256 * (blk_ ⟨t.val - 1, hp⟩).val + 256 = 256 * (blk_ t).val := by
      show 256 * ((t.val - 1) % 16) + 256 = 256 * (t.val % 16); omega
    rw [e1, e2]
  rw [outsAt0_B m c t h0]
  constructor
  · intro y i d
    refine Eq.trans ?_ (canon_out hA (blkAt_holds m c t) hS y i d)
    rw [← outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t) (outsAt0 m c (t.val - 1) hp).2 (fun h => h0 ((hcond0_0 t).mp h))]
    dsimp only
    unfold out0_B_8
    rw [View.read_writes_junk_apply_eq_canon]
  · intro i r d
    refine Eq.trans ?_ (canon_st hA (blkAt_holds m c t) hS [] i r d)
    rw [List.append_nil, ← stB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t) (outsAt0 m c (t.val - 1) hp).2 (fun h => h0 ((hcond0_0 t).mp h))]
    dsimp only
    unfold sout0_B_0
    rw [View.read_writes_junk_apply_eq_canon]

/-- What every point leaves. -/
theorem left : ∀ (n : ℕ) (hn : n < cfg0.N), Left m c ⟨n, hn⟩ (outsAt0 m c n hn)
  | 0, hn => left_A m c ⟨0, hn⟩ hA rfl
  | n + 1, hn => by
    by_cases h0 : (n + 1) % 16 = 0
    · exact left_A m c ⟨n + 1, hn⟩ hA h0
    · exact left_B m c ⟨n + 1, hn⟩ hA h0 (Nat.lt_of_succ_lt hn) (left n (Nat.lt_of_succ_lt hn))

/-- THE KERNEL'S VALUE: every entry of the result is the gated output of its step. -/
theorem G8_eq (B : Fin 8) (t : Fin 4096) (i : Fin 8) (d : Fin 128) : G8 m c (ix3 B t (hl i d)) = (args m c).res B t i d := by
  have hp : pt8Of (ix3 B t (hl i d)) = 16 * B.val + t.val / 256 := by
    show 16 * (B.val / 1 - 0) + 1 * (t.val / 256 - 0) + 1 * ((128 * i.val + d.val) / 1024 - 0) = _
    omega
  have hN : 16 * B.val + t.val / 256 < cfg0.N := lt_of_lt_of_eq (by omega : _ < 128) (show cfg0.N = 128 from N_0).symm
  have key : ∀ n (hn : n = 16 * B.val + t.val / 256) (h : n < cfg0.N) (h' : 0 + n < cfg0.N),
      (Pipeline.accAt (fun n h => stAt0 m c n h junk0) (stAt0 m c) 0 n h').1 (loc8Of (ix3 B t (hl i d))) = (args m c).res B t i d := by
    rintro n hn h h'
    rw [← outsAt0_sweep m c n h]
    have e : loc8Of (ix3 B t (hl i d)) = ix3 (0 : Fin 1) (⟨t.val % 256, by omega⟩ : Fin 256) (hl i d) := by
      funext a
      match a with
      | ⟨0, _⟩ => exact Fin.ext (Nat.mod_one _)
      | ⟨1, _⟩ => rfl
      | ⟨2, _⟩ => exact Fin.ext (by show (128 * i.val + d.val) % 1024 = 128 * i.val + d.val; omega)
    rw [e, (left m c hA n h).out]
    congr 1
    · exact Fin.ext (by show n / 16 = B.val; omega)
    · exact Fin.ext (by show 256 * (n % 16) + t.val % 256 = t.val; omega)
  unfold G8
  rw [dif_pos (by rw [hp]; exact hN)]
  exact key _ hp (hp ▸ hN) _

end Gdn.Job

end
-- ==== Proof.Ref.lean ====
/-
  What the reference's array holds after the run: the loop's carried state is the recurrence's, and each entry of the
  result is the gated output of its step.
-/
module

public import proofs.«01_k».proof.Proof.Args
public import proofs.«01_k».proof.Proof.Gen.ReferenceIdeal.Run
public import Idealize.ShloMosaic.Lib.DynamicIndex

@[expose] public section

set_option maxRecDepth 4096

noncomputable section

namespace Gdn.Ref

open Cert.ReferenceIdeal Cert.ReferenceIdeal.Gen Idealize.ShloMosaic Idealize.ShloMosaic.TcCoe Idealize.ShloMosaic.Pointwise
open Cert.ReferenceIdeal.Value Gdn.Job Idealize.ShloMosaic.StableHlo

/-! ## A step's slices -/

theorem slice4 {α : Type} (x : S4096x8x8x128.Idx → α) (t : Fin 4096) (st : Fin 4 → Int) (hs : ∀ a, st a = ((![t.val, 0, 0, 0] a : ℕ) : Int))
    : shapeCast S8x8x128 (Host.dynamicSlice S1x8x8x128 x st sliceFits_S4096x8x8x128_S1x8x8x128) shapeCasts_S1x8x8x128_S8x8x128
      = fun j => x (ix4 t (j 0) (j 1) (j 2)) := by
  funext j
  obtain ⟨B, i, d, rfl⟩ : ∃ B i d, j = ix3 B i d := ⟨_, _, _, eq_ix3 j⟩
  rw [Host.dynamicSlice_eq_extractStridedSlice S1x8x8x128 x st ![t.val, 0, 0, 0] sliceFits_S4096x8x8x128_S1x8x8x128
    ⟨rfl, fun a => by fin_cases a <;> simp [S1x8x8x128, S4096x8x8x128] <;> omega⟩ hs]
  pointwise

theorem slice3 {α : Type} (x : S4096x8x8.Idx → α) (t : Fin 4096) (st : Fin 3 → Int) (hs : ∀ a, st a = ((![t.val, 0, 0] a : ℕ) : Int))
    : shapeCast S8x8 (Host.dynamicSlice S1x8x8 x st sliceFits_S4096x8x8_S1x8x8) shapeCasts_S1x8x8_S8x8
      = fun j => x (ix3 t (j 0) (j 1)) := by
  funext j
  obtain ⟨B, i, rfl⟩ : ∃ B i, j = ix2 B i := ⟨_, _, eq_ix2 j⟩
  rw [Host.dynamicSlice_eq_extractStridedSlice S1x8x8 x st ![t.val, 0, 0] sliceFits_S4096x8x8_S1x8x8
    ⟨rfl, fun a => by fin_cases a <;> simp [S1x8x8, S4096x8x8] <;> omega⟩ hs]
  pointwise

variable (V0 : Valuation τ sig (Elt Ideal))

/-- The counter's word. -/
def Ctr (t : ℕ) : Prop := V0 (Proc.devRef .tc main_v35_5) = fun _ => BitVec.ofNat 32 t

theorem start4 {V0} {t : Fin 4096} (h : Ctr V0 t) : ∀ a : Fin 4, (((![V0 (Proc.devRef .tc main_v35_5), constantI S_ 32 0#32, constantI S_ 32 0#32, constantI S_ 32 0#32] : Fin 4 → (⟨S_, .i32⟩ : BufTy).Contents (Elt Ideal))) a (Shape.Idx.first h_S_)).toInt = ((![t.val, 0, 0, 0] a : ℕ) : Int) := by
  intro a
  rw [show V0 (Proc.devRef .tc main_v35_5) = _ from h]
  have := toInt_ofNat_of_lt (k := t.val) (by omega)
  match a with
  | 0 => exact this
  | 1 => rfl
  | 2 => rfl
  | 3 => rfl

theorem start3 {V0} {t : Fin 4096} (h : Ctr V0 t) : ∀ a : Fin 3, (((![V0 (Proc.devRef .tc main_v35_5), constantI S_ 32 0#32, constantI S_ 32 0#32] : Fin 3 → (⟨S_, .i32⟩ : BufTy).Contents (Elt Ideal))) a (Shape.Idx.first h_S_)).toInt = ((![t.val, 0, 0] a : ℕ) : Int) := by
  intro a
  rw [show V0 (Proc.devRef .tc main_v35_5) = _ from h]
  have := toInt_ofNat_of_lt (k := t.val) (by omega)
  match a with
  | 0 => exact this
  | 1 => rfl
  | 2 => rfl

/-- The carried buffers. -/
abbrev bq : S4096x8x8x128.Idx → EReal := V0 (Proc.devRef .tc main_v35_0)
abbrev bk : S4096x8x8x128.Idx → EReal := V0 (Proc.devRef .tc main_v35_1)
abbrev bv : S4096x8x8x128.Idx → EReal := V0 (Proc.devRef .tc main_v35_2)
abbrev bg : S4096x8x8.Idx → EReal := V0 (Proc.devRef .tc main_v35_3)
abbrev bb : S4096x8x8.Idx → EReal := V0 (Proc.devRef .tc main_v35_4)
abbrev bS : S8x8x128x128.Idx → EReal := V0 (Proc.devRef .tc main_v35_6)
abbrev bo : S4096x8x8x128.Idx → EReal := V0 (Proc.devRef .tc main_v35_7)

variable {V0}

/-! ## One step on the arrays -/

abbrev sl4 (x : S4096x8x8x128.Idx → EReal) (st : Fin 4 → Int) : S8x8x128.Idx → EReal :=
  shapeCast S8x8x128 (Host.dynamicSlice S1x8x8x128 x st sliceFits_S4096x8x8x128_S1x8x8x128) shapeCasts_S1x8x8x128_S8x8x128
abbrev sl3 (x : S4096x8x8.Idx → EReal) (st : Fin 3 → Int) : S8x8.Idx → EReal :=
  shapeCast S8x8 (Host.dynamicSlice S1x8x8 x st sliceFits_S4096x8x8_S1x8x8) shapeCasts_S1x8x8_S8x8

def w65 (b : FVec Ideal S8x8 .f32) (k : FVec Ideal S8x8x128 .f32) : FVec Ideal S8x8x128 .f32 :=
  mulf (broadcastInDim S8x8x128 ![0, 1, 2] bcast_S8x8x1_S8x8x128_0_1_2 (broadcastInDim S8x8x1 ![0, 1] bcast_S8x8_S8x8x1_0_1 b)) k

theorem w65_at (b : FVec Ideal S8x8 .f32) (k : FVec Ideal S8x8x128 .f32) (B i : Fin 8) (d : Fin 128) :
    w65 b k (ix3 B i d) = b (ix2 B i) * k (ix3 B i d) := by
  pointwise [w65]

def w80 (g : FVec Ideal S8x8 .f32) (bk k v : FVec Ideal S8x8x128 .f32) (S : FVec Ideal S8x8x128x128 .f32) : FVec Ideal S8x8x128x128 .f32 :=
  addf (mulf (broadcastInDim S8x8x128x128 ![0, 1, 2, 3] bcast_S8x8x1x1_S8x8x128x128_0_1_2_3 (broadcastInDim S8x8x1x1 ![0, 1] bcast_S8x8_S8x8x1x1_0_1 g)) (subf S (mulf (broadcastInDim S8x8x128x128 ![0, 1, 2, 3] bcast_S8x8x128x1_S8x8x128x128_0_1_2_3 (broadcastInDim S8x8x128x1 ![0, 1, 2] bcast_S8x8x128_S8x8x128x1_0_1_2 bk)) (broadcastInDim S8x8x128x128 ![0, 1, 2, 3] bcast_S8x8x1x128_S8x8x128x128_0_1_2_3 (broadcastInDim S8x8x1x128 ![0, 1, 3] bcast_S8x8x128_S8x8x1x128_0_1_3 (Host.dotGeneral dot_S8x8x128_S8x8x128x128_S8x8x128_2_2_n_3_01_01 none k S)))))) (mulf (broadcastInDim S8x8x128x128 ![0, 1, 2, 3] bcast_S8x8x128x1_S8x8x128x128_0_1_2_3 (broadcastInDim S8x8x128x1 ![0, 1, 2] bcast_S8x8x128_S8x8x128x1_0_1_2 bk)) (broadcastInDim S8x8x128x128 ![0, 1, 2, 3] bcast_S8x8x1x128_S8x8x128x128_0_1_2_3 (broadcastInDim S8x8x1x128 ![0, 1, 3] bcast_S8x8x128_S8x8x1x128_0_1_3 v)))

theorem w80_at (g : FVec Ideal S8x8 .f32) (bk k v : FVec Ideal S8x8x128 .f32) (S : FVec Ideal S8x8x128x128 .f32) (B i : Fin 8) (d e : Fin 128) :
    w80 g bk k v S (ix4 B i d e) = g (ix2 B i) * (S (ix4 B i d e) - bk (ix3 B i d) * ∑ x : Fin 128, k (ix3 B i x) * S (ix4 B i x e))
      + bk (ix3 B i d) * v (ix3 B i e) := by
  pointwise [w80]

def wout (q : FVec Ideal S8x8x128 .f32) (S : FVec Ideal S8x8x128x128 .f32) : FVec Ideal S8x8x128 .f32 :=
  Host.dotGeneral dot_S8x8x128_S8x8x128x128_S8x8x128_2_2_n_3_01_01 none q S

theorem wout_at (q : FVec Ideal S8x8x128 .f32) (S : FVec Ideal S8x8x128x128 .f32) (B i : Fin 8) (e : Fin 128) :
    wout q S (ix3 B i e) = ∑ x : Fin 128, q (ix3 B i x) * S (ix4 B i x e) := by
  pointwise [wout]

theorem slices_put (t : Fin 4096) : S4096x8x8x128.Slices ![t.val, 0, 0, 0] S1x8x8x128 :=
  ⟨rfl, fun a => by fin_cases a <;> simp [S1x8x8x128, S4096x8x8x128] <;> omega⟩

theorem put_at (x : S4096x8x8x128.Idx → EReal) (u : S8x8x128.Idx → EReal) (t : Fin 4096) (st : Fin 4 → Int) (hs : ∀ a, st a = ((![t.val, 0, 0, 0] a : ℕ) : Int))
    (t' : Fin 4096) (B i : Fin 8) (d : Fin 128) :
    Host.dynamicUpdateSlice x (broadcastInDim S1x8x8x128 ![1, 2, 3] bcast_S8x8x128_S1x8x8x128_1_2_3 u) st updateFits_S4096x8x8x128_S1x8x8x128 (ix4 t' B i d)
      = if t' = t then u (ix3 B i d) else x (ix4 t' B i d) := by
  rw [Host.dynamicUpdateSlice_eq_updateSlice x _ st updateFits_S4096x8x8x128_S1x8x8x128 ![t.val, 0, 0, 0] (fun a => by
      have := hs a
      fin_cases a <;> simp [S1x8x8x128, S4096x8x8x128] at this ⊢ <;> omega)
    (slices_put t)]
  refine (updateSlice_apply x (broadcastInDim S1x8x8x128 ![1, 2, 3] bcast_S8x8x128_S1x8x8x128_1_2_3 u) ![t.val, 0, 0, 0] (slices_put t) (ix4 t' B i d)).trans ?_
  by_cases ht : t' = t
  · subst ht
    rw [if_pos rfl, dif_pos (fun a => by fin_cases a <;> simp [S1x8x8x128, S4096x8x8x128])]
    pointwise
  · rw [if_neg ht, dif_neg]
    intro hin
    have := hin 0
    exact ht (Fin.ext (by simp [S1x8x8x128, S4096x8x8x128] at this; omega))

/-! ## The carried buffers' step -/

section Step

variable {t : Fin 4096} (h : Ctr V0 t)
include h

theorem v58_eq : res_main_while0b_v58 V0 = fun j => bk V0 (ix4 t (j 0) (j 1) (j 2)) := slice4 (bk V0) t _ (start4 h)

theorem v65_eq : res_main_while0b_v65 V0 = w65 (fun j => bb V0 (ix3 t (j 0) (j 1))) (fun j => bk V0 (ix4 t (j 0) (j 1) (j 2))) :=
  congrArg₂ w65 (slice3 (bb V0) t _ (start3 h)) (v58_eq h)

theorem v80_eq : res_main_while0b_v80 V0 = w80 (fun j => bg V0 (ix3 t (j 0) (j 1))) (res_main_while0b_v65 V0) (res_main_while0b_v58 V0)
    (fun j => bv V0 (ix4 t (j 0) (j 1) (j 2))) (bS V0) :=
  congrArg₂ (fun g v => w80 g (res_main_while0b_v65 V0) (res_main_while0b_v58 V0) v (bS V0)) (slice3 (bg V0) t _ (start3 h)) (slice4 (bv V0) t _ (start4 h))

theorem v80_at (B i : Fin 8) (d e : Fin 128) :
    res_main_while0b_v80 V0 (ix4 B i d e) = bg V0 (ix3 t B i) * (bS V0 (ix4 B i d e)
      - bb V0 (ix3 t B i) * bk V0 (ix4 t B i d) * ∑ x : Fin 128, bk V0 (ix4 t B i x) * bS V0 (ix4 B i x e))
      + bb V0 (ix3 t B i) * bk V0 (ix4 t B i d) * bv V0 (ix4 t B i e) := by
  rw [v80_eq h, v65_eq h, v58_eq h, w80_at, w65_at]
  rfl

theorem out_at (t' : Fin 4096) (B i : Fin 8) (e : Fin 128) :
    step_main_v35_7 V0 (ix4 t' B i e) = if t' = t then ∑ x : Fin 128, bq V0 (ix4 t B i x) * res_main_while0b_v80 V0 (ix4 B i x e) else bo V0 (ix4 t' B i e) := by
  refine (put_at (bo V0) (wout (sl4 (bq V0) _) (res_main_while0b_v80 V0)) t _ (start4 h) t' B i e).trans ?_
  rw [wout_at]
  exact congrArg (fun w : S8x8x128.Idx → EReal => if t' = t then ∑ x : Fin 128, w (ix3 B i x) * res_main_while0b_v80 V0 (ix4 B i x e) else bo V0 (ix4 t' B i e))
    (slice4 (bq V0) t _ (start4 h))

end Step

/-! ## The loop's entry -/

variable (m : (ℓ : Loc nD τ sig) → Buf (Elt Ideal) ℓ) (c : Dev nD)

/-- The arguments in memory. -/
def args : Args where
  q B t l := m ((c : Thread nD τ).loc main_arg0) (ix3 B t l)
  k B t l := m ((c : Thread nD τ).loc main_arg1) (ix3 B t l)
  v B t l := m ((c : Thread nD τ).loc main_arg2) (ix3 B t l)
  z B t l := m ((c : Thread nD τ).loc main_arg3) (ix3 B t l)
  ba B t l := m ((c : Thread nD τ).loc main_arg4) (ix3 B t l)
  al l := m ((c : Thread nD τ).loc main_arg5) (ix3 0 0 l)
  dt l := m ((c : Thread nD τ).loc main_arg6) (ix3 0 0 l)
  on l := m ((c : Thread nD τ).loc main_arg7) (ix2 0 l)

abbrev V1 : Valuation τ sig (Elt Ideal) := entryContents preI m c

set_option maxHeartbeats 1000000

/-- An argument's heads with the steps first. -/
def heads (x : FVec Ideal S8x4096x1024 .bf16) : FVec Ideal S4096x8x8x128 .f32 :=
  transpose S4096x8x8x128 [1, 0, 2, 3] (shapeCast S8x4096x8x128 (extf .f32 x bitsLt_bf16_f32) shapeCasts_S8x4096x1024_S8x4096x8x128) transposes_S8x4096x8x128_S4096x8x8x128_1_0_2_3

theorem heads_at (x : FVec Ideal S8x4096x1024 .bf16) (t : Fin 4096) (B i : Fin 8) (d : Fin 128) : heads x (ix4 t B i d) = x (ix3 B t (hl i d)) := by
  pointwise [heads]
  refine congrArg x (congrArg (ix3 B t) (Fin.ext ?_))
  show i.val * 128 + d.val = 128 * i.val + d.val
  omega

/-- The write strengths. -/
def strengths (x : FVec Ideal S8x4096x128 .f32) : FVec Ideal S4096x8x8 .f32 :=
  transpose S4096x8x8 [1, 0, 2] (Host.divf (broadcastInDim S8x4096x8 ![] bcast_S_S8x4096x8 (constant S_ .f32 0x3F800000#32)) (addf (broadcastInDim S8x4096x8 ![] bcast_S_S8x4096x8 (constant S_ .f32 0x3F800000#32)) (Host.exp (Host.negf (extractStridedSlice S8x4096x8 ![0, 0, 0] x slices_S8x4096x128_S8x4096x8_0_0_0))))) transposes_S8x4096x8_S4096x8x8_1_0_2

theorem strengths_at (x : FVec Ideal S8x4096x128 .f32) (t : Fin 4096) (B i : Fin 8) : strengths x (ix3 t B i) = sigm (x (ix3 B t ⟨i.val, by omega⟩)) := by
  pointwise [strengths]
  rfl

/-- The decays' argument. -/
def arg22 (x : FVec Ideal S8x4096x128 .f32) (dt : FVec Ideal S1x1x128 .f32) : FVec Ideal S8x4096x8 .f32 :=
  addf (extractStridedSlice S8x4096x8 ![0, 0, 64] x slices_S8x4096x128_S8x4096x8_0_0_64) (broadcastInDim S8x4096x8 ![0, 1, 2] bcast_S1x1x8_S8x4096x8_0_1_2 (broadcastInDim S1x1x8 ![2] bcast_S8_S1x1x8_2 (shapeCast S8 (extractStridedSlice S1x1x8 ![0, 0, 64] dt slices_S1x1x128_S1x1x8_0_0_64) shapeCasts_S1x1x8_S8)))

theorem arg22_at (x : FVec Ideal S8x4096x128 .f32) (dt : FVec Ideal S1x1x128 .f32) (t : Fin 4096) (B i : Fin 8) :
    arg22 x dt (ix3 B t i) = x (ix3 B t (ln i)) + dt (ix3 0 0 (ln i)) := by
  pointwise [arg22]

def softplus (x : FVec Ideal S8x4096x8 .f32) : FVec Ideal S8x4096x8 .f32 :=
  let z : FVec Ideal S8x4096x8 .f32 := broadcastInDim S8x4096x8 ![] bcast_S_S8x4096x8 (constant S_ .f32 0x00000000#32)
  select (cmpf .une (subf x z) (subf x z)) (addf x z) (addf (maximumf x z) (Host.log1p (Host.exp (Host.negf (Host.absf (subf x z))))))

theorem softplus_at (x : FVec Ideal S8x4096x8 .f32) (j : S8x4096x8.Idx) : softplus x j = softp (x j) := by
  pointwise [softplus]
  rw [if_neg (by simp)]
  rfl

/-- The decays. -/
def decays (x : FVec Ideal S8x4096x128 .f32) (al dt : FVec Ideal S1x1x128 .f32) : FVec Ideal S4096x8x8 .f32 :=
  transpose S4096x8x8 [1, 0, 2] (Host.exp (mulf (broadcastInDim S8x4096x8 ![0, 1, 2] bcast_S1x1x8_S8x4096x8_0_1_2 (broadcastInDim S1x1x8 ![2] bcast_S8_S1x1x8_2 (Host.negf (Host.exp (shapeCast S8 (extractStridedSlice S1x1x8 ![0, 0, 64] al slices_S1x1x128_S1x1x8_0_0_64) shapeCasts_S1x1x8_S8))))) (softplus (arg22 x dt)))) transposes_S8x4096x8_S4096x8x8_1_0_2

theorem decays_at (x : FVec Ideal S8x4096x128 .f32) (al dt : FVec Ideal S1x1x128 .f32) (t : Fin 4096) (B i : Fin 8) :
    decays x al dt (ix3 t B i) = Ideal.exp (logdec (al (ix3 0 0 (ln i))) (x (ix3 B t (ln i)) + dt (ix3 0 0 (ln i)))) := by
  pointwise [decays]
  rw [softplus_at, arg22_at]
  rfl

theorem entry_q : bq (V1 m c) = heads (m ((c : Thread nD τ).loc main_arg0)) := by
  simp only [V1, bq, entryContents, afterL_cons, afterL_nil]
  after_reads_simp
  rfl

theorem entry_k : bk (V1 m c) = heads (m ((c : Thread nD τ).loc main_arg1)) := by
  simp only [V1, bk, entryContents, afterL_cons, afterL_nil]
  after_reads_simp
  rfl

theorem entry_v : bv (V1 m c) = heads (m ((c : Thread nD τ).loc main_arg2)) := by
  simp only [V1, bv, entryContents, afterL_cons, afterL_nil]
  after_reads_simp
  rfl

theorem entry_S (j) : bS (V1 m c) j = 0 := by
  have : bS (V1 m c) = broadcastInDim S8x8x128x128 ![] bcast_S_S8x8x128x128 (constant (F := Ideal) S_ .f32 0x00000000#32) := by
    simp only [V1, bS, entryContents, afterL_cons, afterL_nil]
    after_reads_simp
    rfl
  rw [this]
  pointwise

theorem entry_b : bb (V1 m c) = strengths (m ((c : Thread nD τ).loc main_arg4)) := by
  simp only [V1, bb, entryContents, afterL_cons, afterL_nil]
  after_reads_simp
  rfl

theorem entry_g : bg (V1 m c) = decays (m ((c : Thread nD τ).loc main_arg4)) (m ((c : Thread nD τ).loc main_arg5)) (m ((c : Thread nD τ).loc main_arg6)) := by
  simp only [V1, bg, entryContents, afterL_cons, afterL_nil]
  after_reads_simp
  rfl

/-! ## The output from the loop's rows -/

def fin56 (o : FVec Ideal S4096x8x8x128 .f32) (gn : FVec Ideal S1x128 .f32) (z : FVec Ideal S8x4096x1024 .bf16) : FVec Ideal S8x4096x1024 .bf16 :=
  shapeCast S8x4096x1024 (truncf .bf16 (mulf (mulf (mulf (transpose S8x4096x8x128 [1, 0, 2, 3] o transposes_S4096x8x8x128_S8x4096x8x128_1_0_2_3) (broadcastInDim S8x4096x8x128 ![0, 1, 2, 3] bcast_S8x4096x8x1_S8x4096x8x128_0_1_2_3 (Host.rsqrt (addf (Host.divf (broadcastInDim S8x4096x8x1 ![0, 1, 2] bcast_S8x4096x8_S8x4096x8x1_0_1_2 (Host.reduceAdd (mulf (transpose S8x4096x8x128 [1, 0, 2, 3] o transposes_S4096x8x8x128_S8x4096x8x128_1_0_2_3) (transpose S8x4096x8x128 [1, 0, 2, 3] o transposes_S4096x8x8x128_S8x4096x8x128_1_0_2_3)) (constant S_ .f32 0x00000000#32) reducesTo_S8x4096x8x128_S8x4096x8_d3 h_S_)) (broadcastInDim S8x4096x8x1 ![] bcast_S_S8x4096x8x1 (constant S_ .f32 0x43000000#32))) (broadcastInDim S8x4096x8x1 ![] bcast_S_S8x4096x8x1 (constant S_ .f32 0x358637BD#32)))))) (broadcastInDim S8x4096x8x128 ![0, 1, 2, 3] bcast_S1x1x1x128_S8x4096x8x128_0_1_2_3 (broadcastInDim S1x1x1x128 ![3] bcast_S128_S1x1x1x128_3 (shapeCast S128 gn shapeCasts_S1x128_S128)))) (mulf (shapeCast S8x4096x8x128 (extf .f32 z bitsLt_bf16_f32) shapeCasts_S8x4096x1024_S8x4096x8x128) (Host.divf (broadcastInDim S8x4096x8x128 ![] bcast_S_S8x4096x8x128 (constant S_ .f32 0x3F800000#32)) (addf (broadcastInDim S8x4096x8x128 ![] bcast_S_S8x4096x8x128 (constant S_ .f32 0x3F800000#32)) (Host.exp (Host.negf (shapeCast S8x4096x8x128 (extf .f32 z bitsLt_bf16_f32) shapeCasts_S8x4096x1024_S8x4096x8x128))))))) bitsLt_bf16_f32) shapeCasts_S8x4096x8x128_S8x4096x1024

theorem fin56_lane (o : FVec Ideal S4096x8x8x128 .f32) (gn : FVec Ideal S1x128 .f32) (z : FVec Ideal S8x4096x1024 .bf16)
    (B : Fin 8) (t : Fin 4096) (l : Fin 1024) :
    fin56 o gn z (ix3 B t l) = gated (fun e => o (ix4 t B ⟨l.val / 128, by omega⟩ e)) (gn (ix2 0 ⟨l.val % 128, by omega⟩)) (z (ix3 B t l)) ⟨l.val % 128, by omega⟩ := by
  pointwise [fin56]
  unfold gated
  have hz (x : EReal) : 0 - x = -x := by rw [sub_eq_add_neg, zero_add]
  rw [hz (z (ix3 B t l))]

theorem fin56_at (o : FVec Ideal S4096x8x8x128 .f32) (gn : FVec Ideal S1x128 .f32) (z : FVec Ideal S8x4096x1024 .bf16)
    (B : Fin 8) (t : Fin 4096) (i : Fin 8) (d : Fin 128) :
    fin56 o gn z (ix3 B t (hl i d)) = gated (fun e => o (ix4 t B i e)) (gn (ix2 0 d)) (z (ix3 B t (hl i d))) d := by
  rw [fin56_lane]
  have hi : ∀ h, (⟨(hl i d).val / 128, h⟩ : Fin 8) = i := fun h => Fin.ext (by show (128 * i.val + d.val) / 128 = i.val; omega)
  have hd : ∀ h, (⟨(hl i d).val % 128, h⟩ : Fin 128) = d := fun h => Fin.ext (by show (128 * i.val + d.val) % 128 = d.val; omega)
  simp only [hi, hd]

/-! ## The loop -/

/-- What the carried buffers hold before trip `n`. -/
structure Inv (n : ℕ) (V : Valuation τ sig (Elt Ideal)) : Prop where
  q : bq V = bq (V1 m c)
  k : bk V = bk (V1 m c)
  v : bv V = bv (V1 m c)
  g : bg V = bg (V1 m c)
  b : bb V = bb (V1 m c)
  ctr : Ctr V n
  st : ∀ B i d e, bS V (ix4 B i d e) = ((((args m c).seqs B i).St n d e : ℝ) : EReal)
  out : ∀ (t : Fin 4096) B i e, t.val < n → bo V (ix4 t B i e) = ((((args m c).seqs B i).out t e : ℝ) : EReal)

variable {m c} (hA : (args m c).Real)
include hA

theorem q_coe (t : Fin 4096) (B i : Fin 8) (d : Fin 128) : bq (V1 m c) (ix4 t B i d) = ((((args m c).seqs B i).q t d : ℝ) : EReal) := by
  rw [entry_q, heads_at]
  unfold Args.seqs
  dsimp only
  rw [dif_pos t.isLt, (hA.q _ _ _).coe]
  rfl

theorem k_coe (t : Fin 4096) (B i : Fin 8) (d : Fin 128) : bk (V1 m c) (ix4 t B i d) = ((((args m c).seqs B i).k t d : ℝ) : EReal) := by
  rw [entry_k, heads_at]
  unfold Args.seqs
  dsimp only
  rw [dif_pos t.isLt, (hA.k _ _ _).coe]
  rfl

theorem v_coe (t : Fin 4096) (B i : Fin 8) (d : Fin 128) : bv (V1 m c) (ix4 t B i d) = ((((args m c).seqs B i).v t d : ℝ) : EReal) := by
  rw [entry_v, heads_at]
  unfold Args.seqs
  dsimp only
  rw [dif_pos t.isLt, (hA.v _ _ _).coe]
  rfl

theorem b_coe (t : Fin 4096) (B i : Fin 8) : bb (V1 m c) (ix3 t B i) = ((((args m c).seqs B i).b t : ℝ) : EReal) := by
  rw [entry_b, strengths_at]
  unfold Args.seqs
  dsimp only
  rw [dif_pos t.isLt, (sigm_fi _).coe]
  rfl

theorem g_coe (t : Fin 4096) (B i : Fin 8) : bg (V1 m c) (ix3 t B i) = ((Real.exp (((args m c).seqs B i).g t) : ℝ) : EReal) := by
  rw [entry_g, decays_at]
  unfold Args.seqs
  dsimp only
  rw [dif_pos t.isLt]
  have h := (logdec_fi (hA.al i) ((hA.ba B t i).add (hA.dt i))).coe
  conv_lhs => rw [show m ((c : Thread nD τ).loc main_arg4) (ix3 B t (ln i)) = (args m c).ba B t (ln i) from rfl,
    show m ((c : Thread nD τ).loc main_arg5) (ix3 0 0 (ln i)) = (args m c).al (ln i) from rfl,
    show m ((c : Thread nD τ).loc main_arg6) (ix3 0 0 (ln i)) = (args m c).dt (ln i) from rfl, ← h]
  rfl

theorem Inv.state {n : Fin 4096} {V : Valuation τ sig (Elt Ideal)} (I : Inv m c n V) (B i : Fin 8) (d e : Fin 128) :
    res_main_while0b_v80 V (ix4 B i d e) = ((((args m c).seqs B i).St (n.val + 1) d e : ℝ) : EReal) := by
  rw [v80_at I.ctr, I.g, I.b, I.k, I.v, g_coe hA, b_coe hA, v_coe hA]
  simp only [k_coe hA, I.st]
  rw [sum_mul_coe]
  simp only [← EReal.coe_mul, ← EReal.coe_sub, ← EReal.coe_add]
  congr 1

theorem inv : ∀ n, n ≤ 4096 → Inv m c n (STEP^[n] (V1 m c))
  | 0, _ => {
      q := rfl, k := rfl, v := rfl, g := rfl, b := rfl
      ctr := ctr_entry m c
      st := fun B i d e => entry_S m c _
      out := fun t B i e h => absurd h (Nat.not_lt_zero _) }
  | n + 1, h => by
    have I := inv n (by omega)
    rw [Function.iterate_succ_apply']
    generalize STEP^[n] (V1 m c) = V at I
    have I' : Inv m c (⟨n, by omega⟩ : Fin 4096) V := I
    exact {
      q := (STEP_main_v35_0 V).trans I.q
      k := (STEP_main_v35_1 V).trans I.k
      v := (STEP_main_v35_2 V).trans I.v
      g := (STEP_main_v35_3 V).trans I.g
      b := (STEP_main_v35_4 V).trans I.b
      ctr := by
        refine (STEP_main_v35_5 V).trans ?_
        unfold step_main_v35_5
        rw [show V (Proc.devRef .tc main_v35_5) = _ from I.ctr]
        funext j
        show BitVec.ofNat 32 n + 1#32 = BitVec.ofNat 32 (n + 1)
        rw [BitVec.ofNat_add]
      st := fun B i d e => (congrFun (STEP_main_v35_6 V) _).trans (I'.state hA B i d e)
      out := fun t B i e ht => by
        refine (congrFun (STEP_main_v35_7 V) _).trans ?_
        rw [out_at I'.ctr]
        by_cases htn : t = ⟨n, by omega⟩
        · rw [if_pos htn, I.q]
          simp only [q_coe hA, I'.state hA]
          rw [sum_mul_coe, htn]
          rfl
        · rw [if_neg htn]
          exact I.out t B i e (by have : t.val ≠ n := fun hh => htn (Fin.ext hh); omega) }

theorem out_eq (B : Fin 8) (t : Fin 4096) (i : Fin 8) (d : Fin 128) :
    out_main_v56 (STEP^[4096] (V1 m c)) (ix3 B t (hl i d)) = (args m c).res B t i d := by
  have I := inv hA 4096 le_rfl
  have h3 := iter_main_arg3 m c 4096
  have h7 := iter_main_arg7 m c 4096
  generalize STEP^[4096] (V1 m c) = V at I h3 h7
  have hV : out_main_v56 V = fin56 (bo V) (m ((c : Thread nD τ).loc main_arg7)) (m ((c : Thread nD τ).loc main_arg3)) := by
    rw [← h3, ← h7]; rfl
  rw [hV, fin56_at, show (fun e => bo V (ix4 t B i e)) = fun e => ((((args m c).seqs B i).out t e : ℝ) : EReal) from funext fun e => I.out t B i e t.isLt]
  rfl

end Gdn.Ref

end
-- ==== Proof.Finite.lean ====
/-
  The precondition read: the arguments that the recurrence takes are real numbers.
-/
module

public import proofs.«01_k».proof.Proof.Args
public import proofs.«01_k».proof.Pre_finite_args
public import Idealize.ShloMosaic.Lib.ReduceAll

@[expose] public section

set_option maxRecDepth 4096

noncomputable section

namespace Gdn.Pre

open Cert.Pre_finite_args Idealize.ShloMosaic Idealize.ShloMosaic.Pointwise Gdn.Job

theorem facts : Cert.Pre_finite_args.Facts where
  bitsLt_bf16_f32 := by decide
  bcast_S_S8x4096x1024 := by decide
  reducesTo_S8x4096x1024_S_d0_1_2 := by decide
  h_S_ := by decide
  slices_S8x4096x128_S8x4096x8_0_0_64 := by decide
  bcast_S_S8x4096x8 := by decide
  reducesTo_S8x4096x8_S_d0_1_2 := by decide
  slices_S1x1x128_S1x1x8_0_0_64 := by decide
  bcast_S_S1x1x8 := by decide
  reducesTo_S1x1x8_S_d0_1_2 := by decide

instance : Subsingleton S_.Idx := ⟨fun a b => funext fun i => i.elim0⟩

theorem inf_eq : Ideal.ofBits .f32 0x7F800000#32 = ⊤ := by
  simp [Ideal.ofBits, Ideal.ieee]

/-- An entry whose absolute value is below `∞` is a real number. -/
theorem fi_of_lt {x : EReal} (h : BitVec.ofBool (decide (max x (-x) < Ideal.ofBits .f32 0x7F800000#32)) = 1#1) : Fi x := by
  rw [inf_eq] at h
  have h' : max x (-x) < ⊤ := by
    by_contra hn
    rw [decide_eq_false hn] at h
    exact absurd h (by decide)
  obtain ⟨h1, h2⟩ := max_lt_iff.1 h'
  refine ⟨h1.ne, fun hb => ?_⟩
  rw [hb] at h2
  exact absurd h2 (by simp)

variable [F : Cert.Pre_finite_args.Facts]

theorem all_fi {s : Shape} (x : FVec Ideal s .f32) (b : S_.BroadcastsInDim s (![] : Fin 0 → Fin s.rank)) {axes : List (Fin s.rank)}
    (r : s.ReducesTo axes S_) (hu : 0 < S_.numel) (j : S_.Idx)
    (h : Host.reduce IntOp.andi (cmpf .olt (Host.absf x) (broadcastInDim s ![] b (constant (F := Ideal) S_ .f32 0x7F800000#32))) (constantI S_ 1 1#1) r hu j = 1#1)
    (i : s.Idx) : Fi (x i) :=
  fi_of_lt (Host.reduce_andi_all _ _ r hu j h i)

theorem read (q k v z : FVec Ideal S8x4096x1024 .bf16) (ba : FVec Ideal S8x4096x128 .f32) (al dt : FVec Ideal S1x1x128 .f32) (on : FVec Ideal S1x128 .f32)
    (h : fn (F := Ideal) q k v z ba al dt on = fun _ => 1#1) :
    (∀ i, Fi (q i)) ∧ (∀ i, Fi (k i)) ∧ (∀ i, Fi (v i)) ∧ (∀ i, Fi (extractStridedSlice S8x4096x8 ![0, 0, 64] ba F.slices_S8x4096x128_S8x4096x8_0_0_64 i))
      ∧ (∀ i, Fi (extractStridedSlice S1x1x8 ![0, 0, 64] al F.slices_S1x1x128_S1x1x8_0_0_64 i))
      ∧ (∀ i, Fi (extractStridedSlice S1x1x8 ![0, 0, 64] dt F.slices_S1x1x128_S1x1x8_0_0_64 i)) := by
  have h0 := congrFun h (Shape.Idx.first F.h_S_)
  unfold fn fn_part1 at h0
  obtain ⟨h1, hdt⟩ := IntOp.andi_eq_one.1 h0
  obtain ⟨h2, hal⟩ := IntOp.andi_eq_one.1 h1
  obtain ⟨h3, hba⟩ := IntOp.andi_eq_one.1 h2
  obtain ⟨h4, hv⟩ := IntOp.andi_eq_one.1 h3
  obtain ⟨hq, hk⟩ := IntOp.andi_eq_one.1 h4
  exact ⟨fun i => all_fi (extf .f32 q F.bitsLt_bf16_f32) _ _ _ _ hq i, fun i => all_fi (extf .f32 k F.bitsLt_bf16_f32) _ _ _ _ hk i,
    fun i => all_fi (extf .f32 v F.bitsLt_bf16_f32) _ _ _ _ hv i, all_fi _ _ _ _ _ hba, all_fi _ _ _ _ _ hal, all_fi _ _ _ _ _ hdt⟩

/-- The arguments as entries are real numbers where the recurrence takes them. -/
theorem real (q k v z : FVec Ideal S8x4096x1024 .bf16) (ba : FVec Ideal S8x4096x128 .f32) (al dt : FVec Ideal S1x1x128 .f32) (on : FVec Ideal S1x128 .f32)
    (h : fn (F := Ideal) q k v z ba al dt on = fun _ => 1#1) :
    (⟨fun B t l => q (ix3 B t l), fun B t l => k (ix3 B t l), fun B t l => v (ix3 B t l), fun B t l => z (ix3 B t l), fun B t l => ba (ix3 B t l),
      fun l => al (ix3 0 0 l), fun l => dt (ix3 0 0 l), fun l => on (ix2 0 l)⟩ : Args).Real := by
  obtain ⟨hq, hk, hv, hba, hal, hdt⟩ := read q k v z ba al dt on h
  refine ⟨fun B t l => hq _, fun B t l => hk _, fun B t l => hv _, fun B t i => ?_, fun i => ?_, fun i => ?_⟩
  · have := hba (ix3 B t i)
    rw [show extractStridedSlice S8x4096x8 ![0, 0, 64] ba F.slices_S8x4096x128_S8x4096x8_0_0_64 (ix3 B t i) = ba (ix3 B t (ln i)) by pointwise] at this
    exact this
  · have := hal (ix3 0 0 i)
    rw [show extractStridedSlice S1x1x8 ![0, 0, 64] al F.slices_S1x1x128_S1x1x8_0_0_64 (ix3 0 0 i) = al (ix3 0 0 (ln i)) by pointwise] at this
    exact this
  · have := hdt (ix3 0 0 i)
    rw [show extractStridedSlice S1x1x8 ![0, 0, 64] dt F.slices_S1x1x128_S1x1x8_0_0_64 (ix3 0 0 i) = dt (ix3 0 0 (ln i)) by pointwise] at this
    exact this

end Gdn.Pre

end
-- ==== Proof.lean ====
/-
  The proof of the claims: the frames from the generated runs, the value claim from the kernel's and the reference's
  closed forms, which are one function of the arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference2Ideal.Run
public import proofs.«01_k».proof.Proof.Gen.Reference3Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.PostRef
public import proofs.«01_k».proof.Proof.InProjRef
public import proofs.«01_k».proof.Proof.Final
public import proofs.«01_k».proof.Proof.CompressRef
public import proofs.«01_k».proof.Proof.Ada
public import proofs.«01_k».proof.Proof.Points
public import proofs.«01_k».proof.Proof.Ref
public import proofs.«01_k».proof.Proof.Finite
public import Idealize.ShloMosaic.Adequacy
public import Idealize.ShloMosaic.Init

@[expose] public section

noncomputable section

namespace Cert.Proof

open Idealize.ShloMosaic Idealize.ShloMosaic.TcCoe Idealize.SL.Sem Idealize.ShloMosaic.Pointwise

/-- The reference's frame: its run's argument buffers; it declares no semaphore. -/
theorem frame_r (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run m ρ)

/-- Under the precondition the two programs' results are equal. -/
theorem value [hF : Cert.Pre_finite_args.Facts] (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_finite_args m) (c : Dev Cert.KernelIdeal.nD) (hargs : Gdn.Ref.args m' c = Gdn.Job.args m c) :
    Cert.ReferenceIdeal.Value.out_main_v56 (Cert.ReferenceIdeal.Value.STEP^[4096] (StableHlo.entryContents Cert.ReferenceIdeal.Value.preI m' c))
      = Cert.KernelIdeal.Value.G8 m c := by
  have hA : (Gdn.Job.args m c).Real := Gdn.Pre.real _ _ _ _ _ _ _ _ (hp c)
  have hA' : (Gdn.Ref.args m' c).Real := hargs ▸ hA
  funext j
  obtain ⟨B, t, l, rfl⟩ : ∃ B t l, j = ix3 B t l := ⟨_, _, _, eq_ix3 j⟩
  obtain ⟨i, d, rfl⟩ : ∃ (i : Fin 8) (d : Fin 128), l = Gdn.Job.hl i d :=
    ⟨⟨l.val / 128, by have : l.val < 1024 := l.isLt; omega⟩, ⟨l.val % 128, by omega⟩, Fin.ext (by show l.val = 128 * (l.val / 128) + l.val % 128; omega)⟩
  exact (Gdn.Ref.out_eq hA' B t i d).trans ((congrArg (fun A => Gdn.Job.Args.res A B t i d) hargs).trans (Gdn.Job.G8_eq m c hA B t i d).symm)

/-- The recurrence's value claim. -/
theorem algebraic1 : Cert.algebraic_KernelIdeal_ReferenceIdeal_pre_finite_args (hKernelIdeal := Cert.KernelIdeal.Gen.facts)
    (hReferenceIdeal := Cert.ReferenceIdeal.Gen.facts) (hPre_finite_args := Gdn.Pre.facts) :=
  fun m ρ m' ρ' hp hag => ⟨fun c => Cert.KernelIdeal.Value.G8 m c, Cert.KernelIdeal.Value.run m ρ,
    (θ_run Cert.ReferenceIdeal.defs _ _).mono (fun _ h c => ⟨(h c).1.trans (value (hF := Gdn.Pre.facts) m m' hp c (by
      obtain ⟨h0, h1, h2, h3, h4, h5, h6, h7⟩ := hag c
      unfold Gdn.Ref.args Gdn.Job.args
      congr 1
      · funext B t l; exact congrFun h0 _
      · funext B t l; exact congrFun h1 _
      · funext B t l; exact congrFun h2 _
      · funext B t l; exact congrFun h3 _
      · funext B t l; exact congrFun h4 _
      · funext l; exact congrFun h5 _
      · funext l; exact congrFun h6 _
      · funext l; exact congrFun h7 _)), (h c).2⟩) (Cert.ReferenceIdeal.Value.run m' ρ')⟩

theorem frame_r2 : Cert.quiescent_Reference2Ideal (hReference2Ideal := Cert.Reference2Ideal.Gen.facts) := fun m ρ _ =>
  (θ_run Cert.Reference2Ideal.defs _ _).mono (fun r h => ⟨fun c => (h c).2.2.2.2.2.2, Idealize.ShloMosaic.sem_eq_zero_of_no_sems (by decide) r.2⟩)
    (Cert.Reference2Ideal.Value.run m ρ)

theorem frame_r3 : Cert.quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run m ρ)

/-- The value claim of the projections between the recurrent layer and the attention. -/
theorem algebraic2 : Cert.algebraic_Kernel2Ideal_Reference2Ideal (hKernel2Ideal := Cert.Kernel2Ideal.Gen.facts)
    (hReference2Ideal := Cert.Reference2Ideal.Gen.facts) := fun m ρ m' ρ' _ hag => by
  have ht (c : Dev Cert.Kernel2Ideal.nD) : Rows.Post.tokR m' c = Rows.Post.tok m c := by
    obtain ⟨h0, h1, h2, h3, h4, h5, h6, h7, h8, h9, h10, h11, h12⟩ := hag c
    funext B T
    unfold Rows.Post.tokR Rows.Post.tok
    congr 1
    · funext n; exact congrFun h0 _
    · funext n; exact congrFun h1 _
    · funext n; exact congrFun h2 _
    · funext k n; exact congrFun h3 _
    · funext n; exact congrFun h4 _
    · funext k n; exact congrFun h5 _
    · funext k n; exact congrFun h6 _
    · funext n; exact congrFun h7 _
    · funext n; exact congrFun h8 _
    · funext n; exact congrFun h9 _
    · funext k n; exact congrFun h10 _
    · funext k n; exact congrFun h11 _
    · funext k n; exact congrFun h12 _
  refine ⟨fun c => (Cert.Kernel2Ideal.Gen.dats m 0 c).arrAt 13 Cert.Kernel2Ideal.cfg0.N, fun c => (Cert.Kernel2Ideal.Gen.dats m 0 c).arrAt 14 Cert.Kernel2Ideal.cfg0.N,
    fun c => (Cert.Kernel2Ideal.Gen.dats m 0 c).arrAt 15 Cert.Kernel2Ideal.cfg0.N, fun c => (Cert.Kernel2Ideal.Gen.dats m 0 c).arrAt 16 Cert.Kernel2Ideal.cfg0.N,
    fun c => (Cert.Kernel2Ideal.Gen.dats m 0 c).arrAt 17 Cert.Kernel2Ideal.cfg0.N, fun c => (Cert.Kernel2Ideal.Gen.dats m 0 c).arrAt 18 Cert.Kernel2Ideal.cfg0.N,
    Cert.Kernel2Ideal.Value.run_blocks m ρ, ?_⟩
  refine (θ_run Cert.Reference2Ideal.defs _ _).mono (fun _ h c => ?_) (Cert.Reference2Ideal.Value.run m' ρ')
  obtain ⟨e0, e1, e2, e3, e4, e5, hk⟩ := h c
  exact ⟨e0.trans (Rows.same (a := Rows.Post.vX1 m' c) Rows.Post.Tok.x1 (Rows.Post.vX1_at m' c) (Rows.Post.arr13 m c) (ht c)),
    e1.trans (Rows.same (a := Rows.Post.vKvc m' c) Rows.Post.Tok.kvc (Rows.Post.vKvc_at m' c) (Rows.Post.arr14 m c) (ht c)),
    e2.trans (Rows.same (a := Rows.Post.vKvr m' c) Rows.Post.Tok.kvr (Rows.Post.vKvr_at m' c) (Rows.Post.arr15 m c) (ht c)),
    e3.trans (Rows.same (a := Rows.Post.vQ m' c) Rows.Post.Tok.q (Rows.Post.vQ_at m' c) (Rows.Post.arr16 m c) (ht c)),
    e4.trans (Rows.same (a := Rows.Post.vZ m' c) Rows.Post.Tok.z (Rows.Post.vZ_at m' c) (Rows.Post.arr17 m c) (ht c)),
    e5.trans (Rows.same (a := Rows.Post.vGates m' c) Rows.Post.Tok.gates (Rows.Post.vGates_at m' c) (Rows.Post.arr18 m c) (ht c)), hk⟩

/-- The value claim of the last residual and norm. -/
theorem algebraic3 : Cert.algebraic_Kernel3Ideal_Reference3Ideal (hKernel3Ideal := Cert.Kernel3Ideal.Gen.facts)
    (hReference3Ideal := Cert.Reference3Ideal.Gen.facts) := fun m ρ m' ρ' _ hag =>
  ⟨fun c => (Cert.Kernel3Ideal.Gen.dats m 0 c).arrAt 5 Cert.Kernel3Ideal.cfg0.N, Cert.Kernel3Ideal.Value.run_blocks m ρ,
    (θ_run Cert.Reference3Ideal.defs _ _).mono (fun _ h c => ⟨(h c).1.trans (Rows.Final.both m m' c (by
      obtain ⟨h0, h1, h2, h3, h4⟩ := hag c
      unfold Rows.Final.wantR Rows.Final.want
      congr 1
      · funext B t n; exact congrFun h0 _
      · funext B t n; exact congrFun h1 _
      · funext B n; exact congrFun h2 _
      · funext k n; exact congrFun h3 _
      · funext n; exact congrFun h4 _)), (h c).2⟩) (Cert.Reference3Ideal.Value.run m' ρ')⟩

theorem frame_r4 : Cert.quiescent_Reference4Ideal (hReference4Ideal := Cert.Reference4Ideal.Gen.facts) := fun m ρ _ =>
  (θ_run Cert.Reference4Ideal.defs _ _).mono (fun r h => ⟨fun c => (h c).2.2.2.2.2, Idealize.ShloMosaic.sem_eq_zero_of_no_sems (by decide) r.2⟩)
    (Cert.Reference4Ideal.Value.run m ρ)

/-- The value claim of the projections, the convolution and the norms before the recurrence. -/
theorem algebraic4 : Cert.algebraic_Kernel4Ideal_Reference4Ideal (hKernel4Ideal := Cert.Kernel4Ideal.Gen.facts)
    (hReference4Ideal := Cert.Reference4Ideal.Gen.facts) := fun m ρ m' ρ' _ hag => by
  have hs (c : Dev Cert.Kernel4Ideal.nD) : Rows.InProj.seqR m' c = Rows.InProj.seq m c := by
    obtain ⟨h0, h1, h2, h3, h4, h5, h6, h7⟩ := hag c
    funext B
    unfold Rows.InProj.seqR Rows.InProj.seq
    congr 1
    · funext T n; exact congrFun h0 _
    · funext n; exact congrFun h1 _
    · funext n; exact congrFun h2 _
    · funext n; exact congrFun h3 _
    · funext k n; exact congrFun h4 _
    · funext k n; exact congrFun h5 _
    · funext k n; exact congrFun h6 _
    · funext k n; exact congrFun h7 _
  have ht (c : Dev Cert.Kernel4Ideal.nD) : (fun B (T : Fin 4096) => (Rows.InProj.seqR m' c B, T)) = fun B T => (Rows.InProj.seq m c B, T) := by rw [hs c]
  refine ⟨fun c => (Cert.Kernel4Ideal.Gen.dats m 0 c).arrAt 8 Cert.Kernel4Ideal.cfg0.N, fun c => (Cert.Kernel4Ideal.Gen.dats m 0 c).arrAt 9 Cert.Kernel4Ideal.cfg0.N,
    fun c => (Cert.Kernel4Ideal.Gen.dats m 0 c).arrAt 10 Cert.Kernel4Ideal.cfg0.N, fun c => (Cert.Kernel4Ideal.Gen.dats m 0 c).arrAt 11 Cert.Kernel4Ideal.cfg0.N,
    fun c => (Cert.Kernel4Ideal.Gen.dats m 0 c).arrAt 12 Cert.Kernel4Ideal.cfg0.N, Cert.Kernel4Ideal.Value.run_blocks m ρ, ?_⟩
  refine (θ_run Cert.Reference4Ideal.defs _ _).mono (fun _ h c => ?_) (Cert.Reference4Ideal.Value.run m' ρ')
  obtain ⟨e0, e1, e2, e3, e4, hk⟩ := h c
  exact ⟨e0.trans (Rows.InProj.same_heads (a := Rows.InProj.vQ m' c) Rows.InProj.Seq.q (Rows.InProj.vQ_at m' c) (Rows.InProj.arr8 m c) (hs c)),
    e1.trans (Rows.InProj.same_heads (a := Rows.InProj.vK m' c) Rows.InProj.Seq.k (Rows.InProj.vK_at m' c) (Rows.InProj.arr9 m c) (hs c)),
    e2.trans (Rows.same (a := Rows.InProj.vV m' c) (fun p => p.1.v p.2) (Rows.InProj.vV_at m' c) (Rows.InProj.arr10 m c) (ht c)),
    e3.trans (Rows.same (a := Rows.InProj.vZ m' c) (fun p => p.1.z p.2) (Rows.InProj.vZ_at m' c) (Rows.InProj.arr11 m c) (ht c)),
    e4.trans (Rows.same (a := Rows.InProj.vBa m' c) (fun p => p.1.ba p.2) (Rows.InProj.vBa_at m' c) (Rows.InProj.arr12 m c) (ht c)), hk⟩

theorem frame_r5 : Cert.quiescent_Reference5Ideal (hReference5Ideal := Cert.Reference5Ideal.Gen.facts) := fun m ρ _ =>
  (θ_run Cert.Reference5Ideal.defs _ _).mono (fun r h => ⟨fun c => (h c).2, Idealize.ShloMosaic.sem_eq_zero_of_no_sems (by decide) r.2⟩)
    (Cert.Reference5Ideal.Value.run m ρ)

/-- The value claim of the compression of the keys and the values. -/
theorem algebraic5 : Cert.algebraic_Kernel5Ideal_Reference5Ideal (hKernel5Ideal := Cert.Kernel5Ideal.Gen.facts)
    (hReference5Ideal := Cert.Reference5Ideal.Gen.facts) := fun m ρ m' ρ' _ hag =>
  ⟨fun c => (Cert.Kernel5Ideal.Gen.dats m 0 c).arrAt 5 Cert.Kernel5Ideal.cfg0.N, Cert.Kernel5Ideal.Value.run_blocks m ρ,
    (θ_run Cert.Reference5Ideal.defs _ _).mono (fun _ h c => ⟨(h c).1.trans (Rows.Compress.both m m' c (by
      obtain ⟨h0, h1, h2, h3⟩ := hag c
      unfold Rows.Compress.wantR Rows.Compress.want
      congr 1
      · funext B t n; exact congrFun h0 _
      · funext i r e; exact congrFun h1 _
      · funext i k n; exact congrFun h2 _
      · funext i n d; exact congrFun h3 _)), (h c).2⟩) (Cert.Reference5Ideal.Value.run m' ρ')⟩

theorem frame_r6 : Cert.quiescent_Reference6Ideal (hReference6Ideal := Cert.Reference6Ideal.Gen.facts) := fun m ρ _ =>
  (θ_run Cert.Reference6Ideal.defs _ _).mono (fun r h => ⟨fun c => (h c).2, Idealize.ShloMosaic.sem_eq_zero_of_no_sems (by decide) r.2⟩)
    (Cert.Reference6Ideal.Value.run m ρ)

/-- The value claim of the modulation's vectors. -/
theorem algebraic6 : Cert.algebraic_Kernel6Ideal_Reference6Ideal (hKernel6Ideal := Cert.Kernel6Ideal.Gen.facts)
    (hReference6Ideal := Cert.Reference6Ideal.Gen.facts) := fun m ρ m' ρ' _ hag =>
  ⟨fun c => (Cert.Kernel6Ideal.Gen.dats m 0 c).arrAt 3 Cert.Kernel6Ideal.cfg0.N, Cert.Kernel6Ideal.Value.run_blocks m ρ,
    (θ_run Cert.Reference6Ideal.defs _ _).mono (fun _ h c => ⟨(h c).1.trans (Rows.Ada.both m m' c (by
      obtain ⟨h0, h1, h2⟩ := hag c
      unfold Rows.Ada.wantR Rows.Ada.want
      congr 1
      · funext B k; exact congrFun h0 _
      · funext l k n; exact congrFun h1 _
      · funext l n; exact congrFun h2 _)), (h c).2⟩) (Cert.Reference6Ideal.Value.run m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Gdn.Pre.facts,
  fun m ρ _ => Cert.Kernel.Gen.frame m ρ, fun m ρ _ => Cert.KernelIdeal.Gen.frame m ρ, fun m ρ _ => Cert.KernelIdeal.Gen.frame m ρ,
  fun m ρ _ => frame_r m ρ, fun m ρ _ => frame_r m ρ,
  fun m ρ _ => Cert.Kernel2.Gen.frame m ρ, fun m ρ _ => Cert.Kernel2Ideal.Gen.frame m ρ, frame_r2,
  fun m ρ _ => Cert.Kernel3.Gen.frame m ρ, fun m ρ _ => Cert.Kernel3Ideal.Gen.frame m ρ, frame_r3,
  fun m ρ _ => Cert.Kernel4.Gen.frame m ρ, fun m ρ _ => Cert.Kernel4Ideal.Gen.frame m ρ, frame_r4,
  fun m ρ _ => Cert.Kernel5.Gen.frame m ρ, fun m ρ _ => Cert.Kernel5Ideal.Gen.frame m ρ, frame_r5,
  fun m ρ _ => Cert.Kernel6.Gen.frame m ρ, fun m ρ _ => Cert.Kernel6Ideal.Gen.frame m ρ, frame_r6,
  trivial, algebraic1, trivial, algebraic2, trivial, algebraic3, trivial, algebraic4, trivial, algebraic5,
  trivial, algebraic6⟩

end Cert.Proof

end
